-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1280x14336 : Shape := ⟨3, ![1, 1280, 14336]⟩
abbrev S16 : Shape := ⟨1, ![16]⟩
abbrev S1x14336x1280 : Shape := ⟨3, ![1, 14336, 1280]⟩
abbrev S1280x14336 : Shape := ⟨2, ![1280, 14336]⟩
abbrev S14336x1280 : Shape := ⟨2, ![14336, 1280]⟩
abbrev S80x14336 : Shape := ⟨2, ![80, 14336]⟩
abbrev S14336x640 : Shape := ⟨2, ![14336, 640]⟩
abbrev S1x1 : Shape := ⟨2, ![1, 1]⟩
abbrev S256x1280 : Shape := ⟨2, ![256, 1280]⟩
abbrev S80x256 : Shape := ⟨2, ![80, 256]⟩
abbrev S256x640 : Shape := ⟨2, ![256, 640]⟩
abbrev S56x1280x256 : Shape := ⟨3, ![56, 1280, 256]⟩
abbrev S56x80x256 : Shape := ⟨3, ![56, 80, 256]⟩
abbrev S16x256 : Shape := ⟨2, ![16, 256]⟩
abbrev S8x128 : Shape := ⟨2, ![8, 128]⟩
abbrev S256x256 : Shape := ⟨2, ![256, 256]⟩
abbrev S128x256 : Shape := ⟨2, ![128, 256]⟩
abbrev S640x512 : Shape := ⟨2, ![640, 512]⟩
abbrev S56 : Shape := ⟨1, ![56]⟩
abbrev S1 : Shape := ⟨1, ![1]⟩
abbrev S_ : Shape := ⟨0, ![]⟩
abbrev S1x1280x256 : Shape := ⟨3, ![1, 1280, 256]⟩
abbrev S1280x256 : Shape := ⟨2, ![1280, 256]⟩
abbrev S1x256x256 : Shape := ⟨3, ![1, 256, 256]⟩
abbrev S16x16x256 : Shape := ⟨3, ![16, 16, 256]⟩
abbrev S1x16x256 : Shape := ⟨3, ![1, 16, 256]⟩
abbrev S1x1x1 : Shape := ⟨3, ![1, 1, 1]⟩
abbrev S1x80x256 : Shape := ⟨3, ![1, 80, 256]⟩
abbrev S16x1x256 : Shape := ⟨3, ![16, 1, 256]⟩
abbrev S16x8x256 : Shape := ⟨3, ![16, 8, 256]⟩
abbrev S128x128 : Shape := ⟨2, ![128, 128]⟩
abbrev S640x256 : Shape := ⟨2, ![640, 256]⟩
abbrev S128x640 : Shape := ⟨2, ![128, 640]⟩
abbrev S32x640 : Shape := ⟨2, ![32, 640]⟩
abbrev S14336x80 : Shape := ⟨2, ![14336, 80]⟩
abbrev S1x14336x80 : Shape := ⟨3, ![1, 14336, 80]⟩
abbrev S1x14336x640 : Shape := ⟨3, ![1, 14336, 640]⟩

abbrev nBuf : Space → Nat
  | .hbm => 15
  | .vmem => 18
  | .smem => 1
  | _ => 0

abbrev bufTy : (tb : Table) → Fin (tcTables nBuf tb) → BufTy
  | .hbm, ⟨0, _⟩ => ⟨S1x1280x14336, .bf16⟩
  | .hbm, ⟨1, _⟩ => ⟨S16, .f32⟩
  | .hbm, ⟨2, _⟩ => ⟨S1x14336x1280, .i8⟩
  | .hbm, ⟨3, _⟩ => ⟨S1280x14336, .bf16⟩
  | .hbm, ⟨4, _⟩ => ⟨S14336x1280, .i8⟩
  | .hbm, ⟨5, _⟩ => ⟨S80x14336, .f32⟩
  | .hbm, ⟨6, _⟩ => ⟨S14336x640, .i8⟩
  | .hbm, ⟨7, _⟩ => ⟨S80x14336, .fp8e4m3⟩
  | .hbm, ⟨8, _⟩ => ⟨S1x1, .f32⟩
  | .hbm, ⟨9, _⟩ => ⟨S14336x80, .f32⟩
  | .hbm, ⟨10, _⟩ => ⟨S1x14336x80, .f32⟩
  | .hbm, ⟨11, _⟩ => ⟨S1x14336x640, .i8⟩
  | .hbm, ⟨12, _⟩ => ⟨S14336x80, .fp8e4m3⟩
  | .hbm, ⟨13, _⟩ => ⟨S1x14336x80, .fp8e4m3⟩
  | .hbm, ⟨14, _⟩ => ⟨S_, .f32⟩
  | .local _ .vmem, ⟨0, _⟩ => ⟨S256x1280, .i8⟩
  | .local _ .vmem, ⟨1, _⟩ => ⟨S256x1280, .i8⟩
  | .local _ .vmem, ⟨2, _⟩ => ⟨S80x256, .f32⟩
  | .local _ .vmem, ⟨3, _⟩ => ⟨S80x256, .f32⟩
  | .local _ .vmem, ⟨4, _⟩ => ⟨S256x640, .i8⟩
  | .local _ .vmem, ⟨5, _⟩ => ⟨S256x640, .i8⟩
  | .local _ .vmem, ⟨6, _⟩ => ⟨S80x256, .fp8e4m3⟩
  | .local _ .vmem, ⟨7, _⟩ => ⟨S80x256, .fp8e4m3⟩
  | .local _ .vmem, ⟨8, _⟩ => ⟨S1x1, .f32⟩
  | .local _ .vmem, ⟨9, _⟩ => ⟨S56x1280x256, .bf16⟩
  | .local _ .vmem, ⟨10, _⟩ => ⟨S56x80x256, .f32⟩
  | .local _ .vmem, ⟨11, _⟩ => ⟨S16x256, .f32⟩
  | .local _ .vmem, ⟨12, _⟩ => ⟨S8x128, .f32⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | .local _ .vmem, ⟨16, _⟩ => ⟨S128x256, .fp8e4m3⟩
  | .local _ .vmem, ⟨17, _⟩ => ⟨S640x512, .i8⟩
  | .local _ .smem, ⟨0, _⟩ => ⟨S16, .f32⟩
  | _, _ => ⟨S1x1280x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![2, 56], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_8 : BitVec 32 := 0#32
  let c56_i32 : BitVec 32 := 56#32
  let v16 : BitVec 32 := Scalar.addi c0_i32_8 c56_i32
  let c1_i32_9 : BitVec 32 := 1#32
  ⟨c0_i32_8, v16, c1_i32_9⟩
def k0_mult1 (k0_t1 : Fin k0_t1_loop.trips) : BitVec 32 :=
  let c0_i32_8 : BitVec 32 := 0#32
  let c1_i32_9 : BitVec 32 := 1#32
  let arg19 : BitVec 32 := Scf.iv c0_i32_8 c1_i32_9 k0_t1
  let c256_i32 : BitVec 32 := 256#32
  let v495 : BitVec 32 := Scalar.muli arg19 c256_i32
  v495
def k0_off1 (k0_t1 : Fin k0_t1_loop.trips) : Fin 1 → Nat :=
  let c0_i32_8 : BitVec 32 := 0#32
  let c1_i32_9 : BitVec 32 := 1#32
  let arg19 : BitVec 32 := Scf.iv c0_i32_8 c1_i32_9 k0_t1
  ![arg19.toNat]
def k0_off2 (k0_t1 : Fin k0_t1_loop.trips) : Fin 3 → Nat :=
  let c0_i32_8 : BitVec 32 := 0#32
  let c1_i32_9 : BitVec 32 := 1#32
  let arg19 : BitVec 32 := Scf.iv c0_i32_8 c1_i32_9 k0_t1
  let c0_i32_149 : BitVec 32 := 0#32
  let c0_i32_150 : BitVec 32 := 0#32
  ![arg19.toNat, 0, 0]
def k0_off3 (k0_t1 : Fin k0_t1_loop.trips) : Fin 2 → Nat :=
  let c0_i32_151 : BitVec 32 := 0#32
  let c0_i32_8 : BitVec 32 := 0#32
  let c1_i32_9 : BitVec 32 := 1#32
  let arg19 : BitVec 32 := Scf.iv c0_i32_8 c1_i32_9 k0_t1
  let c256_i32 : BitVec 32 := 256#32
  let v495 : BitVec 32 := Scalar.muli arg19 c256_i32
  let v496 : BitVec 32 := v495
  ![0, v496.toNat]
def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg1 : BitVec 32 := BitVec.ofNat 32 (i 1).val
  let c256_i32 : BitVec 32 := 256#32
  let v16 : BitVec 32 := Scalar.muli arg1 c256_i32
  v16
def k0_off4 (i : grid0.Coords) : Fin 1 → Nat :=
  let arg1 : BitVec 32 := BitVec.ofNat 32 (i 1).val
  ![arg1.toNat]
def k0_off5 (i : grid0.Coords) : Fin 3 → Nat :=
  let arg1 : BitVec 32 := BitVec.ofNat 32 (i 1).val
  let c0_i32_8 : BitVec 32 := 0#32
  let c0_i32_9 : BitVec 32 := 0#32
  ![arg1.toNat, 0, 0]
def k0_off6 (i : grid0.Coords) : Fin 2 → Nat :=
  let c0_i32_10 : BitVec 32 := 0#32
  let arg1 : BitVec 32 := BitVec.ofNat 32 (i 1).val
  let c256_i32 : BitVec 32 := 256#32
  let v16 : BitVec 32 := Scalar.muli arg1 c256_i32
  let v17 : BitVec 32 := v16
  ![0, v17.toNat]
def k0_off7 (i : grid0.Coords) : Fin 3 → Nat :=
  let arg1 : BitVec 32 := BitVec.ofNat 32 (i 1).val
  let v24 : Index := Scalar.indexCast arg1
  let c0_12 : Index := 0#32
  let c0_13 : Index := 0#32
  ![v24.toNat, 0, 0]
def k0_off8 (i : grid0.Coords) : Fin 3 → Nat :=
  let arg1 : BitVec 32 := BitVec.ofNat 32 (i 1).val
  let v33 : Index := Scalar.indexCast arg1
  let c0_19 : Index := 0#32
  let c0_20 : Index := 0#32
  ![v33.toNat, 0, 0]
def k0_off9 (i : grid0.Coords) : Fin 3 → Nat :=
  let arg1 : BitVec 32 := BitVec.ofNat 32 (i 1).val
  let v38 : Index := Scalar.indexCast arg1
  let c256 : Index := 256#32
  let c0_21 : Index := 0#32
  ![v38.toNat, 256, 0]
def k0_off10 (i : grid0.Coords) : Fin 3 → Nat :=
  let arg1 : BitVec 32 := BitVec.ofNat 32 (i 1).val
  let v47 : Index := Scalar.indexCast arg1
  let c16_27 : Index := 16#32
  let c0_28 : Index := 0#32
  ![v47.toNat, 16, 0]
def k0_off11 (i : grid0.Coords) : Fin 3 → Nat :=
  let arg1 : BitVec 32 := BitVec.ofNat 32 (i 1).val
  let v52 : Index := Scalar.indexCast arg1
  let c512 : Index := 512#32
  let c0_29 : Index := 0#32
  ![v52.toNat, 512, 0]
def k0_off12 (i : grid0.Coords) : Fin 3 → Nat :=
  let arg1 : BitVec 32 := BitVec.ofNat 32 (i 1).val
  let v61 : Index := Scalar.indexCast arg1
  let c32_35 : Index := 32#32
  let c0_36 : Index := 0#32
  ![v61.toNat, 32, 0]
def k0_off13 (i : grid0.Coords) : Fin 3 → Nat :=
  let arg1 : BitVec 32 := BitVec.ofNat 32 (i 1).val
  let v66 : Index := Scalar.indexCast arg1
  let c768 : Index := 768#32
  let c0_37 : Index := 0#32
  ![v66.toNat, 768, 0]
def k0_off14 (i : grid0.Coords) : Fin 3 → Nat :=
  let arg1 : BitVec 32 := BitVec.ofNat 32 (i 1).val
  let v75 : Index := Scalar.indexCast arg1
  let c48_43 : Index := 48#32
  let c0_44 : Index := 0#32
  ![v75.toNat, 48, 0]
def k0_off15 (i : grid0.Coords) : Fin 3 → Nat :=
  let arg1 : BitVec 32 := BitVec.ofNat 32 (i 1).val
  let v80 : Index := Scalar.indexCast arg1
  let c1024 : Index := 1024#32
  let c0_45 : Index := 0#32
  ![v80.toNat, 1024, 0]
def k0_off16 (i : grid0.Coords) : Fin 3 → Nat :=
  let arg1 : BitVec 32 := BitVec.ofNat 32 (i 1).val
  let v89 : Index := Scalar.indexCast arg1
  let c64_51 : Index := 64#32
  let c0_52 : Index := 0#32
  ![v89.toNat, 64, 0]
def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_off17 (i : grid0.Coords) : Fin 3 → Nat :=
  let arg1 : BitVec 32 := BitVec.ofNat 32 (i 1).val
  let v17 : Index := Scalar.indexCast arg1
  let c0_9 : Index := 0#32
  let c0_10 : Index := 0#32
  ![v17.toNat, 0, 0]
def k0_off18 (i : grid0.Coords) : Fin 3 → Nat :=
  let arg1 : BitVec 32 := BitVec.ofNat 32 (i 1).val
  let v39 : Index := Scalar.indexCast arg1
  let c0_18 : Index := 0#32
  let c0_19 : Index := 0#32
  ![v39.toNat, 0, 0]
def k0_off19 (i : grid0.Coords) : Fin 3 → Nat :=
  let arg1 : BitVec 32 := BitVec.ofNat 32 (i 1).val
  let v164 : Index := Scalar.indexCast arg1
  let c256_63 : Index := 256#32
  let c0_64 : Index := 0#32
  ![v164.toNat, 256, 0]
def k0_off20 (i : grid0.Coords) : Fin 3 → Nat :=
  let arg1 : BitVec 32 := BitVec.ofNat 32 (i 1).val
  let v289 : Index := Scalar.indexCast arg1
  let c512 : Index := 512#32
  let c0_118 : Index := 0#32
  ![v289.toNat, 512, 0]
def k0_off21 (i : grid0.Coords) : Fin 3 → Nat :=
  let arg1 : BitVec 32 := BitVec.ofNat 32 (i 1).val
  let v414 : Index := Scalar.indexCast arg1
  let c768 : Index := 768#32
  let c0_172 : Index := 0#32
  ![v414.toNat, 768, 0]
def k0_off22 (i : grid0.Coords) : Fin 3 → Nat :=
  let arg1 : BitVec 32 := BitVec.ofNat 32 (i 1).val
  let v539 : Index := Scalar.indexCast arg1
  let c1024 : Index := 1024#32
  let c0_226 : Index := 0#32
  ![v539.toNat, 1024, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c0_i32_4 : BitVec 32 := 0#32
  let v9 : BitVec 1 := Scalar.cmpi .eq arg1 c0_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c55_i32 : BitVec 32 := 55#32
  let v0 : BitVec 32 := Scalar.subi c55_i32 arg1
  let v1 : BitVec 32 := Scalar.muli arg0 v0
  let v2 : BitVec 32 := Scalar.addi arg1 v1
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1280 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S80x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x640 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S80x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S1x1280x14336 : Shape := ⟨3, ![1, 1280, 14336]⟩
abbrev S16 : Shape := ⟨1, ![16]⟩
abbrev S1x14336x1280 : Shape := ⟨3, ![1, 14336, 1280]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S80x16x14336 : Shape := ⟨3, ![80, 16, 14336]⟩
abbrev S80x14336x16 : Shape := ⟨3, ![80, 14336, 16]⟩
abbrev S14336x80x16 : Shape := ⟨3, ![14336, 80, 16]⟩
abbrev S80x1x14336 : Shape := ⟨3, ![80, 1, 14336]⟩
abbrev S1x1x1 : Shape := ⟨3, ![1, 1, 1]⟩
abbrev S1x80x16x14336 : Shape := ⟨4, ![1, 80, 16, 14336]⟩
abbrev S1 : Shape := ⟨1, ![1]⟩
abbrev S1x1x1x1 : Shape := ⟨4, ![1, 1, 1, 1]⟩
abbrev S80x14336 : Shape := ⟨2, ![80, 14336]⟩
abbrev S80x8x2x14336 : Shape := ⟨4, ![80, 8, 2, 14336]⟩
abbrev S80x8x1x14336 : Shape := ⟨4, ![80, 8, 1, 14336]⟩
abbrev S80x8x14336 : Shape := ⟨3, ![80, 8, 14336]⟩
abbrev S14336x80x8 : Shape := ⟨3, ![14336, 80, 8]⟩
abbrev S1x14336x640 : Shape := ⟨3, ![1, 14336, 640]⟩
abbrev S1x80x14336 : Shape := ⟨3, ![1, 80, 14336]⟩
abbrev S1x14336x80 : Shape := ⟨3, ![1, 14336, 80]⟩

abbrev nBuf : Space → Nat
  | .hbm => 79
  | .vmem => 6
  | .smem => 0
  | _ => 0

abbrev bufTy : (tb : Table) → Fin (tcTables nBuf tb) → BufTy
  | .hbm, ⟨0, _⟩ => ⟨S1x1280x14336, .bf16⟩
  | .hbm, ⟨1, _⟩ => ⟨S16, .f32⟩
  | .hbm, ⟨2, _⟩ => ⟨S1x14336x1280, .i8⟩
  | .hbm, ⟨3, _⟩ => ⟨S16, .i32⟩
  | .hbm, ⟨4, _⟩ => ⟨S16x1, .i32⟩
  | .hbm, ⟨5, _⟩ => ⟨S16, .i32⟩
  | .hbm, ⟨6, _⟩ => ⟨S1x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S_, .i32⟩
  | .hbm, ⟨17, _⟩ => ⟨S16x16, .i32⟩
  | .hbm, ⟨18, _⟩ => ⟨S16x16, .i32⟩
  | .hbm, ⟨19, _⟩ => ⟨S16x16, .i32⟩
  | .hbm, ⟨20, _⟩ => ⟨S_, .i32⟩
  | .hbm, ⟨21, _⟩ => ⟨S16x16, .i32⟩
  | .hbm, ⟨22, _⟩ => ⟨S16x16, .i32⟩
  | .hbm, ⟨23, _⟩ => ⟨S_, .i32⟩
  | .hbm, ⟨24, _⟩ => ⟨S16x16, .i32⟩
  | .hbm, ⟨25, _⟩ => ⟨S16x16, .i32⟩
  | .hbm, ⟨26, _⟩ => ⟨S16x16, .i32⟩
  | .hbm, ⟨27, _⟩ => ⟨S_, .i32⟩
  | .hbm, ⟨28, _⟩ => ⟨S16x16, .i32⟩
  | .hbm, ⟨29, _⟩ => ⟨S16x16, .i32⟩
  | .hbm, ⟨30, _⟩ => ⟨S_, .i32⟩
  | .hbm, ⟨31, _⟩ => ⟨S16x16, .i32⟩
  | .hbm, ⟨32, _⟩ => ⟨S16x16, .i32⟩
  | .hbm, ⟨33, _⟩ => ⟨S16x16, .i32⟩
  | .hbm, ⟨34, _⟩ => ⟨S_, .i32⟩
  | .hbm, ⟨35, _⟩ => ⟨S16x16, .i32⟩
  | .hbm, ⟨36, _⟩ => ⟨S16x16, .i32⟩
  | .hbm, ⟨37, _⟩ => ⟨S16x16, .f32⟩
  | .hbm, ⟨38, _⟩ => ⟨S_, .f32⟩
  | .hbm, ⟨39, _⟩ => ⟨S16x16, .f32⟩
  | .hbm, ⟨40, _⟩ => ⟨S16x16, .f32⟩
  | .hbm, ⟨41, _⟩ => ⟨S_, .f32⟩
  | .hbm, ⟨42, _⟩ => ⟨S16x16, .f32⟩
  | .hbm, ⟨43, _⟩ => ⟨S16x16, .f32⟩
  | .hbm, ⟨44, _⟩ => ⟨S_, .f32⟩
  | .hbm, ⟨45, _⟩ => ⟨S16x16, .f32⟩
  | .hbm, ⟨46, _⟩ => ⟨S16x16, .f32⟩
  | .hbm, ⟨47, _⟩ => ⟨S1x16, .f32⟩
  | .hbm, ⟨48, _⟩ => ⟨S16x16, .f32⟩
  | .hbm, ⟨49, _⟩ => ⟨S16x16, .f32⟩
  | .hbm, ⟨50, _⟩ => ⟨S16x16, .bf16⟩
  | .hbm, ⟨51, _⟩ => ⟨S80x16x14336, .bf16⟩
  | .hbm, ⟨52, _⟩ => ⟨S80x14336x16, .f32⟩
  | .hbm, ⟨53, _⟩ => ⟨S80x16x14336, .f32⟩
  | .hbm, ⟨54, _⟩ => ⟨S14336x80x16, .i8⟩
  | .hbm, ⟨55, _⟩ => ⟨S80x16x14336, .i8⟩
  | .hbm, ⟨56, _⟩ => ⟨S80x16x14336, .i32⟩
  | .hbm, ⟨57, _⟩ => ⟨S80x16x14336, .f32⟩
  | .hbm, ⟨58, _⟩ => ⟨S80x1x14336, .f32⟩
  | .hbm, ⟨59, _⟩ => ⟨S80x16x14336, .i32⟩
  | .hbm, ⟨60, _⟩ => ⟨S80x1x14336, .fp8e4m3⟩
  | .hbm, ⟨61, _⟩ => ⟨S1x1x1, .f32⟩
  | .hbm, ⟨62, _⟩ => ⟨S80x8x2x14336, .i32⟩
  | .hbm, ⟨63, _⟩ => ⟨S80x8x1x14336, .i32⟩
  | .hbm, ⟨64, _⟩ => ⟨S80x8x14336, .i32⟩
  | .hbm, ⟨65, _⟩ => ⟨S80x8x1x14336, .i32⟩
  | .hbm, ⟨66, _⟩ => ⟨S80x8x14336, .i32⟩
  | .hbm, ⟨67, _⟩ => ⟨S_, .i32⟩
  | .hbm, ⟨68, _⟩ => ⟨S80x8x14336, .i32⟩
  | .hbm, ⟨69, _⟩ => ⟨S80x8x14336, .i32⟩
  | .hbm, ⟨70, _⟩ => ⟨S80x8x14336, .i32⟩
  | .hbm, ⟨71, _⟩ => ⟨S14336x80x8, .i32⟩
  | .hbm, ⟨72, _⟩ => ⟨S1x14336x640, .i32⟩
  | .hbm, ⟨73, _⟩ => ⟨S1x14336x640, .i8⟩
  | .hbm, ⟨74, _⟩ => ⟨S1x80x14336, .fp8e4m3⟩
  | .hbm, ⟨75, _⟩ => ⟨S1x14336x80, .fp8e4m3⟩
  | .hbm, ⟨76, _⟩ => ⟨S1x80x14336, .f32⟩
  | .hbm, ⟨77, _⟩ => ⟨S1x14336x80, .f32⟩
  | .hbm, ⟨78, _⟩ => ⟨S_, .f32⟩
  | .local _ .vmem, ⟨0, _⟩ => ⟨S80x16x14336, .f32⟩
  | .local _ .vmem, ⟨1, _⟩ => ⟨S80x16x14336, .f32⟩
  | .local _ .vmem, ⟨2, _⟩ => ⟨S80x1x14336, .f32⟩
  | .local _ .vmem, ⟨3, _⟩ => ⟨S80x16x14336, .i32⟩
  | .local _ .vmem, ⟨4, _⟩ => ⟨S80x1x14336, .fp8e4m3⟩
  | .local _ .vmem, ⟨5, _⟩ => ⟨S1x1x1, .f32⟩
  | _, _ => ⟨S1x1280x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v44_2 : Ref sig .tc := ⟨.hbm, 60, rfl⟩
abbrev main_v44_3 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S80x16x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x16x14336 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x16x14336 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x1x14336 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Base.lean ====
/-
  Hand-written, untrusted. The kernel's transfers: chunk `b` of the tokens left in HBM, slot `b` of the chunk buffer and
  slot `b`'s own DMA cell, under canonical names, and what the core holds of a chunk before its transfer is issued, while
  it is in flight and after it has landed.
-/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameSuffixV
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

abbrev 𝒱₀ : Variants := Variants.none

/-! ## Canonical names -/

abbrev xM : Memref sig .tc .hbm S1280x14336 .bf16 := Memref.whole main_v0
abbrev bufM : Memref sig .tc .vmem S56x1280x256 .bf16 := Memref.whole cc0_scratch0

abbrev semOff (s : Fin 56) : Fin 1 → Nat := ![s.val]
theorem semOff_inb (s : Fin 56) : ∀ a, semOff s a + S1.size a ≤ S56.size a := by
  have := s.isLt; intro a; fin_cases a; show s.val + 1 ≤ 56; omega
abbrev slotOff (s : Fin 56) : Fin 3 → Nat := ![s.val, 0, 0]
theorem slotOff_inb (s : Fin 56) : ∀ a, slotOff s a + S1x1280x256.size a ≤ S56x1280x256.size a := by
  have := s.isLt; intro a; fin_cases a
  · show s.val + 1 ≤ 56; omega
  · show 0 + 1280 ≤ 1280; omega
  · show 0 + 256 ≤ 256; omega
abbrev grpOff (b : Fin 56) : Fin 2 → Nat := ![0, 256 * b.val]
theorem grpOff_inb (b : Fin 56) : ∀ a, grpOff b a + S1280x256.size a ≤ S1280x14336.size a := by
  have := b.isLt; intro a; fin_cases a
  · show 0 + 1280 ≤ 1280; omega
  · show 256 * b.val + 256 ≤ 14336; omega

/-- Slot `s`'s DMA cell. -/
def csm (s : Fin 56) : DmaSems sig S_ := (cc0_scratch9.slice (Rect.unit (s := S56) (semOff s) S1.size (semOff_inb s))).squeeze S_ squeezes_S1_S_
/-- Slot `s` of the chunk buffer, as the body slices and squeezes it. -/
def rslot (s : Fin 56) : Memref sig .tc .vmem S1280x256 .bf16 :=
  (bufM.slice (Rect.unit (s := S56x1280x256) (slotOff s) S1x1280x256.size (slotOff_inb s)) (fun _ => rfl)).squeeze S1280x256 squeezes_S1x1280x256_S1280x256
/-- Chunk `b` of the tokens, as the body slices it. -/
def grp (b : Fin 56) : Memref sig .tc .hbm S1280x256 .bf16 :=
  xM.slice (Rect.unit (s := S1280x14336) (grpOff b) S1280x256.size (grpOff_inb b)) (fun _ => rfl)

instance (s : Fin 56) : ClosedOff (slotOff s) := ⟨slotOff s, rfl⟩
instance (b : Fin 56) : ClosedOff (grpOff b) := ⟨grpOff b, rfl⟩

theorem csm_congr {off : Fin 1 → Nat} {s : Fin 56} (e : off = semOff s) (hh) :
    (cc0_scratch9.slice (Rect.unit (s := S56) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 56} (e : off = slotOff s) (hh hs) :
    (bufM.slice (Rect.unit (s := S56x1280x256) off S1x1280x256.size hh) hs).squeeze S1280x256 squeezes_S1x1280x256_S1280x256 = rslot s :=
  congrArg (fun M : Memref sig .tc .vmem S1x1280x256 .bf16 => M.squeeze S1280x256 squeezes_S1x1280x256_S1280x256) (Memref.slice_unit_congr _ e _ _ _ _)
theorem grp_congr {off : Fin 2 → Nat} {b : Fin 56} (e : off = grpOff b) (hh hs) :
    xM.slice (Rect.unit (s := S1280x14336) off S1280x256.size hh) hs = grp b :=
  Memref.slice_unit_congr _ e _ _ _ (fun _ => rfl)

theorem trips_eq : k0_t1_loop.trips = 56 := by decide +kernel
/-- Trip `k`'s chunk. -/
def kb (k : Fin k0_t1_loop.trips) : Fin 56 := ⟨k.val, Nat.lt_of_lt_of_eq k.isLt trips_eq⟩

/-- The issuing loop's trip `k` names cell, slot and chunk `k`. -/
@[sl_canon] theorem semK (k : Fin k0_t1_loop.trips) (hh) :
    (cc0_scratch9.slice (Rect.unit (s := S56) (k0_off1 k) S1.size hh)).squeeze S_ squeezes_S1_S_ = csm (kb k) := csm_congr (k0_off1_eq k) _
@[sl_canon] theorem slotK (k : Fin k0_t1_loop.trips) (hh hs) :
    (bufM.slice (Rect.unit (s := S56x1280x256) (k0_off2 k) S1x1280x256.size hh) hs).squeeze S1280x256 squeezes_S1x1280x256_S1280x256 = rslot (kb k) := rslot_congr (k0_off2_eq k) _ _
@[sl_canon] theorem grpK (k : Fin k0_t1_loop.trips) (hh hs) :
    xM.slice (Rect.unit (s := S1280x14336) (k0_off3 k) S1280x256.size hh) hs = grp (kb k) := grp_congr (k0_off3_eq k) _ _

/-- Sweep 0's point `j` waits on cell, slot and chunk `j`. -/
def ij (i : grid0.Coords) : Fin 56 := i 1
@[sl_canon] theorem semI (i : grid0.Coords) (hh) :
    (cc0_scratch9.slice (Rect.unit (s := S56) (k0_off4 i) S1.size hh)).squeeze S_ squeezes_S1_S_ = csm (ij i) := csm_congr (k0_off4_eq i) _
@[sl_canon] theorem slotI (i : grid0.Coords) (hh hs) :
    (bufM.slice (Rect.unit (s := S56x1280x256) (k0_off5 i) S1x1280x256.size hh) hs).squeeze S1280x256 squeezes_S1x1280x256_S1280x256 = rslot (ij i) := rslot_congr (k0_off5_eq i) _ _
@[sl_canon] theorem grpI (i : grid0.Coords) (hh hs) :
    xM.slice (Rect.unit (s := S1280x14336) (k0_off6 i) S1280x256.size hh) hs = grp (ij i) := grp_congr (k0_off6_eq i) _ _

/-! ## The pieces -/

section Pieces
variable (c : Dev nD) (XA : Buf (Elt F) (xM.view.loc (c : Thread nD τ)))

abbrev cellP (s : Fin 56) : sProp 𝕄 := semVal ((c : Thread nD τ), SemLoc.dma (csm s).sem) 0
abbrev slotP (s : Fin 56) (f : Buf (Elt F) ((rslot s).view.loc (c : Thread nD τ))) : sProp 𝕄 :=
  (rslot s).view.loc (c : Thread nD τ) ↦[(rslot s).view.set]{fullShare} f
/-- Chunk `b` home: held on its elements at the tokens' contents. -/
abbrev homeP (b : Fin 56) : sProp 𝕄 := (grp b).view.loc (c : Thread nD τ) ↦[(grp b).view.set]{fullShare} XA
/-- Chunk `b`'s words as slot `b`'s payload. -/
abbrev payload (b : Fin 56) : S1280x256.Idx → Elt F .bf16 := ReadAs.same.apply ((grp b).view.read (Elt F) XA)
/-- What chunk `b`'s transfer leaves in slot `b` over prior contents `f`. -/
abbrev landed (b : Fin 56) (f : Buf (Elt F) ((rslot b).view.loc (c : Thread nD τ))) : Buf (Elt F) ((rslot b).view.loc (c : Thread nD τ)) :=
  (rslot b).view.writes (Elt F) f [⟨Rect.whole S1280x256, payload c XA b⟩]
/-- A chunk's transfer moves this many units on its cell. -/
abbrev NN : ℕ := 20480
/-- Chunk `b` in flight, issued over `f`. -/
abbrev flightP (b : Fin 56) (f : Buf (Elt F) ((rslot b).view.loc (c : Thread nD τ))) : sProp 𝕄 :=
  Transfers.Flight countersEmb (c : Thread nD τ) (SemLoc.dma (csm b).sem) () NN iprop(slotP c b (landed c XA b f) ∗ homeP c XA b)
/-- Chunk `b` before its transfer: its slot at anything, its home, its cell at zero. -/
def freeP (b : Fin 56) : sProp 𝕄 := iprop((∃ f, slotP c b f) ∗ homeP c XA b ∗ cellP c b)
/-- Chunk `b` after it has landed: its slot holding it, its home, its cell at zero. -/
def heldP (b : Fin 56) : sProp 𝕄 := iprop(slotP c b (landed c XA b (rslot b).view.junk) ∗ homeP c XA b ∗ cellP c b)
/-- Chunk `b` in flight over some contents. -/
def flyP (b : Fin 56) : sProp 𝕄 := iprop(∃ f, flightP c XA b f)

/-- The chunks before trip `k` of the issuing loop. -/
def issuing (k : ℕ) (b : Fin 56) : sProp 𝕄 := if b.val < k then flyP c XA b else freeP c XA b
/-- The chunks before point `p` of sweep 0, the loop past. -/
def landing (p : ℕ) (b : Fin 56) : sProp 𝕄 := if b.val < p then heldP c XA b else flyP c XA b

end Pieces

section Trip

variable (c : Dev nD) (XA : Buf (Elt F) (xM.view.loc (c : Thread nD τ)))
  (i : grid0.Coords) (arg2 : Memref sig .tc .smem S16 .f32) (harg2 : arg2.IsWhole)
  (arg4 : Memref sig .tc .vmem S256x1280 .i8) (harg4 : arg4.IsWhole) (arg5 : Memref sig .tc .vmem S80x256 .f32) (harg5 : arg5.IsWhole)
  (arg6 : Memref sig .tc .vmem S256x640 .i8) (harg6 : arg6.IsWhole) (arg7 : Memref sig .tc .vmem S80x256 .fp8e4m3) (harg7 : arg7.IsWhole)
  (arg8 : Memref sig .tc .vmem S1x1 .f32) (harg8 : arg8.IsWhole)

/-- One chunk's member apart from the others'. -/
theorem bigSep_out (b : Fin 56) (P : Fin 56 → sProp 𝕄) :
    bigSep Finset.univ P = iprop(P b ∗ bigSep (Finset.univ.erase b) P) := bigSep_erase (Finset.mem_univ b)

/-- Replacing one member of a separating product over the chunks. -/
theorem bigSep_swap {P Q : Fin 56 → sProp 𝕄} (b : Fin 56) (h : ∀ b', b' ≠ b → P b' = Q b') :
    bigSep (Finset.univ.erase b) P = bigSep (Finset.univ.erase b) Q :=
  bigSep_congr fun b' hb => h b' (Finset.ne_of_mem_erase hb)

set_option warn.classDefReducibility false in
/-- The issuing loop: before trip `k` the chunks below `k` are in flight, the others are free. -/
@[sl_loop] def loopInv (k0_h1 : k0_cond1 i = 1#1) :
    LoopInvTy_k0_t1 (F := F) Unit ℕ (Pipeline.UD sig nD τ) ℕ 𝒱₀ c none Set.univ i arg2 harg2 xM (Memref.isWhole_whole _) arg4 harg4 arg5 harg5 arg6 harg6 arg7 harg7 arg8 harg8
      bufM (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h1 where
  inv k _ := bigSep Finset.univ (issuing c XA k)
  step k _ := by
    have hk : (kb k).val = k.val := rfl
    have e1 : issuing c XA k.val (kb k) = freeP c XA (kb k) := if_neg (by omega)
    have e2 : issuing c XA (k.val + 1) (kb k) = flyP c XA (kb k) := if_pos (by omega)
    have e3 : ∀ b', b' ≠ kb k → issuing c XA k.val b' = issuing c XA (k.val + 1) b' := by
      intro b' hb
      have hne : b'.val ≠ k.val := fun h => hb (Fin.ext h)
      unfold issuing
      by_cases h : b'.val < k.val
      · rw [if_pos h, if_pos (by omega)]
      · rw [if_neg h, if_neg (by omega)]
    rw [bigSep_out (kb k) (issuing c XA k.val), bigSep_out (kb k) (issuing c XA (k.val + 1)), e1, e2, bigSep_swap (kb k) e3]
    unfold freeP flyP
    iintro ⟨⟨⟨%f, Hs⟩, Hh, Hc⟩, Hr⟩
    sl_unfold [k0_t1_body]
    sl_exec
    sl_step
    isplitr [Hr]; swap; · iexact Hr
    iexists f
    iexact Hc

end Trip

end Cert.Kernel.Hand

end
-- ==== Proof.Kernel.Blocks.lean ====
/-
  Hand-written, untrusted. The kernel body as its four conditional regions, each a program of its own: `blk1` (the first
  point: transfers issued, matrices and the running maximum prepared), `blk2` (sweep 0: one chunk's maxima), `blk3` (sweep
  1's first point: the tensor scale), `blk4` (sweep 1: one chunk quantised).
-/
module

public import proofs.«01_k».proof.Proof.Kernel.Base

@[expose] public section

noncomputable section

namespace Cert.Kernel.Hand

open Cert.Kernel Cert.Kernel.Gen
open Idealize.ShloMosaic Idealize.ShloMosaic.TcCoe
open Idealize.SL Idealize.SL.Sem

variable {F : FTy → Type} [FloatOps F]

/-- The first point's preparation. -/
def blk1 (i : grid0.Coords) (arg2 : Memref sig .tc .smem S16 .f32) (harg2 : arg2.IsWhole) (arg3 : Memref sig .tc .hbm S1280x14336 .bf16) (harg3 : arg3.IsWhole) (arg4 : Memref sig .tc .vmem S256x1280 .i8) (harg4 : arg4.IsWhole) (arg5 : Memref sig .tc .vmem S80x256 .f32) (harg5 : arg5.IsWhole) (arg6 : Memref sig .tc .vmem S256x640 .i8) (harg6 : arg6.IsWhole) (arg7 : Memref sig .tc .vmem S80x256 .fp8e4m3) (harg7 : arg7.IsWhole) (arg8 : Memref sig .tc .vmem S1x1 .f32) (harg8 : arg8.IsWhole) (arg9 : Memref sig .tc .vmem S56x1280x256 .bf16) (harg9 : arg9.IsWhole) (arg10 : Memref sig .tc .vmem S56x80x256 .f32) (harg10 : arg10.IsWhole) (arg11 : Memref sig .tc .vmem S16x256 .f32) (harg11 : arg11.IsWhole) (arg12 : Memref sig .tc .vmem S8x128 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S128x256 .fp8e4m3) (harg16 : arg16.IsWhole) (arg17 : Memref sig .tc .vmem S640x512 .i8) (harg17 : arg17.IsWhole) (arg18 : DmaSems sig S56) (k0_h1 : k0_cond1 i = 1#1) :
    Prog (TpuEff nD τ sig (Elt F) Λ₀ .tc) PUnit := do
  let arg1 : BitVec 32 := BitVec.ofNat 32 (i 1).val
  let ⟨v18, v36, v38, v57⟩ : Σ' (v18 : IVec S256x256 32) (v36 : IVec S256x256 32) (v38 : IVec S256x256 32), IVec S256x256 1 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1
  let ⟨v61, v63, v99, c7_i32⟩ : Σ' (v61 : IVec S256x256 32) (v63 : IVec S256x256 32) (v99 : FVec F S256x256 .f32), BitVec 32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v18 v36 v38 v57
  let ⟨v139, v141, v142⟩ : Σ' (v139 : FVec F S256x256 .f32) (v141 : IVec S256x256 1), Elt F .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v63 v99 c7_i32
  let ⟨v144, v161, v185, c16_i32_40, v187, c0_i32_41⟩ : Σ' (v144 : FVec F S256x256 .f32) (v161 : FVec F S256x256 .f32) (v185 : IVec S256x256 32) (c16_i32_40 : BitVec 32) (v187 : IVec S256x256 32), BitVec 32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v18 v61 v63 v139 v141 v142
  let ⟨v220, v221, v223, v225, v227, v229, v231⟩ : Σ' (v220 : IVec S256x256 32) (v221 : IVec S256x256 32) (v223 : BitVec 32) (v225 : IVec S256x256 32) (v227 : IVec S256x256 1) (v229 : IVec S256x256 1), IVec S256x256 1 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v18 v144 v161 v185 c16_i32_40 v187 c0_i32_41
  let ⟨v264, v266, v277⟩ : Σ' (v264 : IVec S256x256 32) (v266 : IVec S256x256 32), FVec F S256x256 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v220 v221 v223 v225 v227 v229 v231
  let ⟨v317, v319⟩ : Σ' (v317 : FVec F S256x256 .f32), IVec S256x256 1 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v266 v277
  let ⟨v347, v362, v363⟩ : Σ' (v347 : FVec F S256x256 .f32) (v362 : FVec F S256x256 .f32), FVec F S256x256 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v264 v266 v317 v319
  let ⟨v364, v388, v390, v409, c1_i32_117⟩ : Σ' (v364 : FVec F S256x256 .f32) (v388 : IVec S256x256 32) (v390 : IVec S256x256 32) (v409 : IVec S256x256 1), BitVec 32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v221 v264 v362 v363
  let ⟨v423, v424, v442, c128_i32_129, v444, v451, v453⟩ : Σ' (v423 : IVec S256x256 32) (v424 : IVec S256x256 32) (v442 : IVec S256x256 32) (c128_i32_129 : BitVec 32) (v444 : IVec S256x256 32) (v451 : IVec S256x256 32), BitVec 32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v347 v364 v388 v390 v409 c1_i32_117
  k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v423 v424 v442 c128_i32_129 v444 v451 v453
  pure ⟨⟩

/-- Sweep 0 at one chunk. -/
def blk2 (i : grid0.Coords) (arg2 : Memref sig .tc .smem S16 .f32) (harg2 : arg2.IsWhole) (arg3 : Memref sig .tc .hbm S1280x14336 .bf16) (harg3 : arg3.IsWhole) (arg4 : Memref sig .tc .vmem S256x1280 .i8) (harg4 : arg4.IsWhole) (arg5 : Memref sig .tc .vmem S80x256 .f32) (harg5 : arg5.IsWhole) (arg6 : Memref sig .tc .vmem S256x640 .i8) (harg6 : arg6.IsWhole) (arg7 : Memref sig .tc .vmem S80x256 .fp8e4m3) (harg7 : arg7.IsWhole) (arg8 : Memref sig .tc .vmem S1x1 .f32) (harg8 : arg8.IsWhole) (arg9 : Memref sig .tc .vmem S56x1280x256 .bf16) (harg9 : arg9.IsWhole) (arg10 : Memref sig .tc .vmem S56x80x256 .f32) (harg10 : arg10.IsWhole) (arg11 : Memref sig .tc .vmem S16x256 .f32) (harg11 : arg11.IsWhole) (arg12 : Memref sig .tc .vmem S8x128 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S128x256 .fp8e4m3) (harg16 : arg16.IsWhole) (arg17 : Memref sig .tc .vmem S640x512 .i8) (harg17 : arg17.IsWhole) (arg18 : DmaSems sig S56) (k0_h2 : k0_cond2 i = 1#1) :
    Prog (TpuEff nD τ sig (Elt F) Λ₀ .tc) PUnit := do
  let arg1 : BitVec 32 := BitVec.ofNat 32 (i 1).val
  let ⟨v37, v45⟩ : Σ' (v37 : FVec F S16x256 .f32), FVec F S16x256 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h2
  let v79 : FVec F S16x256 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h2 v37 v45
  let v81 : Vec F S1x256x256 .bf16 ← Prog.lift (.load arg9 (Rect.unit (s := S56x1280x256) (k0_off15 i) S1x256x256.size (k0_off15_inb i k0_h2)).toLoadRect (View.loadsAt_vmem h_S1x256x256))
  let v83 : Vec F S256x256 .bf16 ← Prog.lift (.load arg13 (Rect.unit (s := S256x256) ![0, 0] S256x256.size inb_S256x256_S256x256_0_0).toLoadRect (View.loadsAt_vmem h_S256x256))
  let v88 : Vec F S16x256 .f32 ← Prog.lift (.load arg5 (Rect.unit (s := S80x256) ![64, 0] S16x256.size inb_S80x256_S16x256_64_0).toLoadRect (View.loadsAt_vmem h_S16x256))
  Prog.lift (.store arg5 (Rect.unit (s := S80x256) ![64, 0] S16x256.size inb_S80x256_S16x256_64_0) (k0_pay1 v81 v83) Finset.univ (View.stores_vmem_bits_univ h_S16x256 rfl) (.inl rfl))
  let v90 : Vec F S1x16x256 .f32 ← Prog.lift (.load arg10 (Rect.unit (s := S56x80x256) (k0_off16 i) S1x16x256.size (k0_off16_inb i k0_h2)).toLoadRect (View.loadsAt_vmem h_S1x16x256))
  Prog.lift (.store arg10 (Rect.unit (s := S56x80x256) (k0_off16 i) S1x16x256.size (k0_off16_inb i k0_h2)) (k0_pay2 v81 v83) Finset.univ (View.stores_vmem_bits_univ h_S1x16x256 rfl) (.inl rfl))
  let v94 : Vec F S16x256 .f32 ← Prog.lift (.load arg11 (Rect.unit (s := S16x256) ![0, 0] S16x256.size inb_S16x256_S16x256_0_0).toLoadRect (View.loadsAt_vmem h_S16x256))
  Prog.lift (.store arg11 (Rect.unit (s := S16x256) ![0, 0] S16x256.size inb_S16x256_S16x256_0_0) (k0_pay3 v79 v81 v83) Finset.univ (View.stores_vmem_bits_univ h_S16x256 rfl) (.inl rfl))
  pure ⟨⟩

/-- The tensor scale, at sweep 1's first point. -/
def blk3 (i : grid0.Coords) (arg2 : Memref sig .tc .smem S16 .f32) (harg2 : arg2.IsWhole) (arg3 : Memref sig .tc .hbm S1280x14336 .bf16) (harg3 : arg3.IsWhole) (arg4 : Memref sig .tc .vmem S256x1280 .i8) (harg4 : arg4.IsWhole) (arg5 : Memref sig .tc .vmem S80x256 .f32) (harg5 : arg5.IsWhole) (arg6 : Memref sig .tc .vmem S256x640 .i8) (harg6 : arg6.IsWhole) (arg7 : Memref sig .tc .vmem S80x256 .fp8e4m3) (harg7 : arg7.IsWhole) (arg8 : Memref sig .tc .vmem S1x1 .f32) (harg8 : arg8.IsWhole) (arg9 : Memref sig .tc .vmem S56x1280x256 .bf16) (harg9 : arg9.IsWhole) (arg10 : Memref sig .tc .vmem S56x80x256 .f32) (harg10 : arg10.IsWhole) (arg11 : Memref sig .tc .vmem S16x256 .f32) (harg11 : arg11.IsWhole) (arg12 : Memref sig .tc .vmem S8x128 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S128x256 .fp8e4m3) (harg16 : arg16.IsWhole) (arg17 : Memref sig .tc .vmem S640x512 .i8) (harg17 : arg17.IsWhole) (arg18 : DmaSems sig S56) (k0_h3 : k0_cond3 i = 1#1) :
    Prog (TpuEff nD τ sig (Elt F) Λ₀ .tc) PUnit := do
  let arg1 : BitVec 32 := BitVec.ofNat 32 (i 1).val
  let v16 : Vec F S16x256 .f32 ← Prog.lift (.load arg11 (Rect.unit (s := S16x256) ![0, 0] S16x256.size inb_S16x256_S16x256_0_0).toLoadRect (View.loadsAt_vmem h_S16x256))
  let v30 : Vec F S8x128 .f32 ← Prog.lift (.load arg12 (Rect.unit (s := S8x128) ![0, 0] S8x128.size inb_S8x128_S8x128_0_0).toLoadRect (View.loadsAt_vmem h_S8x128))
  Prog.lift (.store arg12 (Rect.unit (s := S8x128) ![0, 0] S8x128.size inb_S8x128_S8x128_0_0) (k0_pay5 v16) Finset.univ (View.stores_vmem_bits_univ h_S8x128 rfl) (.inl rfl))
  let v33 : Vec F S1x1 .f32 ← Prog.lift (.load arg8 (Rect.unit (s := S1x1) ![0, 0] S1x1.size inb_S1x1_S1x1_0_0).toLoadRect (View.loadsAt_vmem h_S1x1))
  Prog.lift (.store arg8 (Rect.unit (s := S1x1) ![0, 0] S1x1.size inb_S1x1_S1x1_0_0) (k0_pay4 v16) Finset.univ (View.stores_vmem_bits_univ h_S1x1 rfl) (.inl rfl))
  pure ⟨⟩

/-- Sweep 1 at one chunk. -/
def blk4 (i : grid0.Coords) (arg2 : Memref sig .tc .smem S16 .f32) (harg2 : arg2.IsWhole) (arg3 : Memref sig .tc .hbm S1280x14336 .bf16) (harg3 : arg3.IsWhole) (arg4 : Memref sig .tc .vmem S256x1280 .i8) (harg4 : arg4.IsWhole) (arg5 : Memref sig .tc .vmem S80x256 .f32) (harg5 : arg5.IsWhole) (arg6 : Memref sig .tc .vmem S256x640 .i8) (harg6 : arg6.IsWhole) (arg7 : Memref sig .tc .vmem S80x256 .fp8e4m3) (harg7 : arg7.IsWhole) (arg8 : Memref sig .tc .vmem S1x1 .f32) (harg8 : arg8.IsWhole) (arg9 : Memref sig .tc .vmem S56x1280x256 .bf16) (harg9 : arg9.IsWhole) (arg10 : Memref sig .tc .vmem S56x80x256 .f32) (harg10 : arg10.IsWhole) (arg11 : Memref sig .tc .vmem S16x256 .f32) (harg11 : arg11.IsWhole) (arg12 : Memref sig .tc .vmem S8x128 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S128x256 .fp8e4m3) (harg16 : arg16.IsWhole) (arg17 : Memref sig .tc .vmem S640x512 .i8) (harg17 : arg17.IsWhole) (arg18 : DmaSems sig S56) (k0_h4 : k0_cond4 i = 1#1) :
    Prog (TpuEff nD τ sig (Elt F) Λ₀ .tc) PUnit := do
  let arg1 : BitVec 32 := BitVec.ofNat 32 (i 1).val
  let ⟨v38, v43, v50, v51⟩ : Σ' (v38 : FVec F S80x256 .f32) (v43 : FVec F S256x256 .f32) (v50 : FVec F S256x256 .f32), FVec F S16x256 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h4
  let ⟨v55, v57, v94, v95⟩ : Σ' (v55 : FVec F S128x256 .f32) (v57 : FVec F S128x256 .f32) (v94 : IVec S128x256 32), FVec F S128x256 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v43 v50 v51
  let ⟨v111, v117, v123, v130, v135⟩ : Σ' (v111 : FVec F S128x256 .f32) (v117 : FVec F S128x256 .f32) (v123 : IVec S128x256 1) (v130 : FVec F S128x256 .f32), IVec S128x256 32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v43 v55 v57 v94 v95
  let ⟨v168, v173⟩ : Σ' (v168 : FVec F S256x256 .f32), FVec F S256x256 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h4 v50 v111 v117 v123 v130 v135
  let ⟨v175, v180, v182, v217, c22_i32_88⟩ : Σ' (v175 : FVec F S256x256 .f32) (v180 : FVec F S128x256 .f32) (v182 : FVec F S128x256 .f32) (v217 : IVec S128x256 32), BitVec 32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v38 v168 v173
  let ⟨v236, v242, v244, v246, v248, v255, v256, v257⟩ : Σ' (v236 : FVec F S128x256 .f32) (v242 : FVec F S128x256 .f32) (v244 : IVec S128x256 1) (v246 : IVec S128x256 1) (v248 : IVec S128x256 1) (v255 : FVec F S128x256 .f32) (v256 : IVec S128x256 32), IVec S128x256 32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v168 v180 v182 v217 c22_i32_88
  let ⟨v293, v296⟩ : Σ' (v293 : FVec F S256x256 .f32), FVec F S256x256 .bf16 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h4 v175 v236 v242 v244 v246 v248 v255 v256 v257
  let ⟨v300, v305, v307, v337, v339, c1249902592_i32_141⟩ : Σ' (v300 : FVec F S256x256 .f32) (v305 : FVec F S128x256 .f32) (v307 : FVec F S128x256 .f32) (v337 : IVec S128x256 32) (v339 : IVec S128x256 32), BitVec 32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v38 v293 v296
  let ⟨v361, v367, v369, v371, v373, v380⟩ : Σ' (v361 : FVec F S128x256 .f32) (v367 : FVec F S128x256 .f32) (v369 : IVec S128x256 1) (v371 : IVec S128x256 1) (v373 : IVec S128x256 1), FVec F S128x256 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v293 v305 v307 v337 v339 c1249902592_i32_141
  let v418 : FVec F S256x256 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h4 v300 v361 v367 v369 v371 v373 v380
  let ⟨v425, v430, v432, v458, v461⟩ : Σ' (v425 : FVec F S256x256 .f32) (v430 : FVec F S128x256 .f32) (v432 : FVec F S128x256 .f32) (v458 : IVec S128x256 32), IVec S128x256 32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v38 v418
  let ⟨v486, v492, v494, v496, v498, v501, v502⟩ : Σ' (v486 : FVec F S128x256 .f32) (v492 : FVec F S128x256 .f32) (v494 : IVec S128x256 1) (v496 : IVec S128x256 1) (v498 : IVec S128x256 1) (v501 : FVec F S128x256 .f32), FVec F S128x256 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v418 v425 v430 v432 v458 v461
  let ⟨v541, v542⟩ : Σ' (v541 : FVec F S256x256 .bf16), Vec F S256x256 .bf16 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h4 v425 v486 v492 v494 v496 v498 v501 v502
  let ⟨v543, v550, v555, v557, v563, v569, v576, v581, v582⟩ : Σ' (v543 : FVec F S256x256 .f32) (v550 : FVec F S256x256 .f32) (v555 : FVec F S128x256 .f32) (v557 : FVec F S128x256 .f32) (v563 : FVec F S128x256 .f32) (v569 : IVec S128x256 1) (v576 : FVec F S128x256 .f32) (v581 : IVec S128x256 32), IVec S128x256 32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v38 v541 v542
  let ⟨v611, v617, v619, v621, v623, cst_264, v624⟩ : Σ' (v611 : FVec F S128x256 .f32) (v617 : FVec F S128x256 .f32) (v619 : IVec S128x256 1) (v621 : IVec S128x256 1) (v623 : IVec S128x256 1) (cst_264 : F .f32), FVec F S128x256 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v543 v550 v555 v557 v563 v569 v576 v581 v582
  let v665 : FVec F S640x256 .fp8e4m3 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v550 v611 v617 v619 v621 v623 cst_264 v624
  let ⟨v702, c2004318071_i32_301⟩ : Σ' (v702 : IVec S32x640 32), BitVec 32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v665
  let v711 : Vec F S128x640 .i8 ← Prog.lift (.load arg6 (Rect.unit (s := S256x640) ![128, 0] S128x640.size inb_S256x640_S128x640_128_0).toLoadRect (View.loadsAt_vmem h_S128x640))
  Prog.lift (.store arg6 (Rect.unit (s := S256x640) ![128, 0] S128x640.size inb_S256x640_S128x640_128_0) (k0_pay6 v702 c2004318071_i32_301) Finset.univ (View.stores_vmem h_S128x640 (harg6.storeExact_slice rfl _ packedi8_S256x640_S128x640_128_0) (fun _ => rfl)) (.inl rfl))
  pure ⟨⟩

omit [FloatOps F] in
/-- A first step taken out of a region. -/
theorem step_out {α β γ : Type} (p : Prog (TpuEff nD τ sig (Elt F) Λ₀ .tc) α) {f : α → Prog (TpuEff nD τ sig (Elt F) Λ₀ .tc) γ}
    {g : α → Prog (TpuEff nD τ sig (Elt F) Λ₀ .tc) β} {k : β → Prog (TpuEff nD τ sig (Elt F) Λ₀ .tc) γ}
    (h : ∀ x, f x = g x >>= k) : p >>= f = (p >>= g) >>= k := by
  rw [bind_assoc]; exact congrArg _ (funext h)

omit [FloatOps F] in
/-- A conditional region followed by a continuation. -/
theorem ite_then {c : Prop} {_ : Decidable c} (A : c → Prog (TpuEff nD τ sig (Elt F) Λ₀ .tc) PUnit)
    {B : c → Prog (TpuEff nD τ sig (Elt F) Λ₀ .tc) PUnit} {r : Prog (TpuEff nD τ sig (Elt F) Λ₀ .tc) PUnit}
    {J : PUnit → Prog (TpuEff nD τ sig (Elt F) Λ₀ .tc) PUnit} (hA : ∀ h, A h = B h >>= fun _ => r) (hJ : r = J ⟨⟩) :
    (if h : c then A h else r) = (if h : c then B h else pure ⟨⟩) >>= J := by
  have e : J = fun _ => r := funext fun ⟨⟩ => hJ.symm
  rw [e]
  by_cases h : c
  · rw [dif_pos h, dif_pos h, hA]
  · rw [dif_neg h, dif_neg h, pure_bind]

set_option maxRecDepth 65536 in
set_option maxHeartbeats 2000000 in
/-- The body is its four regions under their conditions. -/
theorem skel_blocks (i : grid0.Coords) (arg2 : Memref sig .tc .smem S16 .f32) (harg2 : arg2.IsWhole) (arg3 : Memref sig .tc .hbm S1280x14336 .bf16) (harg3 : arg3.IsWhole) (arg4 : Memref sig .tc .vmem S256x1280 .i8) (harg4 : arg4.IsWhole) (arg5 : Memref sig .tc .vmem S80x256 .f32) (harg5 : arg5.IsWhole) (arg6 : Memref sig .tc .vmem S256x640 .i8) (harg6 : arg6.IsWhole) (arg7 : Memref sig .tc .vmem S80x256 .fp8e4m3) (harg7 : arg7.IsWhole) (arg8 : Memref sig .tc .vmem S1x1 .f32) (harg8 : arg8.IsWhole) (arg9 : Memref sig .tc .vmem S56x1280x256 .bf16) (harg9 : arg9.IsWhole) (arg10 : Memref sig .tc .vmem S56x80x256 .f32) (harg10 : arg10.IsWhole) (arg11 : Memref sig .tc .vmem S16x256 .f32) (harg11 : arg11.IsWhole) (arg12 : Memref sig .tc .vmem S8x128 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S128x256 .fp8e4m3) (harg16 : arg16.IsWhole) (arg17 : Memref sig .tc .vmem S640x512 .i8) (harg17 : arg17.IsWhole) (arg18 : DmaSems sig S56) :
    cc0_nvfp4_rht_sr (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 =
      ((if k0_h1 : k0_cond1 i = 1#1 then blk1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 else pure ⟨⟩) >>= fun _ =>
      ((if k0_h2 : k0_cond2 i = 1#1 then blk2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h2 else pure ⟨⟩) >>= fun _ =>
      ((if k0_h3 : k0_cond3 i = 1#1 then blk3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h3 else pure ⟨⟩) >>= fun _ =>
      (if k0_h4 : k0_cond4 i = 1#1 then blk4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h4 else pure ⟨⟩)))) := by
  rw [cc0_nvfp4_rht_sr_eq_skeleton]
  unfold cc0_nvfp4_rht_sr_skel
  dsimp only
  refine ite_then (F := F) _ (fun h => ?_) ?_
  · unfold blk1
    repeat refine step_out _ fun x => ?_
    rfl
  refine ite_then (F := F) _ (fun h => ?_) ?_
  · unfold blk2
    repeat refine step_out _ fun x => ?_
    rfl
  refine ite_then (F := F) _ (fun h => ?_) ?_
  · unfold blk3
    repeat refine step_out _ fun x => ?_
    rfl
  by_cases h : k0_cond4 i = 1#1
  · rw [dif_pos h, dif_pos h, ← bind_pure (blk4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h)]
    unfold blk4
    repeat refine step_out _ fun x => ?_
    rfl
  · rw [dif_neg h, dif_neg h]

end Cert.Kernel.Hand

end
-- ==== Proof.Kernel.Sweep0.lean ====
/-
  Hand-written, untrusted. Sweep 0 at one chunk: the wait, the five slabs' block maxima, the running maximum.
-/
module

public import proofs.«01_k».proof.Proof.Kernel.Blocks

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Sweep0
variable (c : Dev nD) (XA : Buf (Elt F) (xM.view.loc (c : Thread nD τ))) (i : grid0.Coords) (arg2 : Memref sig .tc .smem S16 .f32) (harg2 : arg2.IsWhole)
  (arg4 : Memref sig .tc .vmem S256x1280 .i8) (harg4 : arg4.IsWhole) (arg5 : Memref sig .tc .vmem S80x256 .f32) (harg5 : arg5.IsWhole)
  (arg6 : Memref sig .tc .vmem S256x640 .i8) (harg6 : arg6.IsWhole) (arg7 : Memref sig .tc .vmem S80x256 .fp8e4m3) (harg7 : arg7.IsWhole)
  (arg8 : Memref sig .tc .vmem S1x1 .f32) (harg8 : arg8.IsWhole)

/-- The chunks before point `p`, chunk `b` of them apart. -/
abbrev PT {sp : _} {s : Shape} {e : _} (c : Dev nD) (M : Memref sig .tc sp s e) (f : Buf (Elt F) (M.view.loc (c : Thread nD τ))) : sProp 𝕄 :=
  M.view.loc (c : Thread nD τ) ↦{fullShare} f

omit [FloatOps F] in
theorem rslot_set (b : Fin 56) : (rslot b : Memref sig .tc .vmem _ _).view.set = (Rect.unit (s := S56x1280x256) (slotOff b) S1x1280x256.size (slotOff_inb b)).set :=
  (View.set_reshape _ _).trans (View.set_slice_whole _ _)

omit [FloatOps F] in
/-- A slab of slot `b` lies in slot `b`. -/
theorem slab_sub (b : Fin 56) (n : ℕ) (hh : ∀ a, (![b.val, n, 0] : Fin 3 → ℕ) a + S1x256x256.size a ≤ S56x1280x256.size a) {off : Fin 3 → ℕ}
    (e : off = ![b.val, n, 0]) (hh') :
    (bufM.access (Rect.unit (s := S56x1280x256) off S1x256x256.size hh')).set ⊆ (rslot b : Memref sig .tc .vmem _ _).view.set := by
  subst e
  rw [rslot_set]
  refine (View.set_slice_whole _ _).subset.trans ?_
  intro y hy
  rw [Rect.mem_set_unit] at hy ⊢
  have h1 : n + 256 ≤ 1280 := hh 1
  intro a
  have := hy a
  fin_cases a
  · exact this
  · have h2 : n ≤ (y 1).val ∧ (y 1).val < n + 256 := hy 1
    show 0 ≤ (y 1).val ∧ (y 1).val < 0 + 1280; omega
  · exact this

set_option maxHeartbeats 4000000 in
def blk2Run (k0_h2 : k0_cond2 i = 1#1) (f10 : Buf (Elt F) ((Memref.whole cc0_scratch1).view.loc (c : Thread nD τ)))
    (f11 : Buf (Elt F) ((Memref.whole cc0_scratch2).view.loc (c : Thread nD τ)))
    (f13 : Buf (Elt F) ((Memref.whole cc0_scratch4).view.loc (c : Thread nD τ))) :
    { R : Buf (Elt F) (arg5.view.loc (c : Thread nD τ)) × Buf (Elt F) ((Memref.whole cc0_scratch1).view.loc (c : Thread nD τ)) × Buf (Elt F) ((Memref.whole cc0_scratch2).view.loc (c : Thread nD τ)) //
      ∀ g5 (Q : PUnit → sProp 𝕄),
        iprop((flyP c XA (ij i) ∗ PT c arg5 g5 ∗ PT c (Memref.whole cc0_scratch1) f10 ∗ PT c (Memref.whole cc0_scratch2) f11 ∗ PT c (Memref.whole cc0_scratch4) f13
            ∗ ∃ W, owes (c : Thread nD τ) 0 W)
          ∗ ((heldP c XA (ij i) ∗ PT c arg5 R.1 ∗ PT c (Memref.whole cc0_scratch1) R.2.1 ∗ PT c (Memref.whole cc0_scratch2) R.2.2 ∗ PT c (Memref.whole cc0_scratch4) f13
            ∗ ∃ W, owes (c : Thread nD τ) 0 W) -∗ Q ⟨⟩))
          ⊢ wp frame (wpE (defs₀ (F := F)) 𝒱₀ (c : Thread nD τ) none) Set.univ (blk2 i arg2 harg2 xM (Memref.isWhole_whole _) arg4 harg4 arg5 harg5 arg6 harg6 arg7 harg7 arg8 harg8 bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h2) Q } := by
  refine ⟨(?_, ?_, ?_), fun g5 Q => ?run⟩
  case run =>
    dsimp only
    unfold flyP PT
    iintro ⟨⟨⟨%f0, HF⟩, H5, H10, H11, H13, ⟨%W, HW⟩⟩, Hk⟩
    unfold blk2
    have hs0 := slab_sub (ij i) 0 (k0_off7_eq i ▸ k0_off7_inb i k0_h2) (k0_off7_eq i) (k0_off7_inb i k0_h2)
    have hs1 := slab_sub (ij i) 256 (k0_off9_eq i ▸ k0_off9_inb i k0_h2) (k0_off9_eq i) (k0_off9_inb i k0_h2)
    have hs2 := slab_sub (ij i) 512 (k0_off11_eq i ▸ k0_off11_inb i k0_h2) (k0_off11_eq i) (k0_off11_inb i k0_h2)
    have hs3 := slab_sub (ij i) 768 (k0_off13_eq i ▸ k0_off13_inb i k0_h2) (k0_off13_eq i) (k0_off13_inb i k0_h2)
    have hs4 := slab_sub (ij i) 1024 (k0_off15_eq i ▸ k0_off15_inb i k0_h2) (k0_off15_eq i) (k0_off15_inb i k0_h2)
    sl_exec_parts!
    sl_step
    iapply Hk
    unfold heldP
    isplitl [HF_dst HF_src HF]
    · isplitl [HF_dst]; · iexact HF_dst
      isplitl [HF_src]; · iexact HF_src
      iexact HF
    isplitl [H5]; · iexact H5
    isplitl [H10]; · iexact H10
    isplitl [H11]; · iexact H11
    isplitl [H13]; · iexact H13
    iexists _; iexact HW
end Sweep0

end Cert.Kernel.Hand

end
-- ==== Proof.Kernel.Sweep1.lean ====
/-
  Hand-written, untrusted. Sweep 1: the tensor scale at its first point, one chunk quantised at each.
-/
module

public import proofs.«01_k».proof.Proof.Kernel.Sweep0

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Sweep1
variable (c : Dev nD) (XA : Buf (Elt F) (xM.view.loc (c : Thread nD τ))) (i : grid0.Coords) (arg2 : Memref sig .tc .smem S16 .f32) (harg2 : arg2.IsWhole)
  (arg4 : Memref sig .tc .vmem S256x1280 .i8) (harg4 : arg4.IsWhole) (arg5 : Memref sig .tc .vmem S80x256 .f32) (harg5 : arg5.IsWhole)
  (arg6 : Memref sig .tc .vmem S256x640 .i8) (harg6 : arg6.IsWhole) (arg7 : Memref sig .tc .vmem S80x256 .fp8e4m3) (harg7 : arg7.IsWhole)
  (arg8 : Memref sig .tc .vmem S1x1 .f32) (harg8 : arg8.IsWhole)

set_option maxHeartbeats 4000000 in
/-- The tensor scale's region: what it leaves in the result's block and in the scratch row. -/
def blk3Run (k0_h3 : k0_cond3 i = 1#1) (f11 : Buf (Elt F) ((Memref.whole cc0_scratch2).view.loc (c : Thread nD τ))) :
    { R : Buf (Elt F) (arg8.view.loc (c : Thread nD τ)) × Buf (Elt F) ((Memref.whole cc0_scratch3).view.loc (c : Thread nD τ)) //
      ∀ g8 f12 (Q : PUnit → sProp 𝕄),
        iprop((PT c arg8 g8 ∗ PT c (Memref.whole cc0_scratch2) f11 ∗ PT c (Memref.whole cc0_scratch3) f12)
          ∗ ((PT c arg8 R.1 ∗ PT c (Memref.whole cc0_scratch2) f11 ∗ PT c (Memref.whole cc0_scratch3) R.2) -∗ Q ⟨⟩))
          ⊢ wp frame (wpE (defs₀ (F := F)) 𝒱₀ (c : Thread nD τ) none) Set.univ (blk3 i arg2 harg2 xM (Memref.isWhole_whole _) arg4 harg4 arg5 harg5 arg6 harg6 arg7 harg7 arg8 harg8 bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h3) Q } := by
  refine ⟨(?_, ?_), fun g8 f12 Q => ?run⟩
  case run =>
    dsimp only
    unfold PT
    iintro ⟨⟨H8, H11, H12⟩, Hk⟩
    unfold blk3
    sl_exec_parts!
    sl_step
    iapply Hk
    isplitl [H8]; · iexact H8
    isplitl [H11]; · iexact H11
    iexact H12

set_option maxHeartbeats 8000000 in
/-- A chunk's quantisation: what it leaves in the codes' and in the scales' blocks. -/
def blk4Run (k0_h4 : k0_cond4 i = 1#1) (g4 : Buf (Elt F) (arg4.view.loc (c : Thread nD τ))) (f10 : Buf (Elt F) ((Memref.whole cc0_scratch1).view.loc (c : Thread nD τ))) (f12 : Buf (Elt F) ((Memref.whole cc0_scratch3).view.loc (c : Thread nD τ))) (f14 : Buf (Elt F) ((Memref.whole cc0_scratch5).view.loc (c : Thread nD τ)))
    (f15 : Buf (Elt F) ((Memref.whole cc0_scratch6).view.loc (c : Thread nD τ))) (f16 : Buf (Elt F) ((Memref.whole cc0_scratch7).view.loc (c : Thread nD τ))) :
    { R : Buf (Elt F) (arg6.view.loc (c : Thread nD τ)) × Buf (Elt F) (arg7.view.loc (c : Thread nD τ)) //
      ∀ g6 g7 (Q : PUnit → sProp 𝕄),
        iprop((heldP c XA (ij i) ∗ PT c arg4 g4 ∗ PT c arg6 g6 ∗ PT c arg7 g7 ∗ PT c (Memref.whole cc0_scratch1) f10 ∗ PT c (Memref.whole cc0_scratch3) f12 ∗ PT c (Memref.whole cc0_scratch5) f14
            ∗ PT c (Memref.whole cc0_scratch6) f15 ∗ PT c (Memref.whole cc0_scratch7) f16 ∗ ∃ f17, PT c (Memref.whole cc0_scratch8) f17)
          ∗ ((heldP c XA (ij i) ∗ PT c arg4 g4 ∗ PT c arg6 R.1 ∗ PT c arg7 R.2 ∗ PT c (Memref.whole cc0_scratch1) f10 ∗ PT c (Memref.whole cc0_scratch3) f12 ∗ PT c (Memref.whole cc0_scratch5) f14
            ∗ PT c (Memref.whole cc0_scratch6) f15 ∗ PT c (Memref.whole cc0_scratch7) f16 ∗ ∃ f17, PT c (Memref.whole cc0_scratch8) f17) -∗ Q ⟨⟩))
          ⊢ wp frame (wpE (defs₀ (F := F)) 𝒱₀ (c : Thread nD τ) none) Set.univ (blk4 i arg2 harg2 xM (Memref.isWhole_whole _) arg4 harg4 arg5 harg5 arg6 harg6 arg7 harg7 arg8 harg8 bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h4) Q } := by
  refine ⟨(?_, ?_), fun g6 g7 Q => ?run⟩
  case run =>
    dsimp only
    unfold heldP PT
    iintro ⟨⟨⟨Hs, Hh, Hc⟩, H4, H6, H7, H10, H12, H14, H15, H16, ⟨%f17, H17⟩⟩, Hk⟩
    unfold blk4
    have hs0 := slab_sub (ij i) 0 (k0_off18_eq i ▸ k0_off18_inb i k0_h4) (k0_off18_eq i) (k0_off18_inb i k0_h4)
    have hs1 := slab_sub (ij i) 256 (k0_off19_eq i ▸ k0_off19_inb i k0_h4) (k0_off19_eq i) (k0_off19_inb i k0_h4)
    have hs2 := slab_sub (ij i) 512 (k0_off20_eq i ▸ k0_off20_inb i k0_h4) (k0_off20_eq i) (k0_off20_inb i k0_h4)
    have hs3 := slab_sub (ij i) 768 (k0_off21_eq i ▸ k0_off21_inb i k0_h4) (k0_off21_eq i) (k0_off21_inb i k0_h4)
    have hs4 := slab_sub (ij i) 1024 (k0_off22_eq i ▸ k0_off22_inb i k0_h4) (k0_off22_eq i) (k0_off22_inb i k0_h4)
    sl_exec_parts!
    sl_step
    iapply Hk
    isplitl [Hs Hh Hc]
    · isplitl [Hs]; · iexact Hs
      isplitl [Hh]; · iexact Hh
      iexact Hc
    isplitl [H4]; · iexact H4
    isplitl [H6]; · iexact H6
    isplitl [H7]; · iexact H7
    isplitl [H10]; · iexact H10
    isplitl [H12]; · iexact H12
    isplitl [H14]; · iexact H14
    isplitl [H15]; · iexact H15
    isplitl [H16]; · iexact H16
    iexists _; iexact H17

end Sweep1

end Cert.Kernel.Hand

end
-- ==== Proof.Kernel.Start.lean ====
/-
  Hand-written, untrusted. The first point: every chunk's transfer issued, the matrices and the running maximum prepared.
-/
module

public import proofs.«01_k».proof.Proof.Kernel.Sweep0

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Start
variable (c : Dev nD) (XA : Buf (Elt F) (xM.view.loc (c : Thread nD τ))) (i : grid0.Coords) (arg2 : Memref sig .tc .smem S16 .f32) (harg2 : arg2.IsWhole)
  (arg4 : Memref sig .tc .vmem S256x1280 .i8) (harg4 : arg4.IsWhole) (arg5 : Memref sig .tc .vmem S80x256 .f32) (harg5 : arg5.IsWhole)
  (arg6 : Memref sig .tc .vmem S256x640 .i8) (harg6 : arg6.IsWhole) (arg7 : Memref sig .tc .vmem S80x256 .fp8e4m3) (harg7 : arg7.IsWhole)
  (arg8 : Memref sig .tc .vmem S1x1 .f32) (harg8 : arg8.IsWhole)

set_option maxHeartbeats 8000000 in
/-- The preparation: what it leaves in the running maximum and in the four matrices, the chunks all in flight. -/
def blk1Run (k0_h1 : k0_cond1 i = 1#1) (g2 : Buf (Elt F) (arg2.view.loc (c : Thread nD τ))) :
    { R : Buf (Elt F) ((Memref.whole cc0_scratch2).view.loc (c : Thread nD τ)) × Buf (Elt F) ((Memref.whole cc0_scratch4).view.loc (c : Thread nD τ)) × Buf (Elt F) ((Memref.whole cc0_scratch5).view.loc (c : Thread nD τ)) × Buf (Elt F) ((Memref.whole cc0_scratch6).view.loc (c : Thread nD τ)) × Buf (Elt F) ((Memref.whole cc0_scratch7).view.loc (c : Thread nD τ)) //
      ∀ f11 f13 f14 f15 f16 (Q : PUnit → sProp 𝕄),
        iprop((bigSep Finset.univ (issuing c XA 0) ∗ PT c arg2 g2 ∗ PT c (Memref.whole cc0_scratch2) f11 ∗ PT c (Memref.whole cc0_scratch4) f13 ∗ PT c (Memref.whole cc0_scratch5) f14
            ∗ PT c (Memref.whole cc0_scratch6) f15 ∗ PT c (Memref.whole cc0_scratch7) f16)
          ∗ ((bigSep Finset.univ (issuing c XA k0_t1_loop.trips) ∗ PT c arg2 g2 ∗ PT c (Memref.whole cc0_scratch2) R.1 ∗ PT c (Memref.whole cc0_scratch4) R.2.1 ∗ PT c (Memref.whole cc0_scratch5) R.2.2.1
            ∗ PT c (Memref.whole cc0_scratch6) R.2.2.2.1 ∗ PT c (Memref.whole cc0_scratch7) R.2.2.2.2) -∗ Q ⟨⟩))
          ⊢ wp frame (wpE (defs₀ (F := F)) 𝒱₀ (c : Thread nD τ) none) Set.univ (blk1 i arg2 harg2 xM (Memref.isWhole_whole _) arg4 harg4 arg5 harg5 arg6 harg6 arg7 harg7 arg8 harg8 bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h1) Q } := by
  refine ⟨(?_, ?_, ?_, ?_, ?_), fun f11 f13 f14 f15 f16 Q => ?run⟩
  case run =>
    dsimp only
    unfold PT
    iintro ⟨⟨Hb, H2, H11, H13, H14, H15, H16⟩, Hk⟩
    unfold blk1
    sl_exec_parts!
    sl_step
    iapply Hk
    isplitl [Hb]; · iexact Hb
    isplitl [H2]; · iexact H2
    isplitl [H11]; · iexact H11
    isplitl [H13]; · iexact H13
    isplitl [H14]; · iexact H14
    isplitl [H15]; · iexact H15
    iexact H16

end Start

end Cert.Kernel.Hand

end
-- ==== Proof.Kernel.State.lean ====
/-
  Hand-written, untrusted. What the kernel's buffers hold between grid points: the matrices, the running maximum, the block
  maxima, the tensor scale; and the contents each point leaves in its blocks.
-/
module

public import proofs.«01_k».proof.Proof.Kernel.Sweep1
public import proofs.«01_k».proof.Proof.Kernel.Start

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Slab
variable (c : Dev nD) (XA : Buf (Elt F) (xM.view.loc (c : Thread nD τ))) (i : grid0.Coords) (arg2 : Memref sig .tc .smem S16 .f32) (harg2 : arg2.IsWhole)
  (arg4 : Memref sig .tc .vmem S256x1280 .i8) (harg4 : arg4.IsWhole) (arg5 : Memref sig .tc .vmem S80x256 .f32) (harg5 : arg5.IsWhole)
  (arg6 : Memref sig .tc .vmem S256x640 .i8) (harg6 : arg6.IsWhole) (arg7 : Memref sig .tc .vmem S80x256 .fp8e4m3) (harg7 : arg7.IsWhole)
  (arg8 : Memref sig .tc .vmem S1x1 .f32) (harg8 : arg8.IsWhole)
  (k0_h2 : k0_cond2 i = 1#1) (f10 f10' : Buf (Elt F) ((Memref.whole cc0_scratch1).view.loc (c : Thread nD τ))) (f11 : Buf (Elt F) ((Memref.whole cc0_scratch2).view.loc (c : Thread nD τ))) (f13 : Buf (Elt F) ((Memref.whole cc0_scratch4).view.loc (c : Thread nD τ)))

/-- What a chunk's point leaves in its output block and in the running maximum does not depend on the stored block maxima. -/
theorem blk2_out : (blk2Run c XA i arg2 harg2 arg4 harg4 arg5 harg5 arg6 harg6 arg7 harg7 arg8 harg8 k0_h2 f10 f11 f13).1.1 = (blk2Run c XA i arg2 harg2 arg4 harg4 arg5 harg5 arg6 harg6 arg7 harg7 arg8 harg8 k0_h2 f10' f11 f13).1.1 := rfl
theorem blk2_max : (blk2Run c XA i arg2 harg2 arg4 harg4 arg5 harg5 arg6 harg6 arg7 harg7 arg8 harg8 k0_h2 f10 f11 f13).1.2.2 = (blk2Run c XA i arg2 harg2 arg4 harg4 arg5 harg5 arg6 harg6 arg7 harg7 arg8 harg8 k0_h2 f10' f11 f13).1.2.2 := rfl

theorem slab_mem (off : Fin 3 → ℕ) (n : ℕ) (hn : n + 16 ≤ 80) (e : off = ![(i 1).val, n, 0]) (hh) (y : S56x80x256.Idx) :
    y ∈ (Rect.unit (s := S56x80x256) off S1x16x256.size hh).set ↔ (y 0).val = (i 1).val ∧ n ≤ (y 1).val ∧ (y 1).val < n + 16 := by
  subst e
  rw [Rect.mem_set_unit]
  have h2 : (y 2).val < 256 := (y 2).isLt
  constructor
  · intro H
    have a0 : (i 1).val ≤ (y 0).val ∧ (y 0).val < (i 1).val + 1 := H 0
    have a1 : n ≤ (y 1).val ∧ (y 1).val < n + 16 := H 1
    omega
  · rintro ⟨H0, H1⟩ a
    fin_cases a
    · show (i 1).val ≤ (y 0).val ∧ (y 0).val < (i 1).val + 1; omega
    · exact H1
    · show 0 ≤ (y 2).val ∧ (y 2).val < 0 + 256; omega

/-- The five slabs stored, over the buffer's prior contents. -/
theorem blk2_amax : ∃ p0 p1 p2 p3 p4, ∀ f10, (blk2Run c XA i arg2 harg2 arg4 harg4 arg5 harg5 arg6 harg6 arg7 harg7 arg8 harg8 k0_h2 f10 f11 f13).1.2.1 = (Memref.whole cc0_scratch1).view.writes (Elt F) f10
    [⟨Rect.unit (k0_off16 i) S1x16x256.size (k0_off16_inb i k0_h2), p4⟩, ⟨Rect.unit (k0_off14 i) S1x16x256.size (k0_off14_inb i k0_h2), p3⟩,
      ⟨Rect.unit (k0_off12 i) S1x16x256.size (k0_off12_inb i k0_h2), p2⟩, ⟨Rect.unit (k0_off10 i) S1x16x256.size (k0_off10_inb i k0_h2), p1⟩,
      ⟨Rect.unit (k0_off8 i) S1x16x256.size (k0_off8_inb i k0_h2), p0⟩] :=
  by
  refine ⟨?_, ?_, ?_, ?_, ?_, fun f10 => ?_⟩
  rotate_left 5
  · unfold blk2Run
    dsimp only
    rfl

omit [FloatOps F] in
/-- The buffer of block maxima read through itself. -/
theorem rd1 (g : Buf (Elt F) ((Memref.whole cc0_scratch1).view.loc (c : Thread nD τ))) (y : S56x80x256.Idx) : (Memref.whole cc0_scratch1).view.read (Elt F) g y = g y :=
  congrFun (View.read_whole (Val := Elt F) cc0_scratch1 g) y

/-- Another chunk's block maxima are left alone. -/
theorem blk2_amax_out (y : S56x80x256.Idx) (hy : (y 0).val ≠ (i 1).val) : (blk2Run c XA i arg2 harg2 arg4 harg4 arg5 harg5 arg6 harg6 arg7 harg7 arg8 harg8 k0_h2 f10 f11 f13).1.2.1 y = f10 y := by
  obtain ⟨p0, p1, p2, p3, p4, e⟩ := blk2_amax c XA i arg2 harg2 arg4 harg4 arg5 harg5 arg6 harg6 arg7 harg7 arg8 harg8 k0_h2 f11 f13
  rw [e]
  refine (rd1 c _ y).symm.trans (Eq.trans ?_ (rd1 c f10 y))
  refine View.read_writes_apply_of_forall_not_mem (Memref.whole cc0_scratch1).view f10 y _ ?_
  intro p hp
  simp only [List.mem_cons, List.mem_nil_iff, or_false] at hp
  rcases hp with rfl | rfl | rfl | rfl | rfl
  · intro h; exact hy ((slab_mem i (k0_off16 i) 64 (by omega) (k0_off16_eq i) (k0_off16_inb i k0_h2) y).1 h).1
  · intro h; exact hy ((slab_mem i (k0_off14 i) 48 (by omega) (k0_off14_eq i) (k0_off14_inb i k0_h2) y).1 h).1
  · intro h; exact hy ((slab_mem i (k0_off12 i) 32 (by omega) (k0_off12_eq i) (k0_off12_inb i k0_h2) y).1 h).1
  · intro h; exact hy ((slab_mem i (k0_off10 i) 16 (by omega) (k0_off10_eq i) (k0_off10_inb i k0_h2) y).1 h).1
  · intro h; exact hy ((slab_mem i (k0_off8 i) 0 (by omega) (k0_off8_eq i) (k0_off8_inb i k0_h2) y).1 h).1

/-- This chunk's are overwritten whole. -/
theorem blk2_amax_in (y : S56x80x256.Idx) (hy : (y 0).val = (i 1).val) :
    (blk2Run c XA i arg2 harg2 arg4 harg4 arg5 harg5 arg6 harg6 arg7 harg7 arg8 harg8 k0_h2 f10 f11 f13).1.2.1 y = (blk2Run c XA i arg2 harg2 arg4 harg4 arg5 harg5 arg6 harg6 arg7 harg7 arg8 harg8 k0_h2 f10' f11 f13).1.2.1 y := by
  obtain ⟨p0, p1, p2, p3, p4, e⟩ := blk2_amax c XA i arg2 harg2 arg4 harg4 arg5 harg5 arg6 harg6 arg7 harg7 arg8 harg8 k0_h2 f11 f13
  rw [e, e]
  refine (rd1 c _ y).symm.trans (Eq.trans ?_ (rd1 c _ y))
  refine View.read_writes_apply_eq (Memref.whole cc0_scratch1).view f10 (Memref.whole cc0_scratch1).view f10' y _ ?_
  have h1 : (y 1).val < 80 := (y 1).isLt
  by_cases a4 : 64 ≤ (y 1).val
  · exact ⟨⟨Rect.unit (k0_off16 i) S1x16x256.size (k0_off16_inb i k0_h2), p4⟩, List.mem_cons_self, (slab_mem i (k0_off16 i) 64 (by omega) (k0_off16_eq i) (k0_off16_inb i k0_h2) y).2 ⟨hy, by omega, by omega⟩⟩
  by_cases a3 : 48 ≤ (y 1).val
  · exact ⟨⟨Rect.unit (k0_off14 i) S1x16x256.size (k0_off14_inb i k0_h2), p3⟩, List.mem_cons_of_mem _ List.mem_cons_self, (slab_mem i (k0_off14 i) 48 (by omega) (k0_off14_eq i) (k0_off14_inb i k0_h2) y).2 ⟨hy, by omega, by omega⟩⟩
  by_cases a2 : 32 ≤ (y 1).val
  · exact ⟨⟨Rect.unit (k0_off12 i) S1x16x256.size (k0_off12_inb i k0_h2), p2⟩, List.mem_cons_of_mem _ (List.mem_cons_of_mem _ List.mem_cons_self), (slab_mem i (k0_off12 i) 32 (by omega) (k0_off12_eq i) (k0_off12_inb i k0_h2) y).2 ⟨hy, by omega, by omega⟩⟩
  by_cases a1 : 16 ≤ (y 1).val
  · exact ⟨⟨Rect.unit (k0_off10 i) S1x16x256.size (k0_off10_inb i k0_h2), p1⟩, List.mem_cons_of_mem _ (List.mem_cons_of_mem _ (List.mem_cons_of_mem _ List.mem_cons_self)), (slab_mem i (k0_off10 i) 16 (by omega) (k0_off10_eq i) (k0_off10_inb i k0_h2) y).2 ⟨hy, by omega, by omega⟩⟩
  · exact ⟨⟨Rect.unit (k0_off8 i) S1x16x256.size (k0_off8_inb i k0_h2), p0⟩, List.mem_cons_of_mem _ (List.mem_cons_of_mem _ (List.mem_cons_of_mem _ (List.mem_cons_of_mem _ List.mem_cons_self))), (slab_mem i (k0_off8 i) 0 (by omega) (k0_off8_eq i) (k0_off8_inb i k0_h2) y).2 ⟨hy, by omega, by omega⟩⟩

end Slab

variable (m : (ℓ : Loc nD τ sig) → Buf (Elt F) ℓ)

/-! ## The points -/

abbrev co (t : Fin cfg0.N) : grid0.Coords := grid0.coords t
abbrev ms0 (t : Fin cfg0.N) : Memref sig .tc .smem S16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1280 .i8 := win0_1.stage (cfg0.slots t 1)
abbrev hs1 (t : Fin cfg0.N) : (ms1 t).IsWhole := hstage0_1 ((cfg0.slots t 1).cast nbuf0_1)
abbrev ms2 (t : Fin cfg0.N) : Memref sig .tc .vmem S80x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x640 .i8 := win0_3.stage (cfg0.slots t 3)
abbrev hs3 (t : Fin cfg0.N) : (ms3 t).IsWhole := hstage0_3 ((cfg0.slots t 3).cast nbuf0_3)
abbrev ms4 (t : Fin cfg0.N) : Memref sig .tc .vmem S80x256 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)

theorem c1_iff : ∀ t : Fin cfg0.N, k0_cond1 (co t) = 1#1 ↔ t.val = 0 := (by decide +kernel : ∀ t : Fin grid0.N, k0_cond1 (grid0.coords t) = 1#1 ↔ t.val = 0)
theorem c2_iff : ∀ t : Fin cfg0.N, k0_cond2 (co t) = 1#1 ↔ t.val < 56 := (by decide +kernel : ∀ t : Fin grid0.N, k0_cond2 (grid0.coords t) = 1#1 ↔ t.val < 56)
theorem c3_iff : ∀ t : Fin cfg0.N, k0_cond3 (co t) = 1#1 ↔ t.val = 56 := (by decide +kernel : ∀ t : Fin grid0.N, k0_cond3 (grid0.coords t) = 1#1 ↔ t.val = 56)
theorem c4_iff : ∀ t : Fin cfg0.N, k0_cond4 (co t) = 1#1 ↔ 56 ≤ t.val := (by decide +kernel : ∀ t : Fin grid0.N, k0_cond4 (grid0.coords t) = 1#1 ↔ 56 ≤ t.val)
theorem co_1 : ∀ t : Fin cfg0.N, (co t 1).val = t.val % 56 := (by decide +kernel : ∀ t : Fin grid0.N, (grid0.coords t 1).val = t.val % 56)

/-- Sweep 0's point at chunk `k`, and sweep 1's. -/
def pt0 (k : Fin 56) : Fin cfg0.N := ⟨k.val, Nat.lt_of_lt_of_le k.isLt (by decide)⟩
def pt1 (k : Fin 56) : Fin cfg0.N := ⟨56 + k.val, Nat.lt_of_lt_of_eq (Nat.add_lt_add_left k.isLt 56) (by decide)⟩
theorem h1_0 : k0_cond1 (co (pt0 0)) = 1#1 := (c1_iff _).2 rfl
theorem h2_k (k : Fin 56) : k0_cond2 (co (pt0 k)) = 1#1 := (c2_iff _).2 k.isLt
theorem h3_0 : k0_cond3 (co (pt1 0)) = 1#1 := (c3_iff _).2 rfl
theorem h4_k (k : Fin 56) : k0_cond4 (co (pt1 k)) = 1#1 := (c4_iff _).2 (Nat.le_add_right _ _)

/-! ## The contents -/

section Contents
variable (c : Dev nD)

/-- The tokens as the region finds them. -/
abbrev XA : Buf (Elt F) (xM.view.loc (c : Thread nD τ)) := V m c main_v0
/-- The preparation's outcome. -/
def prep := blk1Run c (XA m c) (co (pt0 0)) (ms0 (pt0 0)) (hs0 (pt0 0)) (ms1 (pt0 0)) (hs1 (pt0 0)) (ms2 (pt0 0)) (hs2 (pt0 0)) (ms3 (pt0 0)) (hs3 (pt0 0)) (ms4 (pt0 0)) (hs4 (pt0 0)) (ms5 (pt0 0)) (hs5 (pt0 0)) h1_0 ((hs0 (pt0 0)).unread (iblk m c 0 (pt0 0)))
/-- The running maximum at entry; -/
def M11 : Buf (Elt F) ((Memref.whole cc0_scratch2).view.loc (c : Thread nD τ)) := (prep m c).1.1
/-- the four matrices. -/
def M13 : Buf (Elt F) ((Memref.whole cc0_scratch4).view.loc (c : Thread nD τ)) := (prep m c).1.2.1
def M14 : Buf (Elt F) ((Memref.whole cc0_scratch5).view.loc (c : Thread nD τ)) := (prep m c).1.2.2.1
def M15 : Buf (Elt F) ((Memref.whole cc0_scratch6).view.loc (c : Thread nD τ)) := (prep m c).1.2.2.2.1
def M16 : Buf (Elt F) ((Memref.whole cc0_scratch7).view.loc (c : Thread nD τ)) := (prep m c).1.2.2.2.2

/-- Chunk `k`'s point of sweep 0, over block maxima `f10` and running maximum `f11`. -/
def run2 (k : Fin 56) (f10 : Buf (Elt F) ((Memref.whole cc0_scratch1).view.loc (c : Thread nD τ))) (f11 : Buf (Elt F) ((Memref.whole cc0_scratch2).view.loc (c : Thread nD τ))) := blk2Run c (XA m c) (co (pt0 k)) (ms0 (pt0 k)) (hs0 (pt0 k)) (ms1 (pt0 k)) (hs1 (pt0 k)) (ms2 (pt0 k)) (hs2 (pt0 k)) (ms3 (pt0 k)) (hs3 (pt0 k)) (ms4 (pt0 k)) (hs4 (pt0 k)) (ms5 (pt0 k)) (hs5 (pt0 k)) (h2_k k) f10 f11 (M13 m c)
/-- The running maximum before chunk `k`. -/
def rm : ℕ → Buf (Elt F) ((Memref.whole cc0_scratch2).view.loc (c : Thread nD τ))
  | 0 => M11 m c
  | k + 1 => if h : k < 56 then (run2 m c ⟨k, h⟩ (Memref.whole cc0_scratch1).view.junk (rm k)).1.2.2 else rm k
theorem rm_succ (k : Fin 56) (f10) : rm m c (k.val + 1) = (run2 m c k f10 (rm m c k.val)).1.2.2 := by
  rw [rm, dif_pos k.isLt]; exact blk2_max ..
/-- Chunk `k`'s block maxima, over junk; -/
def amK (k : Fin 56) : Buf (Elt F) ((Memref.whole cc0_scratch1).view.loc (c : Thread nD τ)) := (run2 m c k (Memref.whole cc0_scratch1).view.junk (rm m c k.val)).1.2.1
/-- the block maxima once every chunk has passed. -/
def amBuf : Buf (Elt F) ((Memref.whole cc0_scratch1).view.loc (c : Thread nD τ)) := fun y => amK m c (show Fin 56 from y 0) y
/-- The chunks below `p` have their block maxima stored. -/
def Agree (p : ℕ) (f : Buf (Elt F) ((Memref.whole cc0_scratch1).view.loc (c : Thread nD τ))) : Prop := ∀ y : S56x80x256.Idx, (y 0).val < p → f y = amBuf m c y
theorem Agree.zero (f) : Agree m c 0 f := fun y h => absurd h (Nat.not_lt_zero _)
theorem Agree.step (k : Fin 56) (f) (h : Agree m c k.val f) : Agree m c (k.val + 1) (run2 m c k f (rm m c k.val)).1.2.1 := by
  intro y hy
  have hk : (co (pt0 k) 1).val = k.val := (co_1 _).trans (Nat.mod_eq_of_lt k.isLt)
  by_cases e : (y 0).val = k.val
  · have e' : (y 0 : Fin 56) = k := Fin.ext e
    have e2 : amBuf m c y = amK m c k y := congrArg (fun k => amK m c k y) e'
    rw [e2]
    exact blk2_amax_in (hy := e.trans hk.symm) ..
  · exact (blk2_amax_out (hy := fun h => e (h.trans hk)) ..).trans (h y (by omega))
theorem Agree.full (f) (h : Agree m c 56 f) : f = amBuf m c := funext fun y => h y (y 0).isLt

/-- The tensor scale's point. -/
def run3 := blk3Run c (co (pt1 0)) (ms0 (pt1 0)) (hs0 (pt1 0)) (ms1 (pt1 0)) (hs1 (pt1 0)) (ms2 (pt1 0)) (hs2 (pt1 0)) (ms3 (pt1 0)) (hs3 (pt1 0)) (ms4 (pt1 0)) (hs4 (pt1 0)) (ms5 (pt1 0)) (hs5 (pt1 0)) h3_0 (rm m c 56)
def M12 : Buf (Elt F) ((Memref.whole cc0_scratch3).view.loc (c : Thread nD τ)) := (run3 m c).1.2
/-- Chunk `k`'s point of sweep 1. -/
def run4 (k : Fin 56) := blk4Run c (XA m c) (co (pt1 k)) (ms0 (pt1 k)) (hs0 (pt1 k)) (ms1 (pt1 k)) (hs1 (pt1 k)) (ms2 (pt1 k)) (hs2 (pt1 k)) (ms3 (pt1 k)) (hs3 (pt1 k)) (ms4 (pt1 k)) (hs4 (pt1 k)) (ms5 (pt1 k)) (hs5 (pt1 k)) (h4_k k) ((hs1 (pt1 k)).unread (iblk m c 1 (pt1 k))) (amBuf m c) (M12 m c) (M14 m c) (M15 m c) (M16 m c)

/-- Chunk `k`'s block maxima, as sweep 0 leaves them in their output block; -/
def outA (k : Fin 56) : S80x256.Idx → Elt F .f32 := (ms2 (pt0 k)).view.read (Elt F) (run2 m c k (Memref.whole cc0_scratch1).view.junk (rm m c k.val)).1.1
/-- the codes; -/
def outC (k : Fin 56) : S256x640.Idx → Elt F .i8 := (ms3 (pt1 k)).view.read (Elt F) (run4 m c k).1.1
/-- the scales; -/
def outS (k : Fin 56) : S80x256.Idx → Elt F .fp8e4m3 := (ms4 (pt1 k)).view.read (Elt F) (run4 m c k).1.2
/-- the tensor scale. -/
def outT : S1x1.Idx → Elt F .f32 := (ms5 (pt1 0)).view.read (Elt F) (run3 m c).1.1

end Contents

/-- Point `t`'s chunk in sweep 0, the last one through sweep 1. -/
def ka (t : ℕ) : Fin 56 := ⟨min t 55, by omega⟩
/-- Point `t`'s chunk in sweep 1. -/
def kc (t : ℕ) : Fin 56 := ⟨(t - 56) % 56, Nat.mod_lt _ (by omega)⟩

end Cert.Kernel.Hand

end
-- ==== Proof.Kernel.Steps.lean ====
/-
  Hand-written, untrusted. The invariants between grid points and the step each block of the body takes between them.
-/
module

public import proofs.«01_k».proof.Proof.Kernel.State
public import Idealize.ShloMosaic.Lib.LaneScatter.Own

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (c : Dev nD)

/-- Some contents of a scratch buffer. -/
abbrev AnyPT {sp : _} {s : Shape} {e : _} (c : Dev nD) (M : Memref sig .tc sp s e) : sProp 𝕄 := iprop(∃ f, PT (F := F) c M f)

/-- Before the first point: nothing issued, every scratch buffer at anything. -/
def Φ0 : sProp 𝕄 := iprop(bigSep Finset.univ (issuing c (XA m c) 0) ∗ AnyPT c (Memref.whole cc0_scratch1) ∗ AnyPT c (Memref.whole cc0_scratch2) ∗ AnyPT c (Memref.whole cc0_scratch3) ∗ AnyPT c (Memref.whole cc0_scratch4) ∗ AnyPT c (Memref.whole cc0_scratch5) ∗ AnyPT c (Memref.whole cc0_scratch6) ∗ AnyPT c (Memref.whole cc0_scratch7) ∗ AnyPT c (Memref.whole cc0_scratch8))
/-- Before point `p` of sweep 0, the loop past: the chunks below `p` landed, their block maxima stored, the running maximum theirs, the
    matrices laid out. -/
def ΦA (p : ℕ) : sProp 𝕄 :=
  iprop(bigSep Finset.univ (landing c (XA m c) p) ∗ (∃ f, ⌜Agree m c p f⌝ ∗ PT c (Memref.whole cc0_scratch1) f) ∗ PT c (Memref.whole cc0_scratch2) (rm m c p) ∗ AnyPT c (Memref.whole cc0_scratch3)
    ∗ PT c (Memref.whole cc0_scratch4) (M13 m c) ∗ PT c (Memref.whole cc0_scratch5) (M14 m c) ∗ PT c (Memref.whole cc0_scratch6) (M15 m c) ∗ PT c (Memref.whole cc0_scratch7) (M16 m c) ∗ AnyPT c (Memref.whole cc0_scratch8))
/-- Through sweep 1: every chunk landed, every block maximum stored, the tensor scale known. -/
def ΦB : sProp 𝕄 :=
  iprop(bigSep Finset.univ (landing c (XA m c) 56) ∗ PT c (Memref.whole cc0_scratch1) (amBuf m c) ∗ PT c (Memref.whole cc0_scratch2) (rm m c 56) ∗ PT c (Memref.whole cc0_scratch3) (M12 m c)
    ∗ PT c (Memref.whole cc0_scratch4) (M13 m c) ∗ PT c (Memref.whole cc0_scratch5) (M14 m c) ∗ PT c (Memref.whole cc0_scratch6) (M15 m c) ∗ PT c (Memref.whole cc0_scratch7) (M16 m c) ∗ AnyPT c (Memref.whole cc0_scratch8))

theorem issuing_all : issuing c (XA m c) k0_t1_loop.trips = landing c (XA m c) 0 := by
  funext b
  unfold issuing landing
  rw [trips_eq, if_pos b.isLt, if_neg (Nat.not_lt_zero _)]

theorem ij0 (k : Fin 56) : ij (co (pt0 k)) = k := Fin.ext ((co_1 _).trans (Nat.mod_eq_of_lt k.isLt))
theorem ij1 (k : Fin 56) : ij (co (pt1 k)) = k := Fin.ext ((co_1 _).trans (by show (56 + k.val) % 56 = k.val; have := k.isLt; omega))

set_option maxHeartbeats 1000000 in
/-- The first point's preparation. -/
theorem step1 (Q : PUnit → sProp 𝕄) :
    iprop((Φ0 m c ∗ PT c (ms0 (pt0 0)) ((hs0 (pt0 0)).unread (iblk m c 0 (pt0 0))))
        ∗ ((ΦA m c 0 ∗ PT c (ms0 (pt0 0)) ((hs0 (pt0 0)).unread (iblk m c 0 (pt0 0)))) -∗ Q ⟨⟩))
      ⊢ wp frame (wpE (defs₀ (F := F)) 𝒱₀ c none) Set.univ (blk1 (co (pt0 0)) (ms0 (pt0 0)) (hs0 (pt0 0)) xM (Memref.isWhole_whole _) (ms1 (pt0 0)) (hs1 (pt0 0)) (ms2 (pt0 0)) (hs2 (pt0 0)) (ms3 (pt0 0)) (hs3 (pt0 0)) (ms4 (pt0 0)) (hs4 (pt0 0)) (ms5 (pt0 0)) (hs5 (pt0 0)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 h1_0) Q := by
  unfold Φ0 ΦA
  iintro ⟨⟨⟨HI, ⟨%f1, H1⟩, ⟨%f2, H2⟩, H3, ⟨%f4, H4⟩, ⟨%f5, H5⟩, ⟨%f6, H6⟩, ⟨%f7, H7⟩, H8⟩, HG⟩, Hk⟩
  iapply ((prep m c).2 f2 f4 f5 f6 f7 Q)
  isplitl [HI HG H2 H4 H5 H6 H7]
  · isplitl [HI]; · iexact HI
    isplitl [HG]; · iexact HG
    isplitl [H2]; · iexact H2
    isplitl [H4]; · iexact H4
    isplitl [H5]; · iexact H5
    isplitl [H6]; · iexact H6
    iexact H7
  iintro ⟨HI, HG, H2, H4, H5, H6, H7⟩
  iapply Hk
  isplitr [HG]; swap; · iexact HG
  isplitl [HI]; · irw [← issuing_all m c]; iexact HI
  isplitl [H1]
  · iexists f1; isplitr; · ipureintro; exact Agree.zero m c f1
    iexact H1
  isplitl [H2]; · iexact H2
  isplitl [H3]; · iexact H3
  isplitl [H4]; · iexact H4
  isplitl [H5]; · iexact H5
  isplitl [H6]; · iexact H6
  isplitl [H7]; · iexact H7
  iexact H8

theorem landing_at (k : Fin 56) : landing c (XA m c) k.val k = flyP c (XA m c) (ij (co (pt0 k))) := by
  rw [ij0]; exact if_neg (Nat.lt_irrefl _)
theorem landing_past (k : Fin 56) : landing c (XA m c) (k.val + 1) k = heldP c (XA m c) (ij (co (pt0 k))) := by
  rw [ij0]; exact if_pos (Nat.lt_succ_self _)
theorem landing_all (k : Fin 56) : landing c (XA m c) 56 k = heldP c (XA m c) (ij (co (pt1 k))) := by
  rw [ij1]; exact if_pos k.isLt
theorem landing_other (k b : Fin 56) (h : b ≠ k) : landing c (XA m c) k.val b = landing c (XA m c) (k.val + 1) b := by
  have hne : b.val ≠ k.val := fun e => h (Fin.ext e)
  unfold landing
  by_cases hb : b.val < k.val
  · rw [if_pos hb, if_pos (by omega)]
  · rw [if_neg hb, if_neg (by omega)]

set_option maxHeartbeats 1000000 in
/-- Chunk `k`'s point of sweep 0. -/
theorem step2 (k : Fin 56) (Q : PUnit → sProp 𝕄) :
    iprop((ΦA m c k.val ∗ AnyPT c (ms2 (pt0 k)) ∗ ∃ W, owes (c : Thread nD τ) 0 W)
        ∗ ((ΦA m c (k.val + 1) ∗ PT c (ms2 (pt0 k)) (run2 m c k (Memref.whole cc0_scratch1).view.junk (rm m c k.val)).1.1 ∗ ∃ W, owes (c : Thread nD τ) 0 W) -∗ Q ⟨⟩))
      ⊢ wp frame (wpE (defs₀ (F := F)) 𝒱₀ c none) Set.univ (blk2 (co (pt0 k)) (ms0 (pt0 k)) (hs0 (pt0 k)) xM (Memref.isWhole_whole _) (ms1 (pt0 k)) (hs1 (pt0 k)) (ms2 (pt0 k)) (hs2 (pt0 k)) (ms3 (pt0 k)) (hs3 (pt0 k)) (ms4 (pt0 k)) (hs4 (pt0 k)) (ms5 (pt0 k)) (hs5 (pt0 k)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (h2_k k)) Q := by
  unfold ΦA
  rw [bigSep_out k (landing c (XA m c) k.val), bigSep_out k (landing c (XA m c) (k.val + 1)), landing_at, landing_past,
    bigSep_swap k (landing_other m c k)]
  iintro ⟨⟨⟨⟨HI, HR⟩, ⟨%f1, %hf1, H1⟩, H2, H3, H4, H5, H6, H7, H8⟩, ⟨%g, HG⟩, HW⟩, Hk⟩
  iapply ((run2 m c k f1 (rm m c k.val)).2 g Q)
  isplitl [HI HG H1 H2 H4 HW]
  · isplitl [HI]; · iexact HI
    isplitl [HG]; · iexact HG
    isplitl [H1]; · iexact H1
    isplitl [H2]; · iexact H2
    isplitl [H4]; · iexact H4
    iexact HW
  iintro ⟨HI, HG, H1, H2, H4, HW⟩
  iapply Hk
  isplitr [HG HW]
  swap
  · isplitl [HG]; · iexact HG
    iexact HW
  isplitl [HI HR]
  · isplitl [HI]; · iexact HI
    iexact HR
  isplitl [H1]
  · iexists _; isplitr; swap; · iexact H1
    ipureintro; exact Agree.step m c k f1 hf1
  isplitl [H2]
  · irw [rm_succ m c k f1]; iexact H2
  isplitl [H3]; · iexact H3
  isplitl [H4]; · iexact H4
  isplitl [H5]; · iexact H5
  isplitl [H6]; · iexact H6
  isplitl [H7]; · iexact H7
  iexact H8

set_option maxHeartbeats 1000000 in
/-- The tensor scale's block, at the head of sweep 1. -/
theorem step3 (Q : PUnit → sProp 𝕄) :
    iprop((ΦA m c 56 ∗ AnyPT c (ms5 (pt1 0)))
        ∗ ((ΦB m c ∗ PT c (ms5 (pt1 0)) (run3 m c).1.1) -∗ Q ⟨⟩))
      ⊢ wp frame (wpE (defs₀ (F := F)) 𝒱₀ c none) Set.univ (blk3 (co (pt1 0)) (ms0 (pt1 0)) (hs0 (pt1 0)) xM (Memref.isWhole_whole _) (ms1 (pt1 0)) (hs1 (pt1 0)) (ms2 (pt1 0)) (hs2 (pt1 0)) (ms3 (pt1 0)) (hs3 (pt1 0)) (ms4 (pt1 0)) (hs4 (pt1 0)) (ms5 (pt1 0)) (hs5 (pt1 0)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 h3_0) Q := by
  unfold ΦA ΦB
  iintro ⟨⟨⟨HI, ⟨%f1, %hf1, H1⟩, H2, ⟨%f3, H3⟩, H4, H5, H6, H7, H8⟩, ⟨%g, HG⟩⟩, Hk⟩
  obtain rfl := Agree.full m c f1 hf1
  iapply ((run3 m c).2 g f3 Q)
  isplitl [HG H2 H3]
  · isplitl [HG]; · iexact HG
    isplitl [H2]; · iexact H2
    iexact H3
  iintro ⟨HG, H2, H3⟩
  iapply Hk
  isplitr [HG]; swap; · iexact HG
  isplitl [HI]; · iexact HI
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1000000 in
/-- Chunk `k`'s point of sweep 1. -/
theorem step4 (k : Fin 56) (Q : PUnit → sProp 𝕄) :
    iprop((ΦB m c ∗ PT c (ms1 (pt1 k)) ((hs1 (pt1 k)).unread (iblk m c 1 (pt1 k))) ∗ AnyPT c (ms3 (pt1 k)) ∗ AnyPT c (ms4 (pt1 k)))
        ∗ ((ΦB m c ∗ PT c (ms1 (pt1 k)) ((hs1 (pt1 k)).unread (iblk m c 1 (pt1 k))) ∗ PT c (ms3 (pt1 k)) (run4 m c k).1.1
            ∗ PT c (ms4 (pt1 k)) (run4 m c k).1.2) -∗ Q ⟨⟩))
      ⊢ wp frame (wpE (defs₀ (F := F)) 𝒱₀ c none) Set.univ (blk4 (co (pt1 k)) (ms0 (pt1 k)) (hs0 (pt1 k)) xM (Memref.isWhole_whole _) (ms1 (pt1 k)) (hs1 (pt1 k)) (ms2 (pt1 k)) (hs2 (pt1 k)) (ms3 (pt1 k)) (hs3 (pt1 k)) (ms4 (pt1 k)) (hs4 (pt1 k)) (ms5 (pt1 k)) (hs5 (pt1 k)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (h4_k k)) Q := by
  unfold ΦB
  rw [bigSep_out k (landing c (XA m c) 56), landing_all]
  iintro ⟨⟨⟨⟨HI, HR⟩, H1, H2, H3, H4, H5, H6, H7, H8⟩, HX, ⟨%g3, HG3⟩, ⟨%g4, HG4⟩⟩, Hk⟩
  iapply ((run4 m c k).2 g3 g4 Q)
  isplitl [HI HX HG3 HG4 H1 H3 H5 H6 H7 H8]
  · isplitl [HI]; · iexact HI
    isplitl [HX]; · iexact HX
    isplitl [HG3]; · iexact HG3
    isplitl [HG4]; · iexact HG4
    isplitl [H1]; · iexact H1
    isplitl [H3]; · iexact H3
    isplitl [H5]; · iexact H5
    isplitl [H6]; · iexact H6
    isplitl [H7]; · iexact H7
    iexact H8
  iintro ⟨HI, HX, HG3, HG4, H1, H3, H5, H6, H7, H8⟩
  iapply Hk
  isplitr [HX HG3 HG4]
  swap
  · isplitl [HX]; · iexact HX
    isplitl [HG3]; · iexact HG3
    iexact HG4
  isplitl [HI HR]
  · isplitl [HI]; · iexact HI
    iexact HR
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

omit [FloatOps F] in
/-- A whole memref owned at `d` is its buffer at the contents that read `d`, -/
theorem owns_PT {sp : Space} {s : Shape} {e : EltTy} (M : Memref sig .tc sp s e) (h : M.IsWhole) (d : s.Idx → Elt F e) :
    (owns (c : Thread nD τ) M fullShare d : sProp 𝕄) ⊢ PT c M (h.unread d) := by
  have hset : M.view.set = Finset.univ := by
    obtain ⟨b, rfl, rfl, rfl, hm⟩ := h
    cases hm
    exact View.set_whole _
  unfold owns
  rw [hset]
  iintro ⟨%f, %hf, H⟩
  obtain rfl := h.eq_unread hf
  iexact H
omit [FloatOps F] in
/-- and back. -/
theorem PT_owns {sp : Space} {s : Shape} {e : EltTy} (M : Memref sig .tc sp s e) (h : M.IsWhole) (f : Buf (Elt F) (M.view.loc (c : Thread nD τ))) (d : s.Idx → Elt F e)
    (hd : M.view.read (Elt F) f = d) : (PT c M f : sProp 𝕄) ⊢ owns (c : Thread nD τ) M fullShare d := by
  have hset : M.view.set = Finset.univ := by
    obtain ⟨b, rfl, rfl, rfl, hm⟩ := h
    cases hm
    exact View.set_whole _
  unfold owns
  rw [hset]
  iintro H
  iexists f; isplitr; · ipureintro; exact hd
  iexact H
omit [FloatOps F] in
theorem owns_any {sp : Space} {s : Shape} {e : EltTy} (M : Memref sig .tc sp s e) (h : M.IsWhole) (d : s.Idx → Elt F e) :
    (owns (c : Thread nD τ) M fullShare d : sProp 𝕄) ⊢ AnyPT c M := by
  iintro H
  ihave H' := (owns_PT c M h d) $$ H
  iexists _; iexact H'

end Cert.Kernel.Hand

end
-- ==== Proof.Kernel.Body.lean ====
/-
  Hand-written, untrusted. The pipeline's proof data, the body obligation at every grid point, the launch, and the frame.
-/
module

public import proofs.«01_k».proof.Proof.Kernel.Steps

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- The invariant before point `p`. -/
def Φp (c : Dev nD) (p : ℕ) : sProp 𝕄 := if p = 0 then Φ0 m c else if p ≤ 56 then ΦA m c p else ΦB m c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outA m c (ka t.val)
    | ⟨3, _⟩ => outC m c (kc t.val)
    | ⟨4, _⟩ => outS m c (kc t.val)
    | ⟨5, _⟩ => outT m c
  Φ t := Φp m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outA m c (ka t.val) := by dsimp only [dats]
theorem after3 (c : Dev nD) (t : Fin cfg0.N) : (dats m 0 c).after 3 t = outC m c (kc t.val) := by dsimp only [dats]
theorem after4 (c : Dev nD) (t : Fin cfg0.N) : (dats m 0 c).after 4 t = outS m c (kc t.val) := by dsimp only [dats]
theorem after5 (c : Dev nD) (t : Fin cfg0.N) : (dats m 0 c).after 5 t = outT m c := by dsimp only [dats]

/-- The input windows hold their blocks. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## Which windows a point leaves alone -/

theorem idle2 (t : Fin cfg0.N) (h : t.val < 56) : cfg0.idle 2 (cfg0.grid.coords t) = false := by
  show (!(k0_cond2 (co t) == 1#1)) = false
  rw [(c2_iff t).2 h]; rfl
theorem idle2' (t : Fin cfg0.N) (h : 56 ≤ t.val) : cfg0.idle 2 (cfg0.grid.coords t) = true := by
  show (!(k0_cond2 (co t) == 1#1)) = true
  rw [Bool.not_eq_true', beq_eq_false_iff_ne]; exact fun e => absurd ((c2_iff t).1 e) (by omega)
theorem idle3 (t : Fin cfg0.N) (h : 56 ≤ t.val) : cfg0.idle 3 (cfg0.grid.coords t) = false := by
  show (!(k0_cond4 (co t) == 1#1)) = false
  rw [(c4_iff t).2 h]; rfl
theorem idle3' (t : Fin cfg0.N) (h : t.val < 56) : cfg0.idle 3 (cfg0.grid.coords t) = true := by
  show (!(k0_cond4 (co t) == 1#1)) = true
  rw [Bool.not_eq_true', beq_eq_false_iff_ne]; exact fun e => absurd ((c4_iff t).1 e) (by omega)
theorem idle4 (t : Fin cfg0.N) (h : 56 ≤ t.val) : cfg0.idle 4 (cfg0.grid.coords t) = false := idle3 t h
theorem idle4' (t : Fin cfg0.N) (h : t.val < 56) : cfg0.idle 4 (cfg0.grid.coords t) = true := idle3' t h
theorem idle5 (t : Fin cfg0.N) (h : t.val = 56) : cfg0.idle 5 (cfg0.grid.coords t) = false := by
  show (!(k0_cond3 (co t) == 1#1)) = false
  rw [(c3_iff t).2 h]; rfl
theorem idle5' (t : Fin cfg0.N) (h : t.val ≠ 56) : cfg0.idle 5 (cfg0.grid.coords t) = true := by
  show (!(k0_cond3 (co t) == 1#1)) = true
  rw [Bool.not_eq_true', beq_eq_false_iff_ne]; exact fun e => absurd ((c3_iff t).1 e) h
theorem flush2' : ∀ t : Fin cfg0.N, 55 ≤ t.val → t.val < 111 → (cfg0.win 2).flush t = false :=
  (by decide +kernel : ∀ t : Fin grid0.N, 55 ≤ t.val → t.val < 111 → win0_2.flush t = false)
theorem flush2 : ∀ t : Fin cfg0.N, 111 ≤ t.val → (cfg0.win 2).flush t = true :=
  (by decide +kernel : ∀ t : Fin grid0.N, 111 ≤ t.val → win0_2.flush t = true)
theorem flush3' : ∀ t : Fin cfg0.N, t.val < 56 → (cfg0.win 3).flush t = false :=
  (by decide +kernel : ∀ t : Fin grid0.N, t.val < 56 → win0_3.flush t = false)
theorem flush4' : ∀ t : Fin cfg0.N, t.val < 56 → (cfg0.win 4).flush t = false :=
  (by decide +kernel : ∀ t : Fin grid0.N, t.val < 56 → win0_4.flush t = false)
theorem flush5' : ∀ t : Fin cfg0.N, t.val < 111 → (cfg0.win 5).flush t = false :=
  (by decide +kernel : ∀ t : Fin grid0.N, t.val < 111 → win0_5.flush t = false)
theorem flush5 : ∀ t : Fin cfg0.N, 111 ≤ t.val → (cfg0.win 5).flush t = true :=
  (by decide +kernel : ∀ t : Fin grid0.N, 111 ≤ t.val → win0_5.flush t = true)

/-- Through sweep 1 the block-maxima window holds the last chunk's. -/
theorem before2 (c : Dev nD) (d) : ∀ n (h : n < cfg0.N), 56 ≤ n → (dats m 0 c).before 2 ⟨n, h⟩ d = outA m c (ka 55) := by
  intro n
  induction n with
  | zero => intro h h'; exact absurd h' (by omega)
  | succ n ih =>
    intro h h'
    have hN : n + 1 < 112 := h
    rw [(dats m 0 c).before_of_pos 2 ⟨n + 1, h⟩ (Nat.succ_ne_zero n) rfl d]
    have hf : (cfg0.win 2).flush ⟨n, Nat.lt_of_succ_lt h⟩ = false := flush2' _ (by show 55 ≤ n; omega) (by show n < 111; omega)
    refine (if_neg (by rw [show (⟨(⟨n + 1, h⟩ : Fin cfg0.N).val - 1, _⟩ : Fin cfg0.N) = ⟨n, Nat.lt_of_succ_lt h⟩ from rfl, hf]; exact Bool.false_ne_true)).trans ?_
    show (dats m 0 c).left 2 ⟨n, Nat.lt_of_succ_lt h⟩ d = _
    unfold Dat.left
    by_cases e : n = 55
    · subst e
      rw [idle2 ⟨55, Nat.lt_of_succ_lt h⟩ (by show 55 < 56; omega)]
      show (dats m 0 c).kept 2 ⟨55, Nat.lt_of_succ_lt h⟩ d = _
      exact after2 m c _
    · rw [idle2' ⟨n, Nat.lt_of_succ_lt h⟩ (by show 56 ≤ n; omega)]
      exact ih (Nat.lt_of_succ_lt h) (by omega)
/-- Past sweep 1's head the tensor scale's window holds it. -/
theorem before5 (c : Dev nD) (d) : ∀ n (h : n < cfg0.N), 57 ≤ n → (dats m 0 c).before 5 ⟨n, h⟩ d = outT m c := by
  intro n
  induction n with
  | zero => intro h h'; exact absurd h' (by omega)
  | succ n ih =>
    intro h h'
    have hN : n + 1 < 112 := h
    rw [(dats m 0 c).before_of_pos 5 ⟨n + 1, h⟩ (Nat.succ_ne_zero n) rfl d]
    have hf : (cfg0.win 5).flush ⟨n, Nat.lt_of_succ_lt h⟩ = false := flush5' _ (by show n < 111; omega)
    refine (if_neg (by rw [show (⟨(⟨n + 1, h⟩ : Fin cfg0.N).val - 1, _⟩ : Fin cfg0.N) = ⟨n, Nat.lt_of_succ_lt h⟩ from rfl, hf]; exact Bool.false_ne_true)).trans ?_
    show (dats m 0 c).left 5 ⟨n, Nat.lt_of_succ_lt h⟩ d = _
    unfold Dat.left
    by_cases e : n = 56
    · subst e
      rw [idle5 ⟨56, Nat.lt_of_succ_lt h⟩ rfl]
      show (dats m 0 c).kept 5 ⟨56, Nat.lt_of_succ_lt h⟩ d = _
      exact after5 m c _
    · rw [idle5' ⟨n, Nat.lt_of_succ_lt h⟩ e]
      exact ih (Nat.lt_of_succ_lt h) (by omega)

/-- What the body hands back of window `w` at point `t`. -/
def Left (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)
theorem left_live (c : Dev nD) (w t) (h : cfg0.idle w (cfg0.grid.coords t) = false) :
    Left m c w t = owns (c : Thread nD τ) ((cfg0.win w).stage (cfg0.slots t w)) fullShare ((dats m 0 c).after w t) := by
  unfold Left; rw [h]
theorem left_idle (c : Dev nD) (w t) (h : cfg0.idle w (cfg0.grid.coords t) = true) (hf : (cfg0.win w).flush t = false) :
    Left m c w t = iprop(∃ d, owns (c : Thread nD τ) ((cfg0.win w).stage (cfg0.slots t w)) fullShare ((dats m 0 c).before w t d)) := by
  unfold Left; rw [h, hf]
theorem left_flush (c : Dev nD) (w t) (h : cfg0.idle w (cfg0.grid.coords t) = true) (hf : (cfg0.win w).flush t = true) :
    Left m c w t = owns (c : Thread nD τ) ((cfg0.win w).stage (cfg0.slots t w)) fullShare ((dats m 0 c).after w t) := by
  unfold Left; rw [h, hf]
/-- The windows a point of sweep 1 leaves alone are handed back as found. -/
theorem left2 (c : Dev nD) (k : Fin 56) : (iprop(∃ d, owns (c : Thread nD τ) (ms2 (pt1 k)) fullShare ((dats m 0 c).before 2 (pt1 k) d)) : sProp 𝕄) ⊢ Left m c 2 (pt1 k) := by
  have hi : 56 ≤ (pt1 k).val := Nat.le_add_right _ _
  by_cases e : k.val = 55
  · rw [left_flush m c 2 _ (idle2' _ hi) (flush2 _ (by show 111 ≤ 56 + k.val; omega)), after2]
    iintro ⟨%d, H⟩
    have hb : (dats m 0 c).before 2 (pt1 k) d = outA m c (ka (pt1 k).val) := by
      have h2 : ka (pt1 k).val = ka 55 := Fin.ext (by show min (56 + k.val) 55 = min 55 55; omega)
      rw [h2]; exact before2 m c d _ _ hi
    irw [← hb]
    iexact H
  · rw [left_idle m c 2 _ (idle2' _ hi) (flush2' _ (by omega) (by show 56 + k.val < 111; have := k.isLt; omega))]
theorem left5 (c : Dev nD) (k : Fin 56) (hk : k.val ≠ 0) : (iprop(∃ d, owns (c : Thread nD τ) (ms5 (pt1 k)) fullShare ((dats m 0 c).before 5 (pt1 k) d)) : sProp 𝕄) ⊢ Left m c 5 (pt1 k) := by
  have hi : (pt1 k).val ≠ 56 := fun h => hk (by have h' : 56 + k.val = 56 := h; omega)
  by_cases e : k.val = 55
  · rw [left_flush m c 5 _ (idle5' _ hi) (flush5 _ (by show 111 ≤ 56 + k.val; omega)), after5]
    iintro ⟨%d, H⟩
    have hb : (dats m 0 c).before 5 (pt1 k) d = outT m c := before5 m c d _ _ (by show 57 ≤ 56 + k.val; omega)
    irw [← hb]
    iexact H
  · rw [left_idle m c 5 _ (idle5' _ hi) (flush5' _ (by show 56 + k.val < 111; have := k.isLt; omega))]

/-! ## The body obligation -/

def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)))
def bodyPost (c : Dev nD) (t : Fin cfg0.N) : sProp 𝕄 :=
  iprop((dats m 0 c).Φ t.succ ∗ (dats m 0 c).owesAt () t.succ ∗ Left m c 0 t ∗ Left m c 1 t ∗ Left m c 2 t ∗ Left m c 3 t ∗ Left m c 4 t ∗ Left m c 5 t)

theorem owesAt_eq (c : Dev nD) (t) : ((dats m 0 c).owesAt () t : sProp 𝕄) ⊢ iprop(∃ W, owes (c : Thread nD τ) 0 W) := by
  unfold Dat.owesAt Pipeline.owesWithin
  rw [show (dats m 0 c).owed t = 0 from rfl]
  iintro ⟨%W, -, HW⟩
  iexists W; iexact HW
theorem eq_owesAt (c : Dev nD) (t) : iprop(∃ W, owes (c : Thread nD τ) 0 W) ⊢ ((dats m 0 c).owesAt () t : sProp 𝕄) := by
  unfold Dat.owesAt Pipeline.owesWithin
  rw [show (dats m 0 c).owed t = 0 from rfl]
  iintro ⟨%W, HW⟩
  iexists W; isplitr; · ipureintro; exact fun _ _ => Or.inl trivial
  iexact HW

theorem Φp_A (c : Dev nD) (p : ℕ) (h0 : p ≠ 0) (h : p ≤ 56) : Φp m c p = ΦA m c p := by unfold Φp; rw [if_neg h0, if_pos h]
theorem Φp_B (c : Dev nD) (p : ℕ) (h : 56 < p) : Φp m c p = ΦB m c := by unfold Φp; rw [if_neg (by omega), if_neg (by omega)]

/-- A block left out. -/
theorem bind_unit (p : Prog (TpuEff nD τ sig (Elt F) Λ₀ .tc) PUnit) : (p >>= fun _ => pure PUnit.unit) = p := bind_pure p
/-- The body at each kind of point: its live blocks in turn. -/
theorem body_first : bodyAt0 (F := F) (pt0 0) = (blk1 (co (pt0 0)) (ms0 (pt0 0)) (hs0 (pt0 0)) xM (Memref.isWhole_whole _) (ms1 (pt0 0)) (hs1 (pt0 0)) (ms2 (pt0 0)) (hs2 (pt0 0)) (ms3 (pt0 0)) (hs3 (pt0 0)) (ms4 (pt0 0)) (hs4 (pt0 0)) (ms5 (pt0 0)) (hs5 (pt0 0)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 h1_0 >>= fun _ => blk2 (co (pt0 0)) (ms0 (pt0 0)) (hs0 (pt0 0)) xM (Memref.isWhole_whole _) (ms1 (pt0 0)) (hs1 (pt0 0)) (ms2 (pt0 0)) (hs2 (pt0 0)) (ms3 (pt0 0)) (hs3 (pt0 0)) (ms4 (pt0 0)) (hs4 (pt0 0)) (ms5 (pt0 0)) (hs5 (pt0 0)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (h2_k 0)) := by
  unfold bodyAt0
  rw [skel_blocks, dif_pos h1_0, dif_pos (h2_k 0), dif_neg (fun h => absurd ((c3_iff (pt0 0)).1 h) (by decide)), dif_neg (fun h => absurd ((c4_iff (pt0 0)).1 h) (by decide))]
  simp only [pure_bind, bind_unit]
theorem body_sweep0 (k : Fin 56) (hk : k.val ≠ 0) : bodyAt0 (F := F) (pt0 k) = blk2 (co (pt0 k)) (ms0 (pt0 k)) (hs0 (pt0 k)) xM (Memref.isWhole_whole _) (ms1 (pt0 k)) (hs1 (pt0 k)) (ms2 (pt0 k)) (hs2 (pt0 k)) (ms3 (pt0 k)) (hs3 (pt0 k)) (ms4 (pt0 k)) (hs4 (pt0 k)) (ms5 (pt0 k)) (hs5 (pt0 k)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (h2_k k) := by
  have hl := k.isLt
  unfold bodyAt0
  rw [skel_blocks, dif_neg (fun h => hk ((c1_iff (pt0 k)).1 h)), dif_pos (h2_k k), dif_neg (fun h => absurd ((c3_iff (pt0 k)).1 h) (Nat.ne_of_lt hl)),
    dif_neg (fun h => absurd ((c4_iff (pt0 k)).1 h) (Nat.not_le_of_lt hl))]
  simp only [pure_bind, bind_unit]
theorem body_head : bodyAt0 (F := F) (pt1 0) = (blk3 (co (pt1 0)) (ms0 (pt1 0)) (hs0 (pt1 0)) xM (Memref.isWhole_whole _) (ms1 (pt1 0)) (hs1 (pt1 0)) (ms2 (pt1 0)) (hs2 (pt1 0)) (ms3 (pt1 0)) (hs3 (pt1 0)) (ms4 (pt1 0)) (hs4 (pt1 0)) (ms5 (pt1 0)) (hs5 (pt1 0)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 h3_0 >>= fun _ => blk4 (co (pt1 0)) (ms0 (pt1 0)) (hs0 (pt1 0)) xM (Memref.isWhole_whole _) (ms1 (pt1 0)) (hs1 (pt1 0)) (ms2 (pt1 0)) (hs2 (pt1 0)) (ms3 (pt1 0)) (hs3 (pt1 0)) (ms4 (pt1 0)) (hs4 (pt1 0)) (ms5 (pt1 0)) (hs5 (pt1 0)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (h4_k 0)) := by
  unfold bodyAt0
  rw [skel_blocks, dif_neg (fun h => absurd ((c1_iff (pt1 0)).1 h) (by decide)), dif_neg (fun h => absurd ((c2_iff (pt1 0)).1 h) (by decide)), dif_pos h3_0, dif_pos (h4_k 0)]
  simp only [pure_bind, bind_unit]
theorem body_sweep1 (k : Fin 56) (hk : k.val ≠ 0) : bodyAt0 (F := F) (pt1 k) = blk4 (co (pt1 k)) (ms0 (pt1 k)) (hs0 (pt1 k)) xM (Memref.isWhole_whole _) (ms1 (pt1 k)) (hs1 (pt1 k)) (ms2 (pt1 k)) (hs2 (pt1 k)) (ms3 (pt1 k)) (hs3 (pt1 k)) (ms4 (pt1 k)) (hs4 (pt1 k)) (ms5 (pt1 k)) (hs5 (pt1 k)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (h4_k k) := by
  have hv : (pt1 k).val = 56 + k.val := rfl
  unfold bodyAt0
  rw [skel_blocks, dif_neg (fun h => absurd ((c1_iff (pt1 k)).1 h) (by omega)), dif_neg (fun h => absurd ((c2_iff (pt1 k)).1 h) (by omega)),
    dif_neg (fun h => absurd ((c3_iff (pt1 k)).1 h) (by omega)), dif_pos (h4_k k)]
  simp only [pure_bind, bind_unit]

/-- The first point: the preparation, then sweep 0's first chunk. -/
theorem wp_sweep0 (c : Dev nD) (k : Fin 56) (Q : PUnit → sProp 𝕄) :
    iprop((Φp m c k.val ∗ PT c (ms0 (pt0 k)) ((hs0 (pt0 k)).unread (iblk m c 0 (pt0 k))) ∗ AnyPT c (ms2 (pt0 k)) ∗ ∃ W, owes (c : Thread nD τ) 0 W)
        ∗ ((ΦA m c (k.val + 1) ∗ PT c (ms0 (pt0 k)) ((hs0 (pt0 k)).unread (iblk m c 0 (pt0 k)))
            ∗ PT c (ms2 (pt0 k)) (run2 m c k (Memref.whole cc0_scratch1).view.junk (rm m c k.val)).1.1 ∗ ∃ W, owes (c : Thread nD τ) 0 W) -∗ Q ⟨⟩))
      ⊢ wp frame (wpE (defs₀ (F := F)) 𝒱₀ c none) Set.univ (bodyAt0 (pt0 k)) Q := by
  by_cases hk : k.val = 0
  · obtain rfl : k = 0 := Fin.ext hk
    rw [body_first, wp_bind]
    unfold Φp
    rw [if_pos hk]
    iintro ⟨⟨HΦ, H0, H2, HW⟩, Hk⟩
    iapply (step1 m c)
    isplitl [HΦ H0]
    · isplitl [HΦ]; · iexact HΦ
      iexact H0
    iintro ⟨HΦ, H0⟩
    iapply (step2 m c 0)
    isplitl [HΦ H2 HW]
    · isplitl [HΦ]; · iexact HΦ
      isplitl [H2]; · iexact H2
      iexact HW
    iintro ⟨HΦ, H2, HW⟩
    iapply Hk
    isplitl [HΦ]; · iexact HΦ
    isplitl [H0]; · iexact H0
    isplitl [H2]; · iexact H2
    iexact HW
  · rw [body_sweep0 k hk, Φp_A m c _ hk k.isLt.le]
    iintro ⟨⟨HΦ, H0, H2, HW⟩, Hk⟩
    iapply (step2 m c k)
    isplitl [HΦ H2 HW]
    · isplitl [HΦ]; · iexact HΦ
      isplitl [H2]; · iexact H2
      iexact HW
    iintro ⟨HΦ, H2, HW⟩
    iapply Hk
    isplitl [HΦ]; · iexact HΦ
    isplitl [H0]; · iexact H0
    isplitl [H2]; · iexact H2
    iexact HW

theorem sound0 (c : Dev nD) (k : Fin 56) : bodyPre m c (pt0 k) ⊢ wp frame (wpE (defs₀ (F := F)) 𝒱₀ c none) Set.univ (bodyAt0 (pt0 k)) (fun _ => bodyPost m c (pt0 k)) := by
  have hv : (pt0 k).val = k.val := rfl
  have hl := k.isLt
  unfold bodyPre bodyPost
  rw [show (dats m 0 c).Φ (pt0 k).castSucc = Φp m c k.val from rfl, show (dats m 0 c).Φ (pt0 k).succ = Φp m c (k.val + 1) from rfl,
    Φp_A m c (k.val + 1) (Nat.succ_ne_zero _) hl, left_live m c 0 _ rfl, left_live m c 1 _ rfl, left_live m c 2 _ (idle2 _ hl),
    left_idle m c 3 _ (idle3' _ hl) (flush3' _ hl), left_idle m c 4 _ (idle4' _ hl) (flush4' _ hl),
    left_idle m c 5 _ (idle5' _ (Nat.ne_of_lt hl)) (flush5' _ (by omega)), after0, after1, after2]
  simp only [before0, before1]
  iintro ⟨HΦ, HW, ⟨%d0, H0⟩, ⟨%d1, H1⟩, ⟨%d2, H2⟩, H3, H4, H5⟩
  ihave HW := (owesAt_eq m c _) $$ HW
  ihave H0 := (owns_PT c (ms0 (pt0 k)) (hs0 (pt0 k)) _) $$ H0
  ihave H2 := (owns_any c (ms2 (pt0 k)) (hs2 (pt0 k)) _) $$ H2
  iapply (wp_sweep0 m c k)
  isplitl [HΦ H0 H2 HW]
  · isplitl [HΦ]; · iexact HΦ
    isplitl [H0]; · iexact H0
    isplitl [H2]; · iexact H2
    iexact HW
  iintro ⟨HΦ, H0, H2, HW⟩
  isplitl [HΦ]; · iexact HΦ
  isplitl [HW]; · iapply (eq_owesAt m c _); iexact HW
  isplitl [H0]; · iapply (PT_owns c (ms0 (pt0 k)) (hs0 (pt0 k)) _ _ ((hs0 (pt0 k)).read_unread _)); iexact H0
  isplitl [H1]; · iexact H1
  isplitl [H2]
  · iapply (PT_owns c (ms2 (pt0 k)) (hs2 (pt0 k)) _ _ (show _ = outA m c (ka (pt0 k).val) from by
      rw [show ka (pt0 k).val = k from Fin.ext (by show min k.val 55 = k.val; omega)]; rfl))
    iexact H2
  isplitl [H3]; · iexact H3
  isplitl [H4]; · iexact H4
  iexact H5

/-- What the tensor scale's window holds after a point of sweep 1. -/
theorem wp_sweep1 (c : Dev nD) (k : Fin 56) (Q : PUnit → sProp 𝕄) :
    iprop((Φp m c (56 + k.val) ∗ PT c (ms1 (pt1 k)) ((hs1 (pt1 k)).unread (iblk m c 1 (pt1 k))) ∗ AnyPT c (ms3 (pt1 k)) ∗ AnyPT c (ms4 (pt1 k))
          ∗ (∃ d, owns (c : Thread nD τ) (ms5 (pt1 k)) fullShare ((dats m 0 c).before 5 (pt1 k) d)))
        ∗ ((ΦB m c ∗ PT c (ms1 (pt1 k)) ((hs1 (pt1 k)).unread (iblk m c 1 (pt1 k))) ∗ PT c (ms3 (pt1 k)) (run4 m c k).1.1
            ∗ PT c (ms4 (pt1 k)) (run4 m c k).1.2 ∗ Left m c 5 (pt1 k)) -∗ Q ⟨⟩))
      ⊢ wp frame (wpE (defs₀ (F := F)) 𝒱₀ c none) Set.univ (bodyAt0 (pt1 k)) Q := by
  by_cases hk : k.val = 0
  · obtain rfl : k = 0 := Fin.ext hk
    rw [body_head, wp_bind, left_live m c 5 _ (idle5 _ rfl), after5, Φp_A m c _ (by decide) (by decide)]
    iintro ⟨⟨HΦ, H1, H3, H4, ⟨%d5, H5⟩⟩, Hk⟩
    ihave H5 := (owns_any c (ms5 (pt1 0)) (hs5 (pt1 0)) _) $$ H5
    iapply (step3 m c)
    isplitl [HΦ H5]
    · isplitl [HΦ]; · iexact HΦ
      iexact H5
    iintro ⟨HΦ, H5⟩
    iapply (step4 m c 0)
    isplitl [HΦ H1 H3 H4]
    · isplitl [HΦ]; · iexact HΦ
      isplitl [H1]; · iexact H1
      isplitl [H3]; · iexact H3
      iexact H4
    iintro ⟨HΦ, H1, H3, H4⟩
    iapply Hk
    isplitl [HΦ]; · iexact HΦ
    isplitl [H1]; · iexact H1
    isplitl [H3]; · iexact H3
    isplitl [H4]; · iexact H4
    iapply (PT_owns c (ms5 (pt1 0)) (hs5 (pt1 0)) _ _ rfl)
    iexact H5
  · rw [body_sweep1 k hk, Φp_B m c _ (by omega)]
    iintro ⟨⟨HΦ, H1, H3, H4, H5⟩, Hk⟩
    iapply (step4 m c k)
    isplitl [HΦ H1 H3 H4]
    · isplitl [HΦ]; · iexact HΦ
      isplitl [H1]; · iexact H1
      isplitl [H3]; · iexact H3
      iexact H4
    iintro ⟨HΦ, H1, H3, H4⟩
    iapply Hk
    isplitl [HΦ]; · iexact HΦ
    isplitl [H1]; · iexact H1
    isplitl [H3]; · iexact H3
    isplitl [H4]; · iexact H4
    iapply (left5 m c k hk)
    iexact H5

theorem sound1 (c : Dev nD) (k : Fin 56) : bodyPre m c (pt1 k) ⊢ wp frame (wpE (defs₀ (F := F)) 𝒱₀ c none) Set.univ (bodyAt0 (pt1 k)) (fun _ => bodyPost m c (pt1 k)) := by
  have hv : (pt1 k).val = 56 + k.val := rfl
  have hl := k.isLt
  have hi : 56 ≤ (pt1 k).val := Nat.le_add_right _ _
  have hkc : kc (pt1 k).val = k := Fin.ext (by show (56 + k.val - 56) % 56 = k.val; omega)
  unfold bodyPre bodyPost
  rw [show (dats m 0 c).Φ (pt1 k).castSucc = Φp m c (56 + k.val) from rfl, show (dats m 0 c).Φ (pt1 k).succ = Φp m c (56 + k.val + 1) from rfl,
    Φp_B m c (56 + k.val + 1) (by omega), left_live m c 0 _ rfl, left_live m c 1 _ rfl,
    left_live m c 3 _ (idle3 _ hi), left_live m c 4 _ (idle4 _ hi), after0, after1, after3, after4, hkc]
  simp only [before0, before1]
  iintro ⟨HΦ, HW, ⟨%d0, H0⟩, ⟨%d1, H1⟩, H2, ⟨%d3, H3⟩, ⟨%d4, H4⟩, H5⟩
  ihave H1 := (owns_PT c (ms1 (pt1 k)) (hs1 (pt1 k)) _) $$ H1
  ihave H3 := (owns_any c (ms3 (pt1 k)) (hs3 (pt1 k)) _) $$ H3
  ihave H4 := (owns_any c (ms4 (pt1 k)) (hs4 (pt1 k)) _) $$ H4
  iapply (wp_sweep1 m c k)
  isplitl [HΦ H1 H3 H4 H5]
  · isplitl [HΦ]; · iexact HΦ
    isplitl [H1]; · iexact H1
    isplitl [H3]; · iexact H3
    isplitl [H4]; · iexact H4
    iexact H5
  iintro ⟨HΦ, H1, H3, H4, H5⟩
  isplitl [HΦ]; · iexact HΦ
  isplitl [HW]; · iapply (eq_owesAt m c _); iapply (owesAt_eq m c (pt1 k).castSucc); iexact HW
  isplitl [H0]; · iexact H0
  isplitl [H1]; · iapply (PT_owns c (ms1 (pt1 k)) (hs1 (pt1 k)) _ _ ((hs1 (pt1 k)).read_unread _)); iexact H1
  isplitl [H2]; · iapply (left2 m c k); iexact H2
  isplitl [H3]; · iapply (PT_owns c (ms3 (pt1 k)) (hs3 (pt1 k)) _ (outC m c k) rfl); iexact H3
  isplitl [H4]; · iapply (PT_owns c (ms4 (pt1 k)) (hs4 (pt1 k)) _ (outS m c k) rfl); iexact H4
  iexact H5

theorem sound_body (c : Dev nD) (t : Fin cfg0.N) : bodyPre m c t ⊢ wp frame (wpE (defs₀ (F := F)) 𝒱₀ c none) Set.univ (bodyAt0 t) (fun _ => bodyPost m c t) := by
  have hN : t.val < 112 := t.isLt
  by_cases h : t.val < 56
  · exact sound0 m c ⟨t.val, h⟩
  · have e : t = pt1 ⟨t.val - 56, by omega⟩ := Fin.ext (by show t.val = 56 + (t.val - 56); omega)
    rw [e]; exact sound1 m c _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

end Cert.Kernel.Hand

end
-- ==== Proof.Kernel.Run.lean ====
/-
  Hand-written, untrusted. The launch: the chunk buffer and the tokens dealt chunk by chunk at entry and gathered at exit; the run of
  @main and the frame.
-/
module

public import proofs.«01_k».proof.Proof.Kernel.Body

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Chunk by chunk -/

abbrev G56 (b : Fin 56) : Finset S1280x14336.Idx := (Rect.unit (s := S1280x14336) (grpOff b) S1280x256.size (grpOff_inb b)).set
abbrev S56s (s : Fin 56) : Finset S56x1280x256.Idx := (Rect.unit (s := S56x1280x256) (slotOff s) S1x1280x256.size (slotOff_inb s)).set
omit [FloatOps F] in
theorem grp_set (b : Fin 56) : (grp b : Memref sig .tc .hbm _ _).view.set = G56 b := View.set_slice_whole _ _
theorem mem_G56 (b : Fin 56) (y : S1280x14336.Idx) : y ∈ G56 b ↔ (y 1).val / 256 = b.val := by
  rw [Rect.mem_set_unit]
  have h0 : (y 0).val < 1280 := (y 0).isLt
  constructor
  · intro H
    have a1 : 256 * b.val ≤ (y 1).val ∧ (y 1).val < 256 * b.val + 256 := H 1
    omega
  · intro H a
    fin_cases a
    · show 0 ≤ (y 0).val ∧ (y 0).val < 0 + 1280; omega
    · show 256 * b.val ≤ (y 1).val ∧ (y 1).val < 256 * b.val + 256; omega
theorem mem_S56s (b : Fin 56) (y : S56x1280x256.Idx) : y ∈ S56s b ↔ (y 0).val = b.val := by
  rw [Rect.mem_set_unit]
  have h1 : (y 1).val < 1280 := (y 1).isLt
  have h2 : (y 2).val < 256 := (y 2).isLt
  constructor
  · intro H
    have a0 : b.val ≤ (y 0).val ∧ (y 0).val < b.val + 1 := H 0
    omega
  · intro H a
    fin_cases a
    · show b.val ≤ (y 0).val ∧ (y 0).val < b.val + 1; omega
    · show 0 ≤ (y 1).val ∧ (y 1).val < 0 + 1280; omega
    · show 0 ≤ (y 2).val ∧ (y 2).val < 0 + 256; omega
theorem G56_disjoint : ∀ b b' : Fin 56, b ≠ b' → Disjoint (G56 b) (G56 b') := by
  intro b b' hne; rw [Finset.disjoint_left]; intro y hy hy'; rw [mem_G56] at hy hy'; exact hne (Fin.ext (hy.symm.trans hy'))
theorem G56_cover : (Finset.univ : Finset (Fin 56)).biUnion G56 = Finset.univ := by
  ext y; simp only [Finset.mem_biUnion, Finset.mem_univ, true_and, iff_true]
  have h1 : (y 1).val < 14336 := (y 1).isLt
  exact ⟨⟨(y 1).val / 256, by omega⟩, by rw [mem_G56]⟩
theorem S56s_disjoint : ∀ b b' : Fin 56, b ≠ b' → Disjoint (S56s b) (S56s b') := by
  intro b b' hne; rw [Finset.disjoint_left]; intro y hy hy'; rw [mem_S56s] at hy hy'; exact hne (Fin.ext (hy.symm.trans hy'))
theorem S56s_cover : (Finset.univ : Finset (Fin 56)).biUnion S56s = Finset.univ := by
  ext y; simp only [Finset.mem_biUnion, Finset.mem_univ, true_and, iff_true]
  exact ⟨(y 0).cast (by rfl), by rw [mem_S56s]; rfl⟩

omit [FloatOps F] in
theorem slotP_eq (c : Dev nD) (s : Fin 56) (f) : slotP c s f = (((c : Thread nD τ).loc cc0_scratch0) ↦[S56s s]{fullShare} f : sProp 𝕄) :=
  congrArg (fun S => (_ ↦[S]{fullShare} f : sProp 𝕄)) (rslot_set s)
omit [FloatOps F] in
theorem ent_eq {P Q : sProp 𝕄} (h : P = Q) : P ⊢ Q := by rw [h]
omit [FloatOps F] in
theorem three (A B C : Fin 56 → sProp 𝕄) : bigSep Finset.univ (fun b => iprop(A b ∗ B b ∗ C b)) = iprop(bigSep Finset.univ A ∗ bigSep Finset.univ B ∗ bigSep Finset.univ C) :=
  (bigSep_sep Finset.univ A (fun b => iprop(B b ∗ C b))).trans (congrArg (fun X => iprop(bigSep Finset.univ A ∗ X)) (bigSep_sep Finset.univ B C))
omit [FloatOps F] in
theorem bmono (Φ Ψ : Fin 56 → sProp 𝕄) (h : ∀ s, Φ s ⊢ Ψ s) : bigSep Finset.univ Φ ⊢ bigSep Finset.univ Ψ := bigSep_mono fun s _ => h s
omit [FloatOps F] in
theorem slot_some (c : Dev nD) (s : Fin 56) (f) : (((c : Thread nD τ).loc cc0_scratch0) ↦[S56s s]{fullShare} f : sProp 𝕄) ⊢ iprop(∃ f, slotP c s f) := by
  iintro H; iexists f; iapply (ent_eq (slotP_eq c s f).symm); iexact H
omit [FloatOps F] in
theorem some_slot (c : Dev nD) (s : Fin 56) : (iprop(∃ f, slotP c s f) : sProp 𝕄) ⊢ iprop(∃ f, (((c : Thread nD τ).loc cc0_scratch0) ↦[S56s s]{fullShare} f)) := by
  iintro ⟨%f, H⟩; iexists f; iapply (ent_eq (slotP_eq c s f)); iexact H
omit [FloatOps F] in
theorem held_some (c : Dev nD) (s : Fin 56) (f) : (slotP c s f : sProp 𝕄) ⊢ iprop(∃ f, slotP c s f) := by
  iintro H; iexists f; iexact H

/-- The tokens whole are their chunks home; -/
theorem x_eq (c : Dev nD) :
    (((c : Thread nD τ).loc main_v0) ↦{fullShare} XA m c : sProp 𝕄) = bigSep Finset.univ (homeP c (XA m c)) := by
  rw [Ring.pointsTo_blocks (ℓ := (c : Thread nD τ).loc main_v0) G56 G56_disjoint G56_cover]
  exact bigSep_congr fun b _ => by rw [← grp_set]; rfl
/-- the chunk buffer whole is its slots, -/
theorem buf_split (c : Dev nD) :
    iprop(∃ f : Buf (Elt F) ((c : Thread nD τ).loc cc0_scratch0), ((c : Thread nD τ).loc cc0_scratch0) ↦{fullShare} f) ⊢ (bigSep Finset.univ (fun s : Fin 56 => iprop(∃ f, slotP c s f)) : sProp 𝕄) := by
  iintro ⟨%f, H⟩
  ihave H2 := (ent_eq (Ring.pointsTo_blocks (Ix := Unit) (Name := ℕ) (U := Pipeline.UD sig nD τ) (Lvl := ℕ) (q := fullShare) (ℓ := (c : Thread nD τ).loc cc0_scratch0) S56s S56s_disjoint S56s_cover f)) $$ H
  iapply (bmono _ _ (fun s => slot_some c s f))
  iexact H2
/-- and back. -/
theorem buf_join (c : Dev nD) :
    (bigSep Finset.univ (fun s : Fin 56 => iprop(∃ f, slotP c s f)) : sProp 𝕄) ⊢ iprop(∃ f : Buf (Elt F) ((c : Thread nD τ).loc cc0_scratch0), ((c : Thread nD τ).loc cc0_scratch0) ↦{fullShare} f) :=
  (bmono _ _ (fun s => some_slot c s)).trans
  (Ring.pointsTo_blocks_join_exists (ℓ := (c : Thread nD τ).loc cc0_scratch0) S56s S56s_disjoint S56s_cover ((Memref.whole cc0_scratch0).view.junk))

/-- The kernel's own cells. -/
def osem0 : Fin 56 → SemLoc sig := fun s => SemLoc.dma (csm s).sem
theorem ownSemFacts0 : Pipeline.OwnSemFacts spec0 osem0 := by decide +kernel

abbrev H0 : Finset (Ref sig .tc) := {main_v0}
abbrev R0 : Finset (Ref sig .tc) := ∅
theorem H0_sub : H0 ⊆ Pipeline.restRefs sig spec0 := by decide
theorem R0_sub : R0 ⊆ Pipeline.restRefs sig spec0 \ H0 := Finset.empty_subset _

theorem issuing_none (c : Dev nD) : issuing c (XA m c) 0 = freeP c (XA m c) := by
  funext b; unfold issuing; rw [if_neg (Nat.not_lt_zero _)]
theorem landing_full (c : Dev nD) : landing c (XA m c) 56 = heldP c (XA m c) := by
  funext b; unfold landing; rw [if_pos b.isLt]

theorem hin (c : Dev nD) : Pipeline.ΦDRV osem0 spec0 H0 R0 (V m) (V m) c ⊢ (dats m 0 c).Φ 0 := by
  rw [show (dats m 0 c).Φ 0 = Φ0 m c from rfl]
  unfold Pipeline.ΦDRV Φ0 Pipeline.ownSems0
  rw [scopedRest0_eq, bigSep_singleton, issuing_none]
  unfold freeP
  rw [three (fun b => iprop(∃ f, slotP c b f)) (homeP c (XA m c)) (cellP c), ← x_eq m c]
  iintro ⟨⟨HB, HS⟩, HC, HX, -⟩
  isplitr [HS]; swap; · iexact HS
  isplitl [HB]; · iapply (buf_split c); iexact HB
  isplitl [HX]; · iexact HX
  iexact HC

theorem hout (c : Dev nD) : (dats m 0 c).Φ (Fin.last cfg0.N) ⊢ Pipeline.ΦDRV osem0 spec0 H0 R0 (V m) (V m) c := by
  rw [show (dats m 0 c).Φ (Fin.last cfg0.N) = ΦB m c from rfl]
  unfold Pipeline.ΦDRV ΦB Pipeline.ownSems0
  rw [scopedRest0_eq, bigSep_singleton, bigSep_empty, landing_full]
  unfold heldP
  rw [three (fun b => slotP c b (landed c (XA m c) b (rslot b).view.junk)) (homeP c (XA m c)) (cellP c), ← x_eq m c]
  iintro ⟨⟨HB, HX, HC⟩, H1, H2, H3, H4, H5, H6, H7, H8⟩
  isplitl [HB H1 H2 H3 H4 H5 H6 H7 H8]
  · isplitl [HB]
    · iapply (buf_join c)
      iapply (bmono _ _ (fun s => held_some c s (landed c (XA m c) s (rslot s).view.junk)))
      iexact HB
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexact H8
  isplitl [HC]; · iexact HC
  isplitl [HX]; · iexact HX
  iempintro

/-! ## The run -/

set_option maxHeartbeats 800000 in
theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What @main ends with: the windows' arrays as the pipeline leaves them, every other buffer as the host lines after the region leave it,
    the semaphore counters at zero. -/
def Post (r : PUnit × MemSt nD τ sig (Elt F)) : Prop :=
  (∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b)
        = StableHlo.after [hostOps1].flatten (Pipeline.withArrays spec0 c (Pipeline.withR (V0 m c) R0 c (V m c)) fun w => (dats m 0 c).arrAt w cfg0.N) (Proc.devRef .tc b))
  ∧ r.2.sem = fun _ => 0

set_option backward.isDefEq.respectTransparency.types false in
theorem run_main : θ_run defs (onTc (τ := τ) (main (F := F))) (s₀ m ρ) (Post m) :=
  Pipeline.θ_run_frame_dmaR_aroundV cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := V m)
    (hmain := hmainD m) (hA := A_eq m) (hin := hin m) (hout := hout m) (Q' := Post m) (hQ' := fun r h => h)

/-- A buffer the region bypasses and no host line after it writes. -/
theorem withR_none (c : Dev nD) : Pipeline.withR (V0 m c) R0 c (V m c) = V0 m c := by
  funext b
  unfold Pipeline.withR
  simp

theorem W_arg0 (c : Dev nD) : StableHlo.after [hostOps1].flatten (Pipeline.withArrays spec0 c (Pipeline.withR (V0 m c) R0 c (V m c)) fun w => (dats m 0 c).arrAt w cfg0.N) (Proc.devRef .tc main_arg0) = m ((c : Thread nD τ).loc main_arg0) := by
  rw [withR_none, StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_arg2 (c : Dev nD) : StableHlo.after [hostOps1].flatten (Pipeline.withArrays spec0 c (Pipeline.withR (V0 m c) R0 c (V m c)) fun w => (dats m 0 c).arrAt w cfg0.N) (Proc.devRef .tc main_arg2) = m ((c : Thread nD τ).loc main_arg2) := by
  rw [withR_none, StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The three arguments end as launched. -/
theorem args_kept (r : PUnit × MemSt nD τ sig (Elt F)) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(((h.1 c).2 main_arg0 (Pipeline.mem_restRefs_of main_arg0 (by decide) (by decide))).trans (W_arg0 m c)),
    ((h.1 c).1 0).trans (((dats m 0 c).arrAt_in 0 rfl _).trans ((A_eq m c 0).trans (V_main_arg1 m c))),
    (((h.1 c).2 main_arg2 (Pipeline.mem_restRefs_of main_arg2 (by decide) (by decide))).trans (W_arg2 m c))⟩

/-- The frame: from any memory with zero counters @main terminates, its arguments unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_kept m r h c, h.2⟩) (run_main m ρ)

end Cert.Kernel.Hand

end
-- ==== Proof.KernelIdeal.Base.lean ====
/-
  Hand-written, untrusted. The kernel's transfers: chunk `b` of the tokens left in HBM, slot `b` of the chunk buffer and
  slot `b`'s own DMA cell, under canonical names, and what the core holds of a chunk before its transfer is issued, while
  it is in flight and after it has landed.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

abbrev 𝒱₀ : Variants := Variants.none

/-! ## Canonical names -/

abbrev xM : Memref sig .tc .hbm S1280x14336 .bf16 := Memref.whole main_v0
abbrev bufM : Memref sig .tc .vmem S56x1280x256 .bf16 := Memref.whole cc0_scratch0

abbrev semOff (s : Fin 56) : Fin 1 → Nat := ![s.val]
theorem semOff_inb (s : Fin 56) : ∀ a, semOff s a + S1.size a ≤ S56.size a := by
  have := s.isLt; intro a; fin_cases a; show s.val + 1 ≤ 56; omega
abbrev slotOff (s : Fin 56) : Fin 3 → Nat := ![s.val, 0, 0]
theorem slotOff_inb (s : Fin 56) : ∀ a, slotOff s a + S1x1280x256.size a ≤ S56x1280x256.size a := by
  have := s.isLt; intro a; fin_cases a
  · show s.val + 1 ≤ 56; omega
  · show 0 + 1280 ≤ 1280; omega
  · show 0 + 256 ≤ 256; omega
abbrev grpOff (b : Fin 56) : Fin 2 → Nat := ![0, 256 * b.val]
theorem grpOff_inb (b : Fin 56) : ∀ a, grpOff b a + S1280x256.size a ≤ S1280x14336.size a := by
  have := b.isLt; intro a; fin_cases a
  · show 0 + 1280 ≤ 1280; omega
  · show 256 * b.val + 256 ≤ 14336; omega

/-- Slot `s`'s DMA cell. -/
def csm (s : Fin 56) : DmaSems sig S_ := (cc0_scratch9.slice (Rect.unit (s := S56) (semOff s) S1.size (semOff_inb s))).squeeze S_ squeezes_S1_S_
/-- Slot `s` of the chunk buffer, as the body slices and squeezes it. -/
def rslot (s : Fin 56) : Memref sig .tc .vmem S1280x256 .bf16 :=
  (bufM.slice (Rect.unit (s := S56x1280x256) (slotOff s) S1x1280x256.size (slotOff_inb s)) (fun _ => rfl)).squeeze S1280x256 squeezes_S1x1280x256_S1280x256
/-- Chunk `b` of the tokens, as the body slices it. -/
def grp (b : Fin 56) : Memref sig .tc .hbm S1280x256 .bf16 :=
  xM.slice (Rect.unit (s := S1280x14336) (grpOff b) S1280x256.size (grpOff_inb b)) (fun _ => rfl)

instance (s : Fin 56) : ClosedOff (slotOff s) := ⟨slotOff s, rfl⟩
instance (b : Fin 56) : ClosedOff (grpOff b) := ⟨grpOff b, rfl⟩

theorem csm_congr {off : Fin 1 → Nat} {s : Fin 56} (e : off = semOff s) (hh) :
    (cc0_scratch9.slice (Rect.unit (s := S56) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 56} (e : off = slotOff s) (hh hs) :
    (bufM.slice (Rect.unit (s := S56x1280x256) off S1x1280x256.size hh) hs).squeeze S1280x256 squeezes_S1x1280x256_S1280x256 = rslot s :=
  congrArg (fun M : Memref sig .tc .vmem S1x1280x256 .bf16 => M.squeeze S1280x256 squeezes_S1x1280x256_S1280x256) (Memref.slice_unit_congr _ e _ _ _ _)
theorem grp_congr {off : Fin 2 → Nat} {b : Fin 56} (e : off = grpOff b) (hh hs) :
    xM.slice (Rect.unit (s := S1280x14336) off S1280x256.size hh) hs = grp b :=
  Memref.slice_unit_congr _ e _ _ _ (fun _ => rfl)

theorem trips_eq : k0_t1_loop.trips = 56 := by decide +kernel
/-- Trip `k`'s chunk. -/
def kb (k : Fin k0_t1_loop.trips) : Fin 56 := ⟨k.val, Nat.lt_of_lt_of_eq k.isLt trips_eq⟩

/-- The issuing loop's trip `k` names cell, slot and chunk `k`. -/
@[sl_canon] theorem semK (k : Fin k0_t1_loop.trips) (hh) :
    (cc0_scratch9.slice (Rect.unit (s := S56) (k0_off1 k) S1.size hh)).squeeze S_ squeezes_S1_S_ = csm (kb k) := csm_congr (k0_off1_eq k) _
@[sl_canon] theorem slotK (k : Fin k0_t1_loop.trips) (hh hs) :
    (bufM.slice (Rect.unit (s := S56x1280x256) (k0_off2 k) S1x1280x256.size hh) hs).squeeze S1280x256 squeezes_S1x1280x256_S1280x256 = rslot (kb k) := rslot_congr (k0_off2_eq k) _ _
@[sl_canon] theorem grpK (k : Fin k0_t1_loop.trips) (hh hs) :
    xM.slice (Rect.unit (s := S1280x14336) (k0_off3 k) S1280x256.size hh) hs = grp (kb k) := grp_congr (k0_off3_eq k) _ _

/-- Sweep 0's point `j` waits on cell, slot and chunk `j`. -/
def ij (i : grid0.Coords) : Fin 56 := i 1
@[sl_canon] theorem semI (i : grid0.Coords) (hh) :
    (cc0_scratch9.slice (Rect.unit (s := S56) (k0_off4 i) S1.size hh)).squeeze S_ squeezes_S1_S_ = csm (ij i) := csm_congr (k0_off4_eq i) _
@[sl_canon] theorem slotI (i : grid0.Coords) (hh hs) :
    (bufM.slice (Rect.unit (s := S56x1280x256) (k0_off5 i) S1x1280x256.size hh) hs).squeeze S1280x256 squeezes_S1x1280x256_S1280x256 = rslot (ij i) := rslot_congr (k0_off5_eq i) _ _
@[sl_canon] theorem grpI (i : grid0.Coords) (hh hs) :
    xM.slice (Rect.unit (s := S1280x14336) (k0_off6 i) S1280x256.size hh) hs = grp (ij i) := grp_congr (k0_off6_eq i) _ _

/-! ## The pieces -/

section Pieces
variable (c : Dev nD) (XA : Buf (Elt F) (xM.view.loc (c : Thread nD τ)))

abbrev cellP (s : Fin 56) : sProp 𝕄 := semVal ((c : Thread nD τ), SemLoc.dma (csm s).sem) 0
abbrev slotP (s : Fin 56) (f : Buf (Elt F) ((rslot s).view.loc (c : Thread nD τ))) : sProp 𝕄 :=
  (rslot s).view.loc (c : Thread nD τ) ↦[(rslot s).view.set]{fullShare} f
/-- Chunk `b` home: held on its elements at the tokens' contents. -/
abbrev homeP (b : Fin 56) : sProp 𝕄 := (grp b).view.loc (c : Thread nD τ) ↦[(grp b).view.set]{fullShare} XA
/-- Chunk `b`'s words as slot `b`'s payload. -/
abbrev payload (b : Fin 56) : S1280x256.Idx → Elt F .bf16 := ReadAs.same.apply ((grp b).view.read (Elt F) XA)
/-- What chunk `b`'s transfer leaves in slot `b` over prior contents `f`. -/
abbrev landed (b : Fin 56) (f : Buf (Elt F) ((rslot b).view.loc (c : Thread nD τ))) : Buf (Elt F) ((rslot b).view.loc (c : Thread nD τ)) :=
  (rslot b).view.writes (Elt F) f [⟨Rect.whole S1280x256, payload c XA b⟩]
/-- A chunk's transfer moves this many units on its cell. -/
abbrev NN : ℕ := 20480
/-- Chunk `b` in flight, issued over `f`. -/
abbrev flightP (b : Fin 56) (f : Buf (Elt F) ((rslot b).view.loc (c : Thread nD τ))) : sProp 𝕄 :=
  Transfers.Flight countersEmb (c : Thread nD τ) (SemLoc.dma (csm b).sem) () NN iprop(slotP c b (landed c XA b f) ∗ homeP c XA b)
/-- Chunk `b` before its transfer: its slot at anything, its home, its cell at zero. -/
def freeP (b : Fin 56) : sProp 𝕄 := iprop((∃ f, slotP c b f) ∗ homeP c XA b ∗ cellP c b)
/-- Chunk `b` after it has landed: its slot holding it, its home, its cell at zero. -/
def heldP (b : Fin 56) : sProp 𝕄 := iprop(slotP c b (landed c XA b (rslot b).view.junk) ∗ homeP c XA b ∗ cellP c b)
/-- Chunk `b` in flight over some contents. -/
def flyP (b : Fin 56) : sProp 𝕄 := iprop(∃ f, flightP c XA b f)

/-- The chunks before trip `k` of the issuing loop. -/
def issuing (k : ℕ) (b : Fin 56) : sProp 𝕄 := if b.val < k then flyP c XA b else freeP c XA b
/-- The chunks before point `p` of sweep 0, the loop past. -/
def landing (p : ℕ) (b : Fin 56) : sProp 𝕄 := if b.val < p then heldP c XA b else flyP c XA b

end Pieces

section Trip

variable (c : Dev nD) (XA : Buf (Elt F) (xM.view.loc (c : Thread nD τ)))
  (i : grid0.Coords) (arg2 : Memref sig .tc .smem S16 .f32) (harg2 : arg2.IsWhole)
  (arg4 : Memref sig .tc .vmem S256x1280 .i8) (harg4 : arg4.IsWhole) (arg5 : Memref sig .tc .vmem S80x256 .f32) (harg5 : arg5.IsWhole)
  (arg6 : Memref sig .tc .vmem S256x640 .i8) (harg6 : arg6.IsWhole) (arg7 : Memref sig .tc .vmem S80x256 .fp8e4m3) (harg7 : arg7.IsWhole)
  (arg8 : Memref sig .tc .vmem S1x1 .f32) (harg8 : arg8.IsWhole)

/-- One chunk's member apart from the others'. -/
theorem bigSep_out (b : Fin 56) (P : Fin 56 → sProp 𝕄) :
    bigSep Finset.univ P = iprop(P b ∗ bigSep (Finset.univ.erase b) P) := bigSep_erase (Finset.mem_univ b)

/-- Replacing one member of a separating product over the chunks. -/
theorem bigSep_swap {P Q : Fin 56 → sProp 𝕄} (b : Fin 56) (h : ∀ b', b' ≠ b → P b' = Q b') :
    bigSep (Finset.univ.erase b) P = bigSep (Finset.univ.erase b) Q :=
  bigSep_congr fun b' hb => h b' (Finset.ne_of_mem_erase hb)

set_option warn.classDefReducibility false in
/-- The issuing loop: before trip `k` the chunks below `k` are in flight, the others are free. -/
@[sl_loop] def loopInv (k0_h1 : k0_cond1 i = 1#1) :
    LoopInvTy_k0_t1 (F := F) Unit ℕ (Pipeline.UD sig nD τ) ℕ 𝒱₀ c none Set.univ i arg2 harg2 xM (Memref.isWhole_whole _) arg4 harg4 arg5 harg5 arg6 harg6 arg7 harg7 arg8 harg8
      bufM (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h1 where
  inv k _ := bigSep Finset.univ (issuing c XA k)
  step k _ := by
    have hk : (kb k).val = k.val := rfl
    have e1 : issuing c XA k.val (kb k) = freeP c XA (kb k) := if_neg (by omega)
    have e2 : issuing c XA (k.val + 1) (kb k) = flyP c XA (kb k) := if_pos (by omega)
    have e3 : ∀ b', b' ≠ kb k → issuing c XA k.val b' = issuing c XA (k.val + 1) b' := by
      intro b' hb
      have hne : b'.val ≠ k.val := fun h => hb (Fin.ext h)
      unfold issuing
      by_cases h : b'.val < k.val
      · rw [if_pos h, if_pos (by omega)]
      · rw [if_neg h, if_neg (by omega)]
    rw [bigSep_out (kb k) (issuing c XA k.val), bigSep_out (kb k) (issuing c XA (k.val + 1)), e1, e2, bigSep_swap (kb k) e3]
    unfold freeP flyP
    iintro ⟨⟨⟨%f, Hs⟩, Hh, Hc⟩, Hr⟩
    sl_unfold [k0_t1_body]
    sl_exec
    sl_step
    isplitr [Hr]; swap; · iexact Hr
    iexists f
    iexact Hc

end Trip

end Cert.KernelIdeal.Hand

end
-- ==== Proof.KernelIdeal.Blocks.lean ====
/-
  Hand-written, untrusted. The kernel body as its four conditional regions, each a program of its own: `blk1` (the first
  point: transfers issued, matrices and the running maximum prepared), `blk2` (sweep 0: one chunk's maxima), `blk3` (sweep
  1's first point: the tensor scale), `blk4` (sweep 1: one chunk quantised).
-/
module

public import proofs.«01_k».proof.Proof.KernelIdeal.Base

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The first point's preparation. -/
def blk1 (i : grid0.Coords) (arg2 : Memref sig .tc .smem S16 .f32) (harg2 : arg2.IsWhole) (arg3 : Memref sig .tc .hbm S1280x14336 .bf16) (harg3 : arg3.IsWhole) (arg4 : Memref sig .tc .vmem S256x1280 .i8) (harg4 : arg4.IsWhole) (arg5 : Memref sig .tc .vmem S80x256 .f32) (harg5 : arg5.IsWhole) (arg6 : Memref sig .tc .vmem S256x640 .i8) (harg6 : arg6.IsWhole) (arg7 : Memref sig .tc .vmem S80x256 .fp8e4m3) (harg7 : arg7.IsWhole) (arg8 : Memref sig .tc .vmem S1x1 .f32) (harg8 : arg8.IsWhole) (arg9 : Memref sig .tc .vmem S56x1280x256 .bf16) (harg9 : arg9.IsWhole) (arg10 : Memref sig .tc .vmem S56x80x256 .f32) (harg10 : arg10.IsWhole) (arg11 : Memref sig .tc .vmem S16x256 .f32) (harg11 : arg11.IsWhole) (arg12 : Memref sig .tc .vmem S8x128 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S128x256 .fp8e4m3) (harg16 : arg16.IsWhole) (arg17 : Memref sig .tc .vmem S640x512 .i8) (harg17 : arg17.IsWhole) (arg18 : DmaSems sig S56) (k0_h1 : k0_cond1 i = 1#1) :
    Prog (TpuEff nD τ sig (Elt F) Λ₀ .tc) PUnit := do
  let arg1 : BitVec 32 := BitVec.ofNat 32 (i 1).val
  let ⟨v18, v36, v38, v57⟩ : Σ' (v18 : IVec S256x256 32) (v36 : IVec S256x256 32) (v38 : IVec S256x256 32), IVec S256x256 1 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1
  let ⟨v61, v63, v99, c7_i32⟩ : Σ' (v61 : IVec S256x256 32) (v63 : IVec S256x256 32) (v99 : FVec F S256x256 .f32), BitVec 32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v18 v36 v38 v57
  let ⟨v139, v141, v142⟩ : Σ' (v139 : FVec F S256x256 .f32) (v141 : IVec S256x256 1), Elt F .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v63 v99 c7_i32
  let ⟨v144, v161, v185, c16_i32_40, v187, c0_i32_41⟩ : Σ' (v144 : FVec F S256x256 .f32) (v161 : FVec F S256x256 .f32) (v185 : IVec S256x256 32) (c16_i32_40 : BitVec 32) (v187 : IVec S256x256 32), BitVec 32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v18 v61 v63 v139 v141 v142
  let ⟨v220, v221, v223, v225, v227, v229, v231⟩ : Σ' (v220 : IVec S256x256 32) (v221 : IVec S256x256 32) (v223 : BitVec 32) (v225 : IVec S256x256 32) (v227 : IVec S256x256 1) (v229 : IVec S256x256 1), IVec S256x256 1 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v18 v144 v161 v185 c16_i32_40 v187 c0_i32_41
  let ⟨v264, v266, v277⟩ : Σ' (v264 : IVec S256x256 32) (v266 : IVec S256x256 32), FVec F S256x256 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v220 v221 v223 v225 v227 v229 v231
  let ⟨v317, v319⟩ : Σ' (v317 : FVec F S256x256 .f32), IVec S256x256 1 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v266 v277
  let ⟨v347, v362, v363⟩ : Σ' (v347 : FVec F S256x256 .f32) (v362 : FVec F S256x256 .f32), FVec F S256x256 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v264 v266 v317 v319
  let ⟨v364, v388, v390, v409, c1_i32_117⟩ : Σ' (v364 : FVec F S256x256 .f32) (v388 : IVec S256x256 32) (v390 : IVec S256x256 32) (v409 : IVec S256x256 1), BitVec 32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v221 v264 v362 v363
  let ⟨v423, v424, v442, c128_i32_129, v444, v451, v453⟩ : Σ' (v423 : IVec S256x256 32) (v424 : IVec S256x256 32) (v442 : IVec S256x256 32) (c128_i32_129 : BitVec 32) (v444 : IVec S256x256 32) (v451 : IVec S256x256 32), BitVec 32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v347 v364 v388 v390 v409 c1_i32_117
  k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v423 v424 v442 c128_i32_129 v444 v451 v453
  pure ⟨⟩

/-- Sweep 0 at one chunk. -/
def blk2 (i : grid0.Coords) (arg2 : Memref sig .tc .smem S16 .f32) (harg2 : arg2.IsWhole) (arg3 : Memref sig .tc .hbm S1280x14336 .bf16) (harg3 : arg3.IsWhole) (arg4 : Memref sig .tc .vmem S256x1280 .i8) (harg4 : arg4.IsWhole) (arg5 : Memref sig .tc .vmem S80x256 .f32) (harg5 : arg5.IsWhole) (arg6 : Memref sig .tc .vmem S256x640 .i8) (harg6 : arg6.IsWhole) (arg7 : Memref sig .tc .vmem S80x256 .fp8e4m3) (harg7 : arg7.IsWhole) (arg8 : Memref sig .tc .vmem S1x1 .f32) (harg8 : arg8.IsWhole) (arg9 : Memref sig .tc .vmem S56x1280x256 .bf16) (harg9 : arg9.IsWhole) (arg10 : Memref sig .tc .vmem S56x80x256 .f32) (harg10 : arg10.IsWhole) (arg11 : Memref sig .tc .vmem S16x256 .f32) (harg11 : arg11.IsWhole) (arg12 : Memref sig .tc .vmem S8x128 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S128x256 .fp8e4m3) (harg16 : arg16.IsWhole) (arg17 : Memref sig .tc .vmem S640x512 .i8) (harg17 : arg17.IsWhole) (arg18 : DmaSems sig S56) (k0_h2 : k0_cond2 i = 1#1) :
    Prog (TpuEff nD τ sig (Elt F) Λ₀ .tc) PUnit := do
  let arg1 : BitVec 32 := BitVec.ofNat 32 (i 1).val
  let ⟨v37, v45⟩ : Σ' (v37 : FVec F S16x256 .f32), FVec F S16x256 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h2
  let v79 : FVec F S16x256 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h2 v37 v45
  let v81 : Vec F S1x256x256 .bf16 ← Prog.lift (.load arg9 (Rect.unit (s := S56x1280x256) (k0_off15 i) S1x256x256.size (k0_off15_inb i k0_h2)).toLoadRect (View.loadsAt_vmem h_S1x256x256))
  let v83 : Vec F S256x256 .bf16 ← Prog.lift (.load arg13 (Rect.unit (s := S256x256) ![0, 0] S256x256.size inb_S256x256_S256x256_0_0).toLoadRect (View.loadsAt_vmem h_S256x256))
  let v88 : Vec F S16x256 .f32 ← Prog.lift (.load arg5 (Rect.unit (s := S80x256) ![64, 0] S16x256.size inb_S80x256_S16x256_64_0).toLoadRect (View.loadsAt_vmem h_S16x256))
  Prog.lift (.store arg5 (Rect.unit (s := S80x256) ![64, 0] S16x256.size inb_S80x256_S16x256_64_0) (k0_pay1 v81 v83) Finset.univ (View.stores_vmem_bits_univ h_S16x256 rfl) (.inl rfl))
  let v90 : Vec F S1x16x256 .f32 ← Prog.lift (.load arg10 (Rect.unit (s := S56x80x256) (k0_off16 i) S1x16x256.size (k0_off16_inb i k0_h2)).toLoadRect (View.loadsAt_vmem h_S1x16x256))
  Prog.lift (.store arg10 (Rect.unit (s := S56x80x256) (k0_off16 i) S1x16x256.size (k0_off16_inb i k0_h2)) (k0_pay2 v81 v83) Finset.univ (View.stores_vmem_bits_univ h_S1x16x256 rfl) (.inl rfl))
  let v94 : Vec F S16x256 .f32 ← Prog.lift (.load arg11 (Rect.unit (s := S16x256) ![0, 0] S16x256.size inb_S16x256_S16x256_0_0).toLoadRect (View.loadsAt_vmem h_S16x256))
  Prog.lift (.store arg11 (Rect.unit (s := S16x256) ![0, 0] S16x256.size inb_S16x256_S16x256_0_0) (k0_pay3 v79 v81 v83) Finset.univ (View.stores_vmem_bits_univ h_S16x256 rfl) (.inl rfl))
  pure ⟨⟩

/-- The tensor scale, at sweep 1's first point. -/
def blk3 (i : grid0.Coords) (arg2 : Memref sig .tc .smem S16 .f32) (harg2 : arg2.IsWhole) (arg3 : Memref sig .tc .hbm S1280x14336 .bf16) (harg3 : arg3.IsWhole) (arg4 : Memref sig .tc .vmem S256x1280 .i8) (harg4 : arg4.IsWhole) (arg5 : Memref sig .tc .vmem S80x256 .f32) (harg5 : arg5.IsWhole) (arg6 : Memref sig .tc .vmem S256x640 .i8) (harg6 : arg6.IsWhole) (arg7 : Memref sig .tc .vmem S80x256 .fp8e4m3) (harg7 : arg7.IsWhole) (arg8 : Memref sig .tc .vmem S1x1 .f32) (harg8 : arg8.IsWhole) (arg9 : Memref sig .tc .vmem S56x1280x256 .bf16) (harg9 : arg9.IsWhole) (arg10 : Memref sig .tc .vmem S56x80x256 .f32) (harg10 : arg10.IsWhole) (arg11 : Memref sig .tc .vmem S16x256 .f32) (harg11 : arg11.IsWhole) (arg12 : Memref sig .tc .vmem S8x128 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S128x256 .fp8e4m3) (harg16 : arg16.IsWhole) (arg17 : Memref sig .tc .vmem S640x512 .i8) (harg17 : arg17.IsWhole) (arg18 : DmaSems sig S56) (k0_h3 : k0_cond3 i = 1#1) :
    Prog (TpuEff nD τ sig (Elt F) Λ₀ .tc) PUnit := do
  let arg1 : BitVec 32 := BitVec.ofNat 32 (i 1).val
  let v16 : Vec F S16x256 .f32 ← Prog.lift (.load arg11 (Rect.unit (s := S16x256) ![0, 0] S16x256.size inb_S16x256_S16x256_0_0).toLoadRect (View.loadsAt_vmem h_S16x256))
  let v30 : Vec F S8x128 .f32 ← Prog.lift (.load arg12 (Rect.unit (s := S8x128) ![0, 0] S8x128.size inb_S8x128_S8x128_0_0).toLoadRect (View.loadsAt_vmem h_S8x128))
  Prog.lift (.store arg12 (Rect.unit (s := S8x128) ![0, 0] S8x128.size inb_S8x128_S8x128_0_0) (k0_pay5 v16) Finset.univ (View.stores_vmem_bits_univ h_S8x128 rfl) (.inl rfl))
  let v33 : Vec F S1x1 .f32 ← Prog.lift (.load arg8 (Rect.unit (s := S1x1) ![0, 0] S1x1.size inb_S1x1_S1x1_0_0).toLoadRect (View.loadsAt_vmem h_S1x1))
  Prog.lift (.store arg8 (Rect.unit (s := S1x1) ![0, 0] S1x1.size inb_S1x1_S1x1_0_0) (k0_pay4 v16) Finset.univ (View.stores_vmem_bits_univ h_S1x1 rfl) (.inl rfl))
  pure ⟨⟩

/-- Sweep 1 at one chunk. -/
def blk4 (i : grid0.Coords) (arg2 : Memref sig .tc .smem S16 .f32) (harg2 : arg2.IsWhole) (arg3 : Memref sig .tc .hbm S1280x14336 .bf16) (harg3 : arg3.IsWhole) (arg4 : Memref sig .tc .vmem S256x1280 .i8) (harg4 : arg4.IsWhole) (arg5 : Memref sig .tc .vmem S80x256 .f32) (harg5 : arg5.IsWhole) (arg6 : Memref sig .tc .vmem S256x640 .i8) (harg6 : arg6.IsWhole) (arg7 : Memref sig .tc .vmem S80x256 .fp8e4m3) (harg7 : arg7.IsWhole) (arg8 : Memref sig .tc .vmem S1x1 .f32) (harg8 : arg8.IsWhole) (arg9 : Memref sig .tc .vmem S56x1280x256 .bf16) (harg9 : arg9.IsWhole) (arg10 : Memref sig .tc .vmem S56x80x256 .f32) (harg10 : arg10.IsWhole) (arg11 : Memref sig .tc .vmem S16x256 .f32) (harg11 : arg11.IsWhole) (arg12 : Memref sig .tc .vmem S8x128 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S128x256 .fp8e4m3) (harg16 : arg16.IsWhole) (arg17 : Memref sig .tc .vmem S640x512 .i8) (harg17 : arg17.IsWhole) (arg18 : DmaSems sig S56) (k0_h4 : k0_cond4 i = 1#1) :
    Prog (TpuEff nD τ sig (Elt F) Λ₀ .tc) PUnit := do
  let arg1 : BitVec 32 := BitVec.ofNat 32 (i 1).val
  let ⟨v38, v43, v50, v51⟩ : Σ' (v38 : FVec F S80x256 .f32) (v43 : FVec F S256x256 .f32) (v50 : FVec F S256x256 .f32), FVec F S16x256 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h4
  let ⟨v55, v57, v94, v95⟩ : Σ' (v55 : FVec F S128x256 .f32) (v57 : FVec F S128x256 .f32) (v94 : IVec S128x256 32), FVec F S128x256 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v43 v50 v51
  let ⟨v111, v117, v123, v130, v135⟩ : Σ' (v111 : FVec F S128x256 .f32) (v117 : FVec F S128x256 .f32) (v123 : IVec S128x256 1) (v130 : FVec F S128x256 .f32), IVec S128x256 32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v43 v55 v57 v94 v95
  let ⟨v168, v173⟩ : Σ' (v168 : FVec F S256x256 .f32), FVec F S256x256 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h4 v50 v111 v117 v123 v130 v135
  let ⟨v175, v180, v182, v217, c22_i32_88⟩ : Σ' (v175 : FVec F S256x256 .f32) (v180 : FVec F S128x256 .f32) (v182 : FVec F S128x256 .f32) (v217 : IVec S128x256 32), BitVec 32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v38 v168 v173
  let ⟨v236, v242, v244, v246, v248, v255, v256, v257⟩ : Σ' (v236 : FVec F S128x256 .f32) (v242 : FVec F S128x256 .f32) (v244 : IVec S128x256 1) (v246 : IVec S128x256 1) (v248 : IVec S128x256 1) (v255 : FVec F S128x256 .f32) (v256 : IVec S128x256 32), IVec S128x256 32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v168 v180 v182 v217 c22_i32_88
  let ⟨v293, v296⟩ : Σ' (v293 : FVec F S256x256 .f32), FVec F S256x256 .bf16 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h4 v175 v236 v242 v244 v246 v248 v255 v256 v257
  let ⟨v300, v305, v307, v337, v339, c1249902592_i32_141⟩ : Σ' (v300 : FVec F S256x256 .f32) (v305 : FVec F S128x256 .f32) (v307 : FVec F S128x256 .f32) (v337 : IVec S128x256 32) (v339 : IVec S128x256 32), BitVec 32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v38 v293 v296
  let ⟨v361, v367, v369, v371, v373, v380⟩ : Σ' (v361 : FVec F S128x256 .f32) (v367 : FVec F S128x256 .f32) (v369 : IVec S128x256 1) (v371 : IVec S128x256 1) (v373 : IVec S128x256 1), FVec F S128x256 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v293 v305 v307 v337 v339 c1249902592_i32_141
  let v418 : FVec F S256x256 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h4 v300 v361 v367 v369 v371 v373 v380
  let ⟨v425, v430, v432, v458, v461⟩ : Σ' (v425 : FVec F S256x256 .f32) (v430 : FVec F S128x256 .f32) (v432 : FVec F S128x256 .f32) (v458 : IVec S128x256 32), IVec S128x256 32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v38 v418
  let ⟨v486, v492, v494, v496, v498, v501, v502⟩ : Σ' (v486 : FVec F S128x256 .f32) (v492 : FVec F S128x256 .f32) (v494 : IVec S128x256 1) (v496 : IVec S128x256 1) (v498 : IVec S128x256 1) (v501 : FVec F S128x256 .f32), FVec F S128x256 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v418 v425 v430 v432 v458 v461
  let ⟨v541, v542⟩ : Σ' (v541 : FVec F S256x256 .bf16), Vec F S256x256 .bf16 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k0_h4 v425 v486 v492 v494 v496 v498 v501 v502
  let ⟨v543, v550, v555, v557, v563, v569, v576, v581, v582⟩ : Σ' (v543 : FVec F S256x256 .f32) (v550 : FVec F S256x256 .f32) (v555 : FVec F S128x256 .f32) (v557 : FVec F S128x256 .f32) (v563 : FVec F S128x256 .f32) (v569 : IVec S128x256 1) (v576 : FVec F S128x256 .f32) (v581 : IVec S128x256 32), IVec S128x256 32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v38 v541 v542
  let ⟨v611, v617, v619, v621, v623, cst_264, v624⟩ : Σ' (v611 : FVec F S128x256 .f32) (v617 : FVec F S128x256 .f32) (v619 : IVec S128x256 1) (v621 : IVec S128x256 1) (v623 : IVec S128x256 1) (cst_264 : F .f32), FVec F S128x256 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v543 v550 v555 v557 v563 v569 v576 v581 v582
  let v665 : FVec F S640x256 .fp8e4m3 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v550 v611 v617 v619 v621 v623 cst_264 v624
  let ⟨v702, c2004318071_i32_301⟩ : Σ' (v702 : IVec S32x640 32), BitVec 32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v665
  let v711 : Vec F S128x640 .i8 ← Prog.lift (.load arg6 (Rect.unit (s := S256x640) ![128, 0] S128x640.size inb_S256x640_S128x640_128_0).toLoadRect (View.loadsAt_vmem h_S128x640))
  Prog.lift (.store arg6 (Rect.unit (s := S256x640) ![128, 0] S128x640.size inb_S256x640_S128x640_128_0) (k0_pay6 v702 c2004318071_i32_301) Finset.univ (View.stores_vmem h_S128x640 (harg6.storeExact_slice rfl _ packedi8_S256x640_S128x640_128_0) (fun _ => rfl)) (.inl rfl))
  pure ⟨⟩

omit [FloatOps F] in
/-- A first step taken out of a region. -/
theorem step_out {α β γ : Type} (p : Prog (TpuEff nD τ sig (Elt F) Λ₀ .tc) α) {f : α → Prog (TpuEff nD τ sig (Elt F) Λ₀ .tc) γ}
    {g : α → Prog (TpuEff nD τ sig (Elt F) Λ₀ .tc) β} {k : β → Prog (TpuEff nD τ sig (Elt F) Λ₀ .tc) γ}
    (h : ∀ x, f x = g x >>= k) : p >>= f = (p >>= g) >>= k := by
  rw [bind_assoc]; exact congrArg _ (funext h)

omit [FloatOps F] in
/-- A conditional region followed by a continuation. -/
theorem ite_then {c : Prop} {_ : Decidable c} (A : c → Prog (TpuEff nD τ sig (Elt F) Λ₀ .tc) PUnit)
    {B : c → Prog (TpuEff nD τ sig (Elt F) Λ₀ .tc) PUnit} {r : Prog (TpuEff nD τ sig (Elt F) Λ₀ .tc) PUnit}
    {J : PUnit → Prog (TpuEff nD τ sig (Elt F) Λ₀ .tc) PUnit} (hA : ∀ h, A h = B h >>= fun _ => r) (hJ : r = J ⟨⟩) :
    (if h : c then A h else r) = (if h : c then B h else pure ⟨⟩) >>= J := by
  have e : J = fun _ => r := funext fun ⟨⟩ => hJ.symm
  rw [e]
  by_cases h : c
  · rw [dif_pos h, dif_pos h, hA]
  · rw [dif_neg h, dif_neg h, pure_bind]

set_option maxRecDepth 65536 in
set_option maxHeartbeats 2000000 in
/-- The body is its four regions under their conditions. -/
theorem skel_blocks (i : grid0.Coords) (arg2 : Memref sig .tc .smem S16 .f32) (harg2 : arg2.IsWhole) (arg3 : Memref sig .tc .hbm S1280x14336 .bf16) (harg3 : arg3.IsWhole) (arg4 : Memref sig .tc .vmem S256x1280 .i8) (harg4 : arg4.IsWhole) (arg5 : Memref sig .tc .vmem S80x256 .f32) (harg5 : arg5.IsWhole) (arg6 : Memref sig .tc .vmem S256x640 .i8) (harg6 : arg6.IsWhole) (arg7 : Memref sig .tc .vmem S80x256 .fp8e4m3) (harg7 : arg7.IsWhole) (arg8 : Memref sig .tc .vmem S1x1 .f32) (harg8 : arg8.IsWhole) (arg9 : Memref sig .tc .vmem S56x1280x256 .bf16) (harg9 : arg9.IsWhole) (arg10 : Memref sig .tc .vmem S56x80x256 .f32) (harg10 : arg10.IsWhole) (arg11 : Memref sig .tc .vmem S16x256 .f32) (harg11 : arg11.IsWhole) (arg12 : Memref sig .tc .vmem S8x128 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S128x256 .fp8e4m3) (harg16 : arg16.IsWhole) (arg17 : Memref sig .tc .vmem S640x512 .i8) (harg17 : arg17.IsWhole) (arg18 : DmaSems sig S56) :
    cc0_nvfp4_rht_sr (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 =
      ((if k0_h1 : k0_cond1 i = 1#1 then blk1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 else pure ⟨⟩) >>= fun _ =>
      ((if k0_h2 : k0_cond2 i = 1#1 then blk2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h2 else pure ⟨⟩) >>= fun _ =>
      ((if k0_h3 : k0_cond3 i = 1#1 then blk3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h3 else pure ⟨⟩) >>= fun _ =>
      (if k0_h4 : k0_cond4 i = 1#1 then blk4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h4 else pure ⟨⟩)))) := by
  rw [cc0_nvfp4_rht_sr_eq_skeleton]
  unfold cc0_nvfp4_rht_sr_skel
  dsimp only
  refine ite_then (F := F) _ (fun h => ?_) ?_
  · unfold blk1
    repeat refine step_out _ fun x => ?_
    rfl
  refine ite_then (F := F) _ (fun h => ?_) ?_
  · unfold blk2
    repeat refine step_out _ fun x => ?_
    rfl
  refine ite_then (F := F) _ (fun h => ?_) ?_
  · unfold blk3
    repeat refine step_out _ fun x => ?_
    rfl
  by_cases h : k0_cond4 i = 1#1
  · rw [dif_pos h, dif_pos h, ← bind_pure (blk4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h)]
    unfold blk4
    repeat refine step_out _ fun x => ?_
    rfl
  · rw [dif_neg h, dif_neg h]

end Cert.KernelIdeal.Hand

end
-- ==== Proof.KernelIdeal.Sweep0.lean ====
/-
  Hand-written, untrusted. Sweep 0 at one chunk: the wait, the five slabs' block maxima, the running maximum.
-/
module

public import proofs.«01_k».proof.Proof.KernelIdeal.Blocks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Sweep0
variable (c : Dev nD) (XA : Buf (Elt F) (xM.view.loc (c : Thread nD τ))) (i : grid0.Coords) (arg2 : Memref sig .tc .smem S16 .f32) (harg2 : arg2.IsWhole)
  (arg4 : Memref sig .tc .vmem S256x1280 .i8) (harg4 : arg4.IsWhole) (arg5 : Memref sig .tc .vmem S80x256 .f32) (harg5 : arg5.IsWhole)
  (arg6 : Memref sig .tc .vmem S256x640 .i8) (harg6 : arg6.IsWhole) (arg7 : Memref sig .tc .vmem S80x256 .fp8e4m3) (harg7 : arg7.IsWhole)
  (arg8 : Memref sig .tc .vmem S1x1 .f32) (harg8 : arg8.IsWhole)

/-- The chunks before point `p`, chunk `b` of them apart. -/
abbrev PT {sp : _} {s : Shape} {e : _} (c : Dev nD) (M : Memref sig .tc sp s e) (f : Buf (Elt F) (M.view.loc (c : Thread nD τ))) : sProp 𝕄 :=
  M.view.loc (c : Thread nD τ) ↦{fullShare} f

omit [FloatOps F] in
theorem rslot_set (b : Fin 56) : (rslot b : Memref sig .tc .vmem _ _).view.set = (Rect.unit (s := S56x1280x256) (slotOff b) S1x1280x256.size (slotOff_inb b)).set :=
  (View.set_reshape _ _).trans (View.set_slice_whole _ _)

omit [FloatOps F] in
/-- A slab of slot `b` lies in slot `b`. -/
theorem slab_sub (b : Fin 56) (n : ℕ) (hh : ∀ a, (![b.val, n, 0] : Fin 3 → ℕ) a + S1x256x256.size a ≤ S56x1280x256.size a) {off : Fin 3 → ℕ}
    (e : off = ![b.val, n, 0]) (hh') :
    (bufM.access (Rect.unit (s := S56x1280x256) off S1x256x256.size hh')).set ⊆ (rslot b : Memref sig .tc .vmem _ _).view.set := by
  subst e
  rw [rslot_set]
  refine (View.set_slice_whole _ _).subset.trans ?_
  intro y hy
  rw [Rect.mem_set_unit] at hy ⊢
  have h1 : n + 256 ≤ 1280 := hh 1
  intro a
  have := hy a
  fin_cases a
  · exact this
  · have h2 : n ≤ (y 1).val ∧ (y 1).val < n + 256 := hy 1
    show 0 ≤ (y 1).val ∧ (y 1).val < 0 + 1280; omega
  · exact this

set_option maxHeartbeats 4000000 in
def blk2Run (k0_h2 : k0_cond2 i = 1#1) (f10 : Buf (Elt F) ((Memref.whole cc0_scratch1).view.loc (c : Thread nD τ)))
    (f11 : Buf (Elt F) ((Memref.whole cc0_scratch2).view.loc (c : Thread nD τ)))
    (f13 : Buf (Elt F) ((Memref.whole cc0_scratch4).view.loc (c : Thread nD τ))) :
    { R : Buf (Elt F) (arg5.view.loc (c : Thread nD τ)) × Buf (Elt F) ((Memref.whole cc0_scratch1).view.loc (c : Thread nD τ)) × Buf (Elt F) ((Memref.whole cc0_scratch2).view.loc (c : Thread nD τ)) //
      ∀ g5 (Q : PUnit → sProp 𝕄),
        iprop((flyP c XA (ij i) ∗ PT c arg5 g5 ∗ PT c (Memref.whole cc0_scratch1) f10 ∗ PT c (Memref.whole cc0_scratch2) f11 ∗ PT c (Memref.whole cc0_scratch4) f13
            ∗ ∃ W, owes (c : Thread nD τ) 0 W)
          ∗ ((heldP c XA (ij i) ∗ PT c arg5 R.1 ∗ PT c (Memref.whole cc0_scratch1) R.2.1 ∗ PT c (Memref.whole cc0_scratch2) R.2.2 ∗ PT c (Memref.whole cc0_scratch4) f13
            ∗ ∃ W, owes (c : Thread nD τ) 0 W) -∗ Q ⟨⟩))
          ⊢ wp frame (wpE (defs₀ (F := F)) 𝒱₀ (c : Thread nD τ) none) Set.univ (blk2 i arg2 harg2 xM (Memref.isWhole_whole _) arg4 harg4 arg5 harg5 arg6 harg6 arg7 harg7 arg8 harg8 bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h2) Q } := by
  refine ⟨(?_, ?_, ?_), fun g5 Q => ?run⟩
  case run =>
    dsimp only
    unfold flyP PT
    iintro ⟨⟨⟨%f0, HF⟩, H5, H10, H11, H13, ⟨%W, HW⟩⟩, Hk⟩
    unfold blk2
    have hs0 := slab_sub (ij i) 0 (k0_off7_eq i ▸ k0_off7_inb i k0_h2) (k0_off7_eq i) (k0_off7_inb i k0_h2)
    have hs1 := slab_sub (ij i) 256 (k0_off9_eq i ▸ k0_off9_inb i k0_h2) (k0_off9_eq i) (k0_off9_inb i k0_h2)
    have hs2 := slab_sub (ij i) 512 (k0_off11_eq i ▸ k0_off11_inb i k0_h2) (k0_off11_eq i) (k0_off11_inb i k0_h2)
    have hs3 := slab_sub (ij i) 768 (k0_off13_eq i ▸ k0_off13_inb i k0_h2) (k0_off13_eq i) (k0_off13_inb i k0_h2)
    have hs4 := slab_sub (ij i) 1024 (k0_off15_eq i ▸ k0_off15_inb i k0_h2) (k0_off15_eq i) (k0_off15_inb i k0_h2)
    sl_exec_parts!
    sl_step
    iapply Hk
    unfold heldP
    isplitl [HF_dst HF_src HF]
    · isplitl [HF_dst]; · iexact HF_dst
      isplitl [HF_src]; · iexact HF_src
      iexact HF
    isplitl [H5]; · iexact H5
    isplitl [H10]; · iexact H10
    isplitl [H11]; · iexact H11
    isplitl [H13]; · iexact H13
    iexists _; iexact HW
end Sweep0

end Cert.KernelIdeal.Hand

end
-- ==== Proof.KernelIdeal.Sweep1.lean ====
/-
  Hand-written, untrusted. Sweep 1: the tensor scale at its first point, one chunk quantised at each.
-/
module

public import proofs.«01_k».proof.Proof.KernelIdeal.Sweep0

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Sweep1
variable (c : Dev nD) (XA : Buf (Elt F) (xM.view.loc (c : Thread nD τ))) (i : grid0.Coords) (arg2 : Memref sig .tc .smem S16 .f32) (harg2 : arg2.IsWhole)
  (arg4 : Memref sig .tc .vmem S256x1280 .i8) (harg4 : arg4.IsWhole) (arg5 : Memref sig .tc .vmem S80x256 .f32) (harg5 : arg5.IsWhole)
  (arg6 : Memref sig .tc .vmem S256x640 .i8) (harg6 : arg6.IsWhole) (arg7 : Memref sig .tc .vmem S80x256 .fp8e4m3) (harg7 : arg7.IsWhole)
  (arg8 : Memref sig .tc .vmem S1x1 .f32) (harg8 : arg8.IsWhole)

set_option maxHeartbeats 4000000 in
/-- The tensor scale's region: what it leaves in the result's block and in the scratch row. -/
def blk3Run (k0_h3 : k0_cond3 i = 1#1) (f11 : Buf (Elt F) ((Memref.whole cc0_scratch2).view.loc (c : Thread nD τ))) :
    { R : Buf (Elt F) (arg8.view.loc (c : Thread nD τ)) × Buf (Elt F) ((Memref.whole cc0_scratch3).view.loc (c : Thread nD τ)) //
      ∀ g8 f12 (Q : PUnit → sProp 𝕄),
        iprop((PT c arg8 g8 ∗ PT c (Memref.whole cc0_scratch2) f11 ∗ PT c (Memref.whole cc0_scratch3) f12)
          ∗ ((PT c arg8 R.1 ∗ PT c (Memref.whole cc0_scratch2) f11 ∗ PT c (Memref.whole cc0_scratch3) R.2) -∗ Q ⟨⟩))
          ⊢ wp frame (wpE (defs₀ (F := F)) 𝒱₀ (c : Thread nD τ) none) Set.univ (blk3 i arg2 harg2 xM (Memref.isWhole_whole _) arg4 harg4 arg5 harg5 arg6 harg6 arg7 harg7 arg8 harg8 bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h3) Q } := by
  refine ⟨(?_, ?_), fun g8 f12 Q => ?run⟩
  case run =>
    dsimp only
    unfold PT
    iintro ⟨⟨H8, H11, H12⟩, Hk⟩
    unfold blk3
    sl_exec_parts!
    sl_step
    iapply Hk
    isplitl [H8]; · iexact H8
    isplitl [H11]; · iexact H11
    iexact H12

set_option maxHeartbeats 8000000 in
/-- A chunk's quantisation: what it leaves in the codes' and in the scales' blocks. -/
def blk4Run (k0_h4 : k0_cond4 i = 1#1) (g4 : Buf (Elt F) (arg4.view.loc (c : Thread nD τ))) (f10 : Buf (Elt F) ((Memref.whole cc0_scratch1).view.loc (c : Thread nD τ))) (f12 : Buf (Elt F) ((Memref.whole cc0_scratch3).view.loc (c : Thread nD τ))) (f14 : Buf (Elt F) ((Memref.whole cc0_scratch5).view.loc (c : Thread nD τ)))
    (f15 : Buf (Elt F) ((Memref.whole cc0_scratch6).view.loc (c : Thread nD τ))) (f16 : Buf (Elt F) ((Memref.whole cc0_scratch7).view.loc (c : Thread nD τ))) :
    { R : Buf (Elt F) (arg6.view.loc (c : Thread nD τ)) × Buf (Elt F) (arg7.view.loc (c : Thread nD τ)) //
      ∀ g6 g7 (Q : PUnit → sProp 𝕄),
        iprop((heldP c XA (ij i) ∗ PT c arg4 g4 ∗ PT c arg6 g6 ∗ PT c arg7 g7 ∗ PT c (Memref.whole cc0_scratch1) f10 ∗ PT c (Memref.whole cc0_scratch3) f12 ∗ PT c (Memref.whole cc0_scratch5) f14
            ∗ PT c (Memref.whole cc0_scratch6) f15 ∗ PT c (Memref.whole cc0_scratch7) f16 ∗ ∃ f17, PT c (Memref.whole cc0_scratch8) f17)
          ∗ ((heldP c XA (ij i) ∗ PT c arg4 g4 ∗ PT c arg6 R.1 ∗ PT c arg7 R.2 ∗ PT c (Memref.whole cc0_scratch1) f10 ∗ PT c (Memref.whole cc0_scratch3) f12 ∗ PT c (Memref.whole cc0_scratch5) f14
            ∗ PT c (Memref.whole cc0_scratch6) f15 ∗ PT c (Memref.whole cc0_scratch7) f16 ∗ ∃ f17, PT c (Memref.whole cc0_scratch8) f17) -∗ Q ⟨⟩))
          ⊢ wp frame (wpE (defs₀ (F := F)) 𝒱₀ (c : Thread nD τ) none) Set.univ (blk4 i arg2 harg2 xM (Memref.isWhole_whole _) arg4 harg4 arg5 harg5 arg6 harg6 arg7 harg7 arg8 harg8 bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h4) Q } := by
  refine ⟨(?_, ?_), fun g6 g7 Q => ?run⟩
  case run =>
    dsimp only
    unfold heldP PT
    iintro ⟨⟨⟨Hs, Hh, Hc⟩, H4, H6, H7, H10, H12, H14, H15, H16, ⟨%f17, H17⟩⟩, Hk⟩
    unfold blk4
    have hs0 := slab_sub (ij i) 0 (k0_off18_eq i ▸ k0_off18_inb i k0_h4) (k0_off18_eq i) (k0_off18_inb i k0_h4)
    have hs1 := slab_sub (ij i) 256 (k0_off19_eq i ▸ k0_off19_inb i k0_h4) (k0_off19_eq i) (k0_off19_inb i k0_h4)
    have hs2 := slab_sub (ij i) 512 (k0_off20_eq i ▸ k0_off20_inb i k0_h4) (k0_off20_eq i) (k0_off20_inb i k0_h4)
    have hs3 := slab_sub (ij i) 768 (k0_off21_eq i ▸ k0_off21_inb i k0_h4) (k0_off21_eq i) (k0_off21_inb i k0_h4)
    have hs4 := slab_sub (ij i) 1024 (k0_off22_eq i ▸ k0_off22_inb i k0_h4) (k0_off22_eq i) (k0_off22_inb i k0_h4)
    sl_exec_parts!
    sl_step
    iapply Hk
    isplitl [Hs Hh Hc]
    · isplitl [Hs]; · iexact Hs
      isplitl [Hh]; · iexact Hh
      iexact Hc
    isplitl [H4]; · iexact H4
    isplitl [H6]; · iexact H6
    isplitl [H7]; · iexact H7
    isplitl [H10]; · iexact H10
    isplitl [H12]; · iexact H12
    isplitl [H14]; · iexact H14
    isplitl [H15]; · iexact H15
    isplitl [H16]; · iexact H16
    iexists _; iexact H17

end Sweep1

end Cert.KernelIdeal.Hand

end
-- ==== Proof.KernelIdeal.Start.lean ====
/-
  Hand-written, untrusted. The first point: every chunk's transfer issued, the matrices and the running maximum prepared.
-/
module

public import proofs.«01_k».proof.Proof.KernelIdeal.Sweep0

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Start
variable (c : Dev nD) (XA : Buf (Elt F) (xM.view.loc (c : Thread nD τ))) (i : grid0.Coords) (arg2 : Memref sig .tc .smem S16 .f32) (harg2 : arg2.IsWhole)
  (arg4 : Memref sig .tc .vmem S256x1280 .i8) (harg4 : arg4.IsWhole) (arg5 : Memref sig .tc .vmem S80x256 .f32) (harg5 : arg5.IsWhole)
  (arg6 : Memref sig .tc .vmem S256x640 .i8) (harg6 : arg6.IsWhole) (arg7 : Memref sig .tc .vmem S80x256 .fp8e4m3) (harg7 : arg7.IsWhole)
  (arg8 : Memref sig .tc .vmem S1x1 .f32) (harg8 : arg8.IsWhole)

set_option maxHeartbeats 8000000 in
/-- The preparation: what it leaves in the running maximum and in the four matrices, the chunks all in flight. -/
def blk1Run (k0_h1 : k0_cond1 i = 1#1) (g2 : Buf (Elt F) (arg2.view.loc (c : Thread nD τ))) :
    { R : Buf (Elt F) ((Memref.whole cc0_scratch2).view.loc (c : Thread nD τ)) × Buf (Elt F) ((Memref.whole cc0_scratch4).view.loc (c : Thread nD τ)) × Buf (Elt F) ((Memref.whole cc0_scratch5).view.loc (c : Thread nD τ)) × Buf (Elt F) ((Memref.whole cc0_scratch6).view.loc (c : Thread nD τ)) × Buf (Elt F) ((Memref.whole cc0_scratch7).view.loc (c : Thread nD τ)) //
      ∀ f11 f13 f14 f15 f16 (Q : PUnit → sProp 𝕄),
        iprop((bigSep Finset.univ (issuing c XA 0) ∗ PT c arg2 g2 ∗ PT c (Memref.whole cc0_scratch2) f11 ∗ PT c (Memref.whole cc0_scratch4) f13 ∗ PT c (Memref.whole cc0_scratch5) f14
            ∗ PT c (Memref.whole cc0_scratch6) f15 ∗ PT c (Memref.whole cc0_scratch7) f16)
          ∗ ((bigSep Finset.univ (issuing c XA k0_t1_loop.trips) ∗ PT c arg2 g2 ∗ PT c (Memref.whole cc0_scratch2) R.1 ∗ PT c (Memref.whole cc0_scratch4) R.2.1 ∗ PT c (Memref.whole cc0_scratch5) R.2.2.1
            ∗ PT c (Memref.whole cc0_scratch6) R.2.2.2.1 ∗ PT c (Memref.whole cc0_scratch7) R.2.2.2.2) -∗ Q ⟨⟩))
          ⊢ wp frame (wpE (defs₀ (F := F)) 𝒱₀ (c : Thread nD τ) none) Set.univ (blk1 i arg2 harg2 xM (Memref.isWhole_whole _) arg4 harg4 arg5 harg5 arg6 harg6 arg7 harg7 arg8 harg8 bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 k0_h1) Q } := by
  refine ⟨(?_, ?_, ?_, ?_, ?_), fun f11 f13 f14 f15 f16 Q => ?run⟩
  case run =>
    dsimp only
    unfold PT
    iintro ⟨⟨Hb, H2, H11, H13, H14, H15, H16⟩, Hk⟩
    unfold blk1
    sl_exec_parts!
    sl_step
    iapply Hk
    isplitl [Hb]; · iexact Hb
    isplitl [H2]; · iexact H2
    isplitl [H11]; · iexact H11
    isplitl [H13]; · iexact H13
    isplitl [H14]; · iexact H14
    isplitl [H15]; · iexact H15
    iexact H16

end Start

end Cert.KernelIdeal.Hand

end
-- ==== Proof.KernelIdeal.State.lean ====
/-
  Hand-written, untrusted. What the kernel's buffers hold between grid points: the matrices, the running maximum, the block
  maxima, the tensor scale; and the contents each point leaves in its blocks.
-/
module

public import proofs.«01_k».proof.Proof.KernelIdeal.Sweep1
public import proofs.«01_k».proof.Proof.KernelIdeal.Start

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Slab
variable (c : Dev nD) (XA : Buf (Elt F) (xM.view.loc (c : Thread nD τ))) (i : grid0.Coords) (arg2 : Memref sig .tc .smem S16 .f32) (harg2 : arg2.IsWhole)
  (arg4 : Memref sig .tc .vmem S256x1280 .i8) (harg4 : arg4.IsWhole) (arg5 : Memref sig .tc .vmem S80x256 .f32) (harg5 : arg5.IsWhole)
  (arg6 : Memref sig .tc .vmem S256x640 .i8) (harg6 : arg6.IsWhole) (arg7 : Memref sig .tc .vmem S80x256 .fp8e4m3) (harg7 : arg7.IsWhole)
  (arg8 : Memref sig .tc .vmem S1x1 .f32) (harg8 : arg8.IsWhole)
  (k0_h2 : k0_cond2 i = 1#1) (f10 f10' : Buf (Elt F) ((Memref.whole cc0_scratch1).view.loc (c : Thread nD τ))) (f11 : Buf (Elt F) ((Memref.whole cc0_scratch2).view.loc (c : Thread nD τ))) (f13 : Buf (Elt F) ((Memref.whole cc0_scratch4).view.loc (c : Thread nD τ)))

/-- What a chunk's point leaves in its output block and in the running maximum does not depend on the stored block maxima. -/
theorem blk2_out : (blk2Run c XA i arg2 harg2 arg4 harg4 arg5 harg5 arg6 harg6 arg7 harg7 arg8 harg8 k0_h2 f10 f11 f13).1.1 = (blk2Run c XA i arg2 harg2 arg4 harg4 arg5 harg5 arg6 harg6 arg7 harg7 arg8 harg8 k0_h2 f10' f11 f13).1.1 := rfl
theorem blk2_max : (blk2Run c XA i arg2 harg2 arg4 harg4 arg5 harg5 arg6 harg6 arg7 harg7 arg8 harg8 k0_h2 f10 f11 f13).1.2.2 = (blk2Run c XA i arg2 harg2 arg4 harg4 arg5 harg5 arg6 harg6 arg7 harg7 arg8 harg8 k0_h2 f10' f11 f13).1.2.2 := rfl

theorem slab_mem (off : Fin 3 → ℕ) (n : ℕ) (hn : n + 16 ≤ 80) (e : off = ![(i 1).val, n, 0]) (hh) (y : S56x80x256.Idx) :
    y ∈ (Rect.unit (s := S56x80x256) off S1x16x256.size hh).set ↔ (y 0).val = (i 1).val ∧ n ≤ (y 1).val ∧ (y 1).val < n + 16 := by
  subst e
  rw [Rect.mem_set_unit]
  have h2 : (y 2).val < 256 := (y 2).isLt
  constructor
  · intro H
    have a0 : (i 1).val ≤ (y 0).val ∧ (y 0).val < (i 1).val + 1 := H 0
    have a1 : n ≤ (y 1).val ∧ (y 1).val < n + 16 := H 1
    omega
  · rintro ⟨H0, H1⟩ a
    fin_cases a
    · show (i 1).val ≤ (y 0).val ∧ (y 0).val < (i 1).val + 1; omega
    · exact H1
    · show 0 ≤ (y 2).val ∧ (y 2).val < 0 + 256; omega

/-- The five slabs stored, over the buffer's prior contents. -/
theorem blk2_amax : ∃ p0 p1 p2 p3 p4, ∀ f10, (blk2Run c XA i arg2 harg2 arg4 harg4 arg5 harg5 arg6 harg6 arg7 harg7 arg8 harg8 k0_h2 f10 f11 f13).1.2.1 = (Memref.whole cc0_scratch1).view.writes (Elt F) f10
    [⟨Rect.unit (k0_off16 i) S1x16x256.size (k0_off16_inb i k0_h2), p4⟩, ⟨Rect.unit (k0_off14 i) S1x16x256.size (k0_off14_inb i k0_h2), p3⟩,
      ⟨Rect.unit (k0_off12 i) S1x16x256.size (k0_off12_inb i k0_h2), p2⟩, ⟨Rect.unit (k0_off10 i) S1x16x256.size (k0_off10_inb i k0_h2), p1⟩,
      ⟨Rect.unit (k0_off8 i) S1x16x256.size (k0_off8_inb i k0_h2), p0⟩] :=
  by
  refine ⟨?_, ?_, ?_, ?_, ?_, fun f10 => ?_⟩
  rotate_left 5
  · unfold blk2Run
    dsimp only
    rfl

omit [FloatOps F] in
/-- The buffer of block maxima read through itself. -/
theorem rd1 (g : Buf (Elt F) ((Memref.whole cc0_scratch1).view.loc (c : Thread nD τ))) (y : S56x80x256.Idx) : (Memref.whole cc0_scratch1).view.read (Elt F) g y = g y :=
  congrFun (View.read_whole (Val := Elt F) cc0_scratch1 g) y

/-- Another chunk's block maxima are left alone. -/
theorem blk2_amax_out (y : S56x80x256.Idx) (hy : (y 0).val ≠ (i 1).val) : (blk2Run c XA i arg2 harg2 arg4 harg4 arg5 harg5 arg6 harg6 arg7 harg7 arg8 harg8 k0_h2 f10 f11 f13).1.2.1 y = f10 y := by
  obtain ⟨p0, p1, p2, p3, p4, e⟩ := blk2_amax c XA i arg2 harg2 arg4 harg4 arg5 harg5 arg6 harg6 arg7 harg7 arg8 harg8 k0_h2 f11 f13
  rw [e]
  refine (rd1 c _ y).symm.trans (Eq.trans ?_ (rd1 c f10 y))
  refine View.read_writes_apply_of_forall_not_mem (Memref.whole cc0_scratch1).view f10 y _ ?_
  intro p hp
  simp only [List.mem_cons, List.mem_nil_iff, or_false] at hp
  rcases hp with rfl | rfl | rfl | rfl | rfl
  · intro h; exact hy ((slab_mem i (k0_off16 i) 64 (by omega) (k0_off16_eq i) (k0_off16_inb i k0_h2) y).1 h).1
  · intro h; exact hy ((slab_mem i (k0_off14 i) 48 (by omega) (k0_off14_eq i) (k0_off14_inb i k0_h2) y).1 h).1
  · intro h; exact hy ((slab_mem i (k0_off12 i) 32 (by omega) (k0_off12_eq i) (k0_off12_inb i k0_h2) y).1 h).1
  · intro h; exact hy ((slab_mem i (k0_off10 i) 16 (by omega) (k0_off10_eq i) (k0_off10_inb i k0_h2) y).1 h).1
  · intro h; exact hy ((slab_mem i (k0_off8 i) 0 (by omega) (k0_off8_eq i) (k0_off8_inb i k0_h2) y).1 h).1

/-- This chunk's are overwritten whole. -/
theorem blk2_amax_in (y : S56x80x256.Idx) (hy : (y 0).val = (i 1).val) :
    (blk2Run c XA i arg2 harg2 arg4 harg4 arg5 harg5 arg6 harg6 arg7 harg7 arg8 harg8 k0_h2 f10 f11 f13).1.2.1 y = (blk2Run c XA i arg2 harg2 arg4 harg4 arg5 harg5 arg6 harg6 arg7 harg7 arg8 harg8 k0_h2 f10' f11 f13).1.2.1 y := by
  obtain ⟨p0, p1, p2, p3, p4, e⟩ := blk2_amax c XA i arg2 harg2 arg4 harg4 arg5 harg5 arg6 harg6 arg7 harg7 arg8 harg8 k0_h2 f11 f13
  rw [e, e]
  refine (rd1 c _ y).symm.trans (Eq.trans ?_ (rd1 c _ y))
  refine View.read_writes_apply_eq (Memref.whole cc0_scratch1).view f10 (Memref.whole cc0_scratch1).view f10' y _ ?_
  have h1 : (y 1).val < 80 := (y 1).isLt
  by_cases a4 : 64 ≤ (y 1).val
  · exact ⟨⟨Rect.unit (k0_off16 i) S1x16x256.size (k0_off16_inb i k0_h2), p4⟩, List.mem_cons_self, (slab_mem i (k0_off16 i) 64 (by omega) (k0_off16_eq i) (k0_off16_inb i k0_h2) y).2 ⟨hy, by omega, by omega⟩⟩
  by_cases a3 : 48 ≤ (y 1).val
  · exact ⟨⟨Rect.unit (k0_off14 i) S1x16x256.size (k0_off14_inb i k0_h2), p3⟩, List.mem_cons_of_mem _ List.mem_cons_self, (slab_mem i (k0_off14 i) 48 (by omega) (k0_off14_eq i) (k0_off14_inb i k0_h2) y).2 ⟨hy, by omega, by omega⟩⟩
  by_cases a2 : 32 ≤ (y 1).val
  · exact ⟨⟨Rect.unit (k0_off12 i) S1x16x256.size (k0_off12_inb i k0_h2), p2⟩, List.mem_cons_of_mem _ (List.mem_cons_of_mem _ List.mem_cons_self), (slab_mem i (k0_off12 i) 32 (by omega) (k0_off12_eq i) (k0_off12_inb i k0_h2) y).2 ⟨hy, by omega, by omega⟩⟩
  by_cases a1 : 16 ≤ (y 1).val
  · exact ⟨⟨Rect.unit (k0_off10 i) S1x16x256.size (k0_off10_inb i k0_h2), p1⟩, List.mem_cons_of_mem _ (List.mem_cons_of_mem _ (List.mem_cons_of_mem _ List.mem_cons_self)), (slab_mem i (k0_off10 i) 16 (by omega) (k0_off10_eq i) (k0_off10_inb i k0_h2) y).2 ⟨hy, by omega, by omega⟩⟩
  · exact ⟨⟨Rect.unit (k0_off8 i) S1x16x256.size (k0_off8_inb i k0_h2), p0⟩, List.mem_cons_of_mem _ (List.mem_cons_of_mem _ (List.mem_cons_of_mem _ (List.mem_cons_of_mem _ List.mem_cons_self))), (slab_mem i (k0_off8 i) 0 (by omega) (k0_off8_eq i) (k0_off8_inb i k0_h2) y).2 ⟨hy, by omega, by omega⟩⟩

end Slab

variable (m : (ℓ : Loc nD τ sig) → Buf (Elt F) ℓ)

/-! ## The points -/

abbrev co (t : Fin cfg0.N) : grid0.Coords := grid0.coords t
abbrev ms0 (t : Fin cfg0.N) : Memref sig .tc .smem S16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1280 .i8 := win0_1.stage (cfg0.slots t 1)
abbrev hs1 (t : Fin cfg0.N) : (ms1 t).IsWhole := hstage0_1 ((cfg0.slots t 1).cast nbuf0_1)
abbrev ms2 (t : Fin cfg0.N) : Memref sig .tc .vmem S80x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x640 .i8 := win0_3.stage (cfg0.slots t 3)
abbrev hs3 (t : Fin cfg0.N) : (ms3 t).IsWhole := hstage0_3 ((cfg0.slots t 3).cast nbuf0_3)
abbrev ms4 (t : Fin cfg0.N) : Memref sig .tc .vmem S80x256 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)

theorem c1_iff : ∀ t : Fin cfg0.N, k0_cond1 (co t) = 1#1 ↔ t.val = 0 := (by decide +kernel : ∀ t : Fin grid0.N, k0_cond1 (grid0.coords t) = 1#1 ↔ t.val = 0)
theorem c2_iff : ∀ t : Fin cfg0.N, k0_cond2 (co t) = 1#1 ↔ t.val < 56 := (by decide +kernel : ∀ t : Fin grid0.N, k0_cond2 (grid0.coords t) = 1#1 ↔ t.val < 56)
theorem c3_iff : ∀ t : Fin cfg0.N, k0_cond3 (co t) = 1#1 ↔ t.val = 56 := (by decide +kernel : ∀ t : Fin grid0.N, k0_cond3 (grid0.coords t) = 1#1 ↔ t.val = 56)
theorem c4_iff : ∀ t : Fin cfg0.N, k0_cond4 (co t) = 1#1 ↔ 56 ≤ t.val := (by decide +kernel : ∀ t : Fin grid0.N, k0_cond4 (grid0.coords t) = 1#1 ↔ 56 ≤ t.val)
theorem co_1 : ∀ t : Fin cfg0.N, (co t 1).val = t.val % 56 := (by decide +kernel : ∀ t : Fin grid0.N, (grid0.coords t 1).val = t.val % 56)

/-- Sweep 0's point at chunk `k`, and sweep 1's. -/
def pt0 (k : Fin 56) : Fin cfg0.N := ⟨k.val, Nat.lt_of_lt_of_le k.isLt (by decide)⟩
def pt1 (k : Fin 56) : Fin cfg0.N := ⟨56 + k.val, Nat.lt_of_lt_of_eq (Nat.add_lt_add_left k.isLt 56) (by decide)⟩
theorem h1_0 : k0_cond1 (co (pt0 0)) = 1#1 := (c1_iff _).2 rfl
theorem h2_k (k : Fin 56) : k0_cond2 (co (pt0 k)) = 1#1 := (c2_iff _).2 k.isLt
theorem h3_0 : k0_cond3 (co (pt1 0)) = 1#1 := (c3_iff _).2 rfl
theorem h4_k (k : Fin 56) : k0_cond4 (co (pt1 k)) = 1#1 := (c4_iff _).2 (Nat.le_add_right _ _)

/-! ## The contents -/

section Contents
variable (c : Dev nD)

/-- The tokens as the region finds them. -/
abbrev XA : Buf (Elt F) (xM.view.loc (c : Thread nD τ)) := V m c main_v0
/-- The preparation's outcome. -/
def prep := blk1Run c (XA m c) (co (pt0 0)) (ms0 (pt0 0)) (hs0 (pt0 0)) (ms1 (pt0 0)) (hs1 (pt0 0)) (ms2 (pt0 0)) (hs2 (pt0 0)) (ms3 (pt0 0)) (hs3 (pt0 0)) (ms4 (pt0 0)) (hs4 (pt0 0)) (ms5 (pt0 0)) (hs5 (pt0 0)) h1_0 ((hs0 (pt0 0)).unread (iblk m c 0 (pt0 0)))
/-- The running maximum at entry; -/
def M11 : Buf (Elt F) ((Memref.whole cc0_scratch2).view.loc (c : Thread nD τ)) := (prep m c).1.1
/-- the four matrices. -/
def M13 : Buf (Elt F) ((Memref.whole cc0_scratch4).view.loc (c : Thread nD τ)) := (prep m c).1.2.1
def M14 : Buf (Elt F) ((Memref.whole cc0_scratch5).view.loc (c : Thread nD τ)) := (prep m c).1.2.2.1
def M15 : Buf (Elt F) ((Memref.whole cc0_scratch6).view.loc (c : Thread nD τ)) := (prep m c).1.2.2.2.1
def M16 : Buf (Elt F) ((Memref.whole cc0_scratch7).view.loc (c : Thread nD τ)) := (prep m c).1.2.2.2.2

/-- Chunk `k`'s point of sweep 0, over block maxima `f10` and running maximum `f11`. -/
def run2 (k : Fin 56) (f10 : Buf (Elt F) ((Memref.whole cc0_scratch1).view.loc (c : Thread nD τ))) (f11 : Buf (Elt F) ((Memref.whole cc0_scratch2).view.loc (c : Thread nD τ))) := blk2Run c (XA m c) (co (pt0 k)) (ms0 (pt0 k)) (hs0 (pt0 k)) (ms1 (pt0 k)) (hs1 (pt0 k)) (ms2 (pt0 k)) (hs2 (pt0 k)) (ms3 (pt0 k)) (hs3 (pt0 k)) (ms4 (pt0 k)) (hs4 (pt0 k)) (ms5 (pt0 k)) (hs5 (pt0 k)) (h2_k k) f10 f11 (M13 m c)
/-- The running maximum before chunk `k`. -/
def rm : ℕ → Buf (Elt F) ((Memref.whole cc0_scratch2).view.loc (c : Thread nD τ))
  | 0 => M11 m c
  | k + 1 => if h : k < 56 then (run2 m c ⟨k, h⟩ (Memref.whole cc0_scratch1).view.junk (rm k)).1.2.2 else rm k
theorem rm_succ (k : Fin 56) (f10) : rm m c (k.val + 1) = (run2 m c k f10 (rm m c k.val)).1.2.2 := by
  rw [rm, dif_pos k.isLt]; exact blk2_max ..
/-- Chunk `k`'s block maxima, over junk; -/
def amK (k : Fin 56) : Buf (Elt F) ((Memref.whole cc0_scratch1).view.loc (c : Thread nD τ)) := (run2 m c k (Memref.whole cc0_scratch1).view.junk (rm m c k.val)).1.2.1
/-- the block maxima once every chunk has passed. -/
def amBuf : Buf (Elt F) ((Memref.whole cc0_scratch1).view.loc (c : Thread nD τ)) := fun y => amK m c (show Fin 56 from y 0) y
/-- The chunks below `p` have their block maxima stored. -/
def Agree (p : ℕ) (f : Buf (Elt F) ((Memref.whole cc0_scratch1).view.loc (c : Thread nD τ))) : Prop := ∀ y : S56x80x256.Idx, (y 0).val < p → f y = amBuf m c y
theorem Agree.zero (f) : Agree m c 0 f := fun y h => absurd h (Nat.not_lt_zero _)
theorem Agree.step (k : Fin 56) (f) (h : Agree m c k.val f) : Agree m c (k.val + 1) (run2 m c k f (rm m c k.val)).1.2.1 := by
  intro y hy
  have hk : (co (pt0 k) 1).val = k.val := (co_1 _).trans (Nat.mod_eq_of_lt k.isLt)
  by_cases e : (y 0).val = k.val
  · have e' : (y 0 : Fin 56) = k := Fin.ext e
    have e2 : amBuf m c y = amK m c k y := congrArg (fun k => amK m c k y) e'
    rw [e2]
    exact blk2_amax_in (hy := e.trans hk.symm) ..
  · exact (blk2_amax_out (hy := fun h => e (h.trans hk)) ..).trans (h y (by omega))
theorem Agree.full (f) (h : Agree m c 56 f) : f = amBuf m c := funext fun y => h y (y 0).isLt

/-- The tensor scale's point. -/
def run3 := blk3Run c (co (pt1 0)) (ms0 (pt1 0)) (hs0 (pt1 0)) (ms1 (pt1 0)) (hs1 (pt1 0)) (ms2 (pt1 0)) (hs2 (pt1 0)) (ms3 (pt1 0)) (hs3 (pt1 0)) (ms4 (pt1 0)) (hs4 (pt1 0)) (ms5 (pt1 0)) (hs5 (pt1 0)) h3_0 (rm m c 56)
def M12 : Buf (Elt F) ((Memref.whole cc0_scratch3).view.loc (c : Thread nD τ)) := (run3 m c).1.2
/-- Chunk `k`'s point of sweep 1. -/
def run4 (k : Fin 56) := blk4Run c (XA m c) (co (pt1 k)) (ms0 (pt1 k)) (hs0 (pt1 k)) (ms1 (pt1 k)) (hs1 (pt1 k)) (ms2 (pt1 k)) (hs2 (pt1 k)) (ms3 (pt1 k)) (hs3 (pt1 k)) (ms4 (pt1 k)) (hs4 (pt1 k)) (ms5 (pt1 k)) (hs5 (pt1 k)) (h4_k k) ((hs1 (pt1 k)).unread (iblk m c 1 (pt1 k))) (amBuf m c) (M12 m c) (M14 m c) (M15 m c) (M16 m c)

/-- Chunk `k`'s block maxima, as sweep 0 leaves them in their output block; -/
def outA (k : Fin 56) : S80x256.Idx → Elt F .f32 := (ms2 (pt0 k)).view.read (Elt F) (run2 m c k (Memref.whole cc0_scratch1).view.junk (rm m c k.val)).1.1
/-- the codes; -/
def outC (k : Fin 56) : S256x640.Idx → Elt F .i8 := (ms3 (pt1 k)).view.read (Elt F) (run4 m c k).1.1
/-- the scales; -/
def outS (k : Fin 56) : S80x256.Idx → Elt F .fp8e4m3 := (ms4 (pt1 k)).view.read (Elt F) (run4 m c k).1.2
/-- the tensor scale. -/
def outT : S1x1.Idx → Elt F .f32 := (ms5 (pt1 0)).view.read (Elt F) (run3 m c).1.1

end Contents

/-- Point `t`'s chunk in sweep 0, the last one through sweep 1. -/
def ka (t : ℕ) : Fin 56 := ⟨min t 55, by omega⟩
/-- Point `t`'s chunk in sweep 1. -/
def kc (t : ℕ) : Fin 56 := ⟨(t - 56) % 56, Nat.mod_lt _ (by omega)⟩

end Cert.KernelIdeal.Hand

end
-- ==== Proof.KernelIdeal.Steps.lean ====
/-
  Hand-written, untrusted. The invariants between grid points and the step each block of the body takes between them.
-/
module

public import proofs.«01_k».proof.Proof.KernelIdeal.State
public import Idealize.ShloMosaic.Lib.LaneScatter.Own

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (c : Dev nD)

/-- Some contents of a scratch buffer. -/
abbrev AnyPT {sp : _} {s : Shape} {e : _} (c : Dev nD) (M : Memref sig .tc sp s e) : sProp 𝕄 := iprop(∃ f, PT (F := F) c M f)

/-- Before the first point: nothing issued, every scratch buffer at anything. -/
def Φ0 : sProp 𝕄 := iprop(bigSep Finset.univ (issuing c (XA m c) 0) ∗ AnyPT c (Memref.whole cc0_scratch1) ∗ AnyPT c (Memref.whole cc0_scratch2) ∗ AnyPT c (Memref.whole cc0_scratch3) ∗ AnyPT c (Memref.whole cc0_scratch4) ∗ AnyPT c (Memref.whole cc0_scratch5) ∗ AnyPT c (Memref.whole cc0_scratch6) ∗ AnyPT c (Memref.whole cc0_scratch7) ∗ AnyPT c (Memref.whole cc0_scratch8))
/-- Before point `p` of sweep 0, the loop past: the chunks below `p` landed, their block maxima stored, the running maximum theirs, the
    matrices laid out. -/
def ΦA (p : ℕ) : sProp 𝕄 :=
  iprop(bigSep Finset.univ (landing c (XA m c) p) ∗ (∃ f, ⌜Agree m c p f⌝ ∗ PT c (Memref.whole cc0_scratch1) f) ∗ PT c (Memref.whole cc0_scratch2) (rm m c p) ∗ AnyPT c (Memref.whole cc0_scratch3)
    ∗ PT c (Memref.whole cc0_scratch4) (M13 m c) ∗ PT c (Memref.whole cc0_scratch5) (M14 m c) ∗ PT c (Memref.whole cc0_scratch6) (M15 m c) ∗ PT c (Memref.whole cc0_scratch7) (M16 m c) ∗ AnyPT c (Memref.whole cc0_scratch8))
/-- Through sweep 1: every chunk landed, every block maximum stored, the tensor scale known. -/
def ΦB : sProp 𝕄 :=
  iprop(bigSep Finset.univ (landing c (XA m c) 56) ∗ PT c (Memref.whole cc0_scratch1) (amBuf m c) ∗ PT c (Memref.whole cc0_scratch2) (rm m c 56) ∗ PT c (Memref.whole cc0_scratch3) (M12 m c)
    ∗ PT c (Memref.whole cc0_scratch4) (M13 m c) ∗ PT c (Memref.whole cc0_scratch5) (M14 m c) ∗ PT c (Memref.whole cc0_scratch6) (M15 m c) ∗ PT c (Memref.whole cc0_scratch7) (M16 m c) ∗ AnyPT c (Memref.whole cc0_scratch8))

theorem issuing_all : issuing c (XA m c) k0_t1_loop.trips = landing c (XA m c) 0 := by
  funext b
  unfold issuing landing
  rw [trips_eq, if_pos b.isLt, if_neg (Nat.not_lt_zero _)]

theorem ij0 (k : Fin 56) : ij (co (pt0 k)) = k := Fin.ext ((co_1 _).trans (Nat.mod_eq_of_lt k.isLt))
theorem ij1 (k : Fin 56) : ij (co (pt1 k)) = k := Fin.ext ((co_1 _).trans (by show (56 + k.val) % 56 = k.val; have := k.isLt; omega))

set_option maxHeartbeats 1000000 in
/-- The first point's preparation. -/
theorem step1 (Q : PUnit → sProp 𝕄) :
    iprop((Φ0 m c ∗ PT c (ms0 (pt0 0)) ((hs0 (pt0 0)).unread (iblk m c 0 (pt0 0))))
        ∗ ((ΦA m c 0 ∗ PT c (ms0 (pt0 0)) ((hs0 (pt0 0)).unread (iblk m c 0 (pt0 0)))) -∗ Q ⟨⟩))
      ⊢ wp frame (wpE (defs₀ (F := F)) 𝒱₀ c none) Set.univ (blk1 (co (pt0 0)) (ms0 (pt0 0)) (hs0 (pt0 0)) xM (Memref.isWhole_whole _) (ms1 (pt0 0)) (hs1 (pt0 0)) (ms2 (pt0 0)) (hs2 (pt0 0)) (ms3 (pt0 0)) (hs3 (pt0 0)) (ms4 (pt0 0)) (hs4 (pt0 0)) (ms5 (pt0 0)) (hs5 (pt0 0)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 h1_0) Q := by
  unfold Φ0 ΦA
  iintro ⟨⟨⟨HI, ⟨%f1, H1⟩, ⟨%f2, H2⟩, H3, ⟨%f4, H4⟩, ⟨%f5, H5⟩, ⟨%f6, H6⟩, ⟨%f7, H7⟩, H8⟩, HG⟩, Hk⟩
  iapply ((prep m c).2 f2 f4 f5 f6 f7 Q)
  isplitl [HI HG H2 H4 H5 H6 H7]
  · isplitl [HI]; · iexact HI
    isplitl [HG]; · iexact HG
    isplitl [H2]; · iexact H2
    isplitl [H4]; · iexact H4
    isplitl [H5]; · iexact H5
    isplitl [H6]; · iexact H6
    iexact H7
  iintro ⟨HI, HG, H2, H4, H5, H6, H7⟩
  iapply Hk
  isplitr [HG]; swap; · iexact HG
  isplitl [HI]; · irw [← issuing_all m c]; iexact HI
  isplitl [H1]
  · iexists f1; isplitr; · ipureintro; exact Agree.zero m c f1
    iexact H1
  isplitl [H2]; · iexact H2
  isplitl [H3]; · iexact H3
  isplitl [H4]; · iexact H4
  isplitl [H5]; · iexact H5
  isplitl [H6]; · iexact H6
  isplitl [H7]; · iexact H7
  iexact H8

theorem landing_at (k : Fin 56) : landing c (XA m c) k.val k = flyP c (XA m c) (ij (co (pt0 k))) := by
  rw [ij0]; exact if_neg (Nat.lt_irrefl _)
theorem landing_past (k : Fin 56) : landing c (XA m c) (k.val + 1) k = heldP c (XA m c) (ij (co (pt0 k))) := by
  rw [ij0]; exact if_pos (Nat.lt_succ_self _)
theorem landing_all (k : Fin 56) : landing c (XA m c) 56 k = heldP c (XA m c) (ij (co (pt1 k))) := by
  rw [ij1]; exact if_pos k.isLt
theorem landing_other (k b : Fin 56) (h : b ≠ k) : landing c (XA m c) k.val b = landing c (XA m c) (k.val + 1) b := by
  have hne : b.val ≠ k.val := fun e => h (Fin.ext e)
  unfold landing
  by_cases hb : b.val < k.val
  · rw [if_pos hb, if_pos (by omega)]
  · rw [if_neg hb, if_neg (by omega)]

set_option maxHeartbeats 1000000 in
/-- Chunk `k`'s point of sweep 0. -/
theorem step2 (k : Fin 56) (Q : PUnit → sProp 𝕄) :
    iprop((ΦA m c k.val ∗ AnyPT c (ms2 (pt0 k)) ∗ ∃ W, owes (c : Thread nD τ) 0 W)
        ∗ ((ΦA m c (k.val + 1) ∗ PT c (ms2 (pt0 k)) (run2 m c k (Memref.whole cc0_scratch1).view.junk (rm m c k.val)).1.1 ∗ ∃ W, owes (c : Thread nD τ) 0 W) -∗ Q ⟨⟩))
      ⊢ wp frame (wpE (defs₀ (F := F)) 𝒱₀ c none) Set.univ (blk2 (co (pt0 k)) (ms0 (pt0 k)) (hs0 (pt0 k)) xM (Memref.isWhole_whole _) (ms1 (pt0 k)) (hs1 (pt0 k)) (ms2 (pt0 k)) (hs2 (pt0 k)) (ms3 (pt0 k)) (hs3 (pt0 k)) (ms4 (pt0 k)) (hs4 (pt0 k)) (ms5 (pt0 k)) (hs5 (pt0 k)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (h2_k k)) Q := by
  unfold ΦA
  rw [bigSep_out k (landing c (XA m c) k.val), bigSep_out k (landing c (XA m c) (k.val + 1)), landing_at, landing_past,
    bigSep_swap k (landing_other m c k)]
  iintro ⟨⟨⟨⟨HI, HR⟩, ⟨%f1, %hf1, H1⟩, H2, H3, H4, H5, H6, H7, H8⟩, ⟨%g, HG⟩, HW⟩, Hk⟩
  iapply ((run2 m c k f1 (rm m c k.val)).2 g Q)
  isplitl [HI HG H1 H2 H4 HW]
  · isplitl [HI]; · iexact HI
    isplitl [HG]; · iexact HG
    isplitl [H1]; · iexact H1
    isplitl [H2]; · iexact H2
    isplitl [H4]; · iexact H4
    iexact HW
  iintro ⟨HI, HG, H1, H2, H4, HW⟩
  iapply Hk
  isplitr [HG HW]
  swap
  · isplitl [HG]; · iexact HG
    iexact HW
  isplitl [HI HR]
  · isplitl [HI]; · iexact HI
    iexact HR
  isplitl [H1]
  · iexists _; isplitr; swap; · iexact H1
    ipureintro; exact Agree.step m c k f1 hf1
  isplitl [H2]
  · irw [rm_succ m c k f1]; iexact H2
  isplitl [H3]; · iexact H3
  isplitl [H4]; · iexact H4
  isplitl [H5]; · iexact H5
  isplitl [H6]; · iexact H6
  isplitl [H7]; · iexact H7
  iexact H8

set_option maxHeartbeats 1000000 in
/-- The tensor scale's block, at the head of sweep 1. -/
theorem step3 (Q : PUnit → sProp 𝕄) :
    iprop((ΦA m c 56 ∗ AnyPT c (ms5 (pt1 0)))
        ∗ ((ΦB m c ∗ PT c (ms5 (pt1 0)) (run3 m c).1.1) -∗ Q ⟨⟩))
      ⊢ wp frame (wpE (defs₀ (F := F)) 𝒱₀ c none) Set.univ (blk3 (co (pt1 0)) (ms0 (pt1 0)) (hs0 (pt1 0)) xM (Memref.isWhole_whole _) (ms1 (pt1 0)) (hs1 (pt1 0)) (ms2 (pt1 0)) (hs2 (pt1 0)) (ms3 (pt1 0)) (hs3 (pt1 0)) (ms4 (pt1 0)) (hs4 (pt1 0)) (ms5 (pt1 0)) (hs5 (pt1 0)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 h3_0) Q := by
  unfold ΦA ΦB
  iintro ⟨⟨⟨HI, ⟨%f1, %hf1, H1⟩, H2, ⟨%f3, H3⟩, H4, H5, H6, H7, H8⟩, ⟨%g, HG⟩⟩, Hk⟩
  obtain rfl := Agree.full m c f1 hf1
  iapply ((run3 m c).2 g f3 Q)
  isplitl [HG H2 H3]
  · isplitl [HG]; · iexact HG
    isplitl [H2]; · iexact H2
    iexact H3
  iintro ⟨HG, H2, H3⟩
  iapply Hk
  isplitr [HG]; swap; · iexact HG
  isplitl [HI]; · iexact HI
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1000000 in
/-- Chunk `k`'s point of sweep 1. -/
theorem step4 (k : Fin 56) (Q : PUnit → sProp 𝕄) :
    iprop((ΦB m c ∗ PT c (ms1 (pt1 k)) ((hs1 (pt1 k)).unread (iblk m c 1 (pt1 k))) ∗ AnyPT c (ms3 (pt1 k)) ∗ AnyPT c (ms4 (pt1 k)))
        ∗ ((ΦB m c ∗ PT c (ms1 (pt1 k)) ((hs1 (pt1 k)).unread (iblk m c 1 (pt1 k))) ∗ PT c (ms3 (pt1 k)) (run4 m c k).1.1
            ∗ PT c (ms4 (pt1 k)) (run4 m c k).1.2) -∗ Q ⟨⟩))
      ⊢ wp frame (wpE (defs₀ (F := F)) 𝒱₀ c none) Set.univ (blk4 (co (pt1 k)) (ms0 (pt1 k)) (hs0 (pt1 k)) xM (Memref.isWhole_whole _) (ms1 (pt1 k)) (hs1 (pt1 k)) (ms2 (pt1 k)) (hs2 (pt1 k)) (ms3 (pt1 k)) (hs3 (pt1 k)) (ms4 (pt1 k)) (hs4 (pt1 k)) (ms5 (pt1 k)) (hs5 (pt1 k)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (h4_k k)) Q := by
  unfold ΦB
  rw [bigSep_out k (landing c (XA m c) 56), landing_all]
  iintro ⟨⟨⟨⟨HI, HR⟩, H1, H2, H3, H4, H5, H6, H7, H8⟩, HX, ⟨%g3, HG3⟩, ⟨%g4, HG4⟩⟩, Hk⟩
  iapply ((run4 m c k).2 g3 g4 Q)
  isplitl [HI HX HG3 HG4 H1 H3 H5 H6 H7 H8]
  · isplitl [HI]; · iexact HI
    isplitl [HX]; · iexact HX
    isplitl [HG3]; · iexact HG3
    isplitl [HG4]; · iexact HG4
    isplitl [H1]; · iexact H1
    isplitl [H3]; · iexact H3
    isplitl [H5]; · iexact H5
    isplitl [H6]; · iexact H6
    isplitl [H7]; · iexact H7
    iexact H8
  iintro ⟨HI, HX, HG3, HG4, H1, H3, H5, H6, H7, H8⟩
  iapply Hk
  isplitr [HX HG3 HG4]
  swap
  · isplitl [HX]; · iexact HX
    isplitl [HG3]; · iexact HG3
    iexact HG4
  isplitl [HI HR]
  · isplitl [HI]; · iexact HI
    iexact HR
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

omit [FloatOps F] in
/-- A whole memref owned at `d` is its buffer at the contents that read `d`, -/
theorem owns_PT {sp : Space} {s : Shape} {e : EltTy} (M : Memref sig .tc sp s e) (h : M.IsWhole) (d : s.Idx → Elt F e) :
    (owns (c : Thread nD τ) M fullShare d : sProp 𝕄) ⊢ PT c M (h.unread d) := by
  have hset : M.view.set = Finset.univ := by
    obtain ⟨b, rfl, rfl, rfl, hm⟩ := h
    cases hm
    exact View.set_whole _
  unfold owns
  rw [hset]
  iintro ⟨%f, %hf, H⟩
  obtain rfl := h.eq_unread hf
  iexact H
omit [FloatOps F] in
/-- and back. -/
theorem PT_owns {sp : Space} {s : Shape} {e : EltTy} (M : Memref sig .tc sp s e) (h : M.IsWhole) (f : Buf (Elt F) (M.view.loc (c : Thread nD τ))) (d : s.Idx → Elt F e)
    (hd : M.view.read (Elt F) f = d) : (PT c M f : sProp 𝕄) ⊢ owns (c : Thread nD τ) M fullShare d := by
  have hset : M.view.set = Finset.univ := by
    obtain ⟨b, rfl, rfl, rfl, hm⟩ := h
    cases hm
    exact View.set_whole _
  unfold owns
  rw [hset]
  iintro H
  iexists f; isplitr; · ipureintro; exact hd
  iexact H
omit [FloatOps F] in
theorem owns_any {sp : Space} {s : Shape} {e : EltTy} (M : Memref sig .tc sp s e) (h : M.IsWhole) (d : s.Idx → Elt F e) :
    (owns (c : Thread nD τ) M fullShare d : sProp 𝕄) ⊢ AnyPT c M := by
  iintro H
  ihave H' := (owns_PT c M h d) $$ H
  iexists _; iexact H'

end Cert.KernelIdeal.Hand

end
-- ==== Proof.KernelIdeal.Body.lean ====
/-
  Hand-written, untrusted. The pipeline's proof data, the body obligation at every grid point, the launch, and the frame.
-/
module

public import proofs.«01_k».proof.Proof.KernelIdeal.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- The invariant before point `p`. -/
def Φp (c : Dev nD) (p : ℕ) : sProp 𝕄 := if p = 0 then Φ0 m c else if p ≤ 56 then ΦA m c p else ΦB m c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outA m c (ka t.val)
    | ⟨3, _⟩ => outC m c (kc t.val)
    | ⟨4, _⟩ => outS m c (kc t.val)
    | ⟨5, _⟩ => outT m c
  Φ t := Φp m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outA m c (ka t.val) := by dsimp only [dats]
theorem after3 (c : Dev nD) (t : Fin cfg0.N) : (dats m 0 c).after 3 t = outC m c (kc t.val) := by dsimp only [dats]
theorem after4 (c : Dev nD) (t : Fin cfg0.N) : (dats m 0 c).after 4 t = outS m c (kc t.val) := by dsimp only [dats]
theorem after5 (c : Dev nD) (t : Fin cfg0.N) : (dats m 0 c).after 5 t = outT m c := by dsimp only [dats]

/-- The input windows hold their blocks. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## Which windows a point leaves alone -/

theorem idle2 (t : Fin cfg0.N) (h : t.val < 56) : cfg0.idle 2 (cfg0.grid.coords t) = false := by
  show (!(k0_cond2 (co t) == 1#1)) = false
  rw [(c2_iff t).2 h]; rfl
theorem idle2' (t : Fin cfg0.N) (h : 56 ≤ t.val) : cfg0.idle 2 (cfg0.grid.coords t) = true := by
  show (!(k0_cond2 (co t) == 1#1)) = true
  rw [Bool.not_eq_true', beq_eq_false_iff_ne]; exact fun e => absurd ((c2_iff t).1 e) (by omega)
theorem idle3 (t : Fin cfg0.N) (h : 56 ≤ t.val) : cfg0.idle 3 (cfg0.grid.coords t) = false := by
  show (!(k0_cond4 (co t) == 1#1)) = false
  rw [(c4_iff t).2 h]; rfl
theorem idle3' (t : Fin cfg0.N) (h : t.val < 56) : cfg0.idle 3 (cfg0.grid.coords t) = true := by
  show (!(k0_cond4 (co t) == 1#1)) = true
  rw [Bool.not_eq_true', beq_eq_false_iff_ne]; exact fun e => absurd ((c4_iff t).1 e) (by omega)
theorem idle4 (t : Fin cfg0.N) (h : 56 ≤ t.val) : cfg0.idle 4 (cfg0.grid.coords t) = false := idle3 t h
theorem idle4' (t : Fin cfg0.N) (h : t.val < 56) : cfg0.idle 4 (cfg0.grid.coords t) = true := idle3' t h
theorem idle5 (t : Fin cfg0.N) (h : t.val = 56) : cfg0.idle 5 (cfg0.grid.coords t) = false := by
  show (!(k0_cond3 (co t) == 1#1)) = false
  rw [(c3_iff t).2 h]; rfl
theorem idle5' (t : Fin cfg0.N) (h : t.val ≠ 56) : cfg0.idle 5 (cfg0.grid.coords t) = true := by
  show (!(k0_cond3 (co t) == 1#1)) = true
  rw [Bool.not_eq_true', beq_eq_false_iff_ne]; exact fun e => absurd ((c3_iff t).1 e) h
theorem flush2' : ∀ t : Fin cfg0.N, 55 ≤ t.val → t.val < 111 → (cfg0.win 2).flush t = false :=
  (by decide +kernel : ∀ t : Fin grid0.N, 55 ≤ t.val → t.val < 111 → win0_2.flush t = false)
theorem flush2 : ∀ t : Fin cfg0.N, 111 ≤ t.val → (cfg0.win 2).flush t = true :=
  (by decide +kernel : ∀ t : Fin grid0.N, 111 ≤ t.val → win0_2.flush t = true)
theorem flush3' : ∀ t : Fin cfg0.N, t.val < 56 → (cfg0.win 3).flush t = false :=
  (by decide +kernel : ∀ t : Fin grid0.N, t.val < 56 → win0_3.flush t = false)
theorem flush4' : ∀ t : Fin cfg0.N, t.val < 56 → (cfg0.win 4).flush t = false :=
  (by decide +kernel : ∀ t : Fin grid0.N, t.val < 56 → win0_4.flush t = false)
theorem flush5' : ∀ t : Fin cfg0.N, t.val < 111 → (cfg0.win 5).flush t = false :=
  (by decide +kernel : ∀ t : Fin grid0.N, t.val < 111 → win0_5.flush t = false)
theorem flush5 : ∀ t : Fin cfg0.N, 111 ≤ t.val → (cfg0.win 5).flush t = true :=
  (by decide +kernel : ∀ t : Fin grid0.N, 111 ≤ t.val → win0_5.flush t = true)

/-- Through sweep 1 the block-maxima window holds the last chunk's. -/
theorem before2 (c : Dev nD) (d) : ∀ n (h : n < cfg0.N), 56 ≤ n → (dats m 0 c).before 2 ⟨n, h⟩ d = outA m c (ka 55) := by
  intro n
  induction n with
  | zero => intro h h'; exact absurd h' (by omega)
  | succ n ih =>
    intro h h'
    have hN : n + 1 < 112 := h
    rw [(dats m 0 c).before_of_pos 2 ⟨n + 1, h⟩ (Nat.succ_ne_zero n) rfl d]
    have hf : (cfg0.win 2).flush ⟨n, Nat.lt_of_succ_lt h⟩ = false := flush2' _ (by show 55 ≤ n; omega) (by show n < 111; omega)
    refine (if_neg (by rw [show (⟨(⟨n + 1, h⟩ : Fin cfg0.N).val - 1, _⟩ : Fin cfg0.N) = ⟨n, Nat.lt_of_succ_lt h⟩ from rfl, hf]; exact Bool.false_ne_true)).trans ?_
    show (dats m 0 c).left 2 ⟨n, Nat.lt_of_succ_lt h⟩ d = _
    unfold Dat.left
    by_cases e : n = 55
    · subst e
      rw [idle2 ⟨55, Nat.lt_of_succ_lt h⟩ (by show 55 < 56; omega)]
      show (dats m 0 c).kept 2 ⟨55, Nat.lt_of_succ_lt h⟩ d = _
      exact after2 m c _
    · rw [idle2' ⟨n, Nat.lt_of_succ_lt h⟩ (by show 56 ≤ n; omega)]
      exact ih (Nat.lt_of_succ_lt h) (by omega)
/-- Past sweep 1's head the tensor scale's window holds it. -/
theorem before5 (c : Dev nD) (d) : ∀ n (h : n < cfg0.N), 57 ≤ n → (dats m 0 c).before 5 ⟨n, h⟩ d = outT m c := by
  intro n
  induction n with
  | zero => intro h h'; exact absurd h' (by omega)
  | succ n ih =>
    intro h h'
    have hN : n + 1 < 112 := h
    rw [(dats m 0 c).before_of_pos 5 ⟨n + 1, h⟩ (Nat.succ_ne_zero n) rfl d]
    have hf : (cfg0.win 5).flush ⟨n, Nat.lt_of_succ_lt h⟩ = false := flush5' _ (by show n < 111; omega)
    refine (if_neg (by rw [show (⟨(⟨n + 1, h⟩ : Fin cfg0.N).val - 1, _⟩ : Fin cfg0.N) = ⟨n, Nat.lt_of_succ_lt h⟩ from rfl, hf]; exact Bool.false_ne_true)).trans ?_
    show (dats m 0 c).left 5 ⟨n, Nat.lt_of_succ_lt h⟩ d = _
    unfold Dat.left
    by_cases e : n = 56
    · subst e
      rw [idle5 ⟨56, Nat.lt_of_succ_lt h⟩ rfl]
      show (dats m 0 c).kept 5 ⟨56, Nat.lt_of_succ_lt h⟩ d = _
      exact after5 m c _
    · rw [idle5' ⟨n, Nat.lt_of_succ_lt h⟩ e]
      exact ih (Nat.lt_of_succ_lt h) (by omega)

/-- What the body hands back of window `w` at point `t`. -/
def Left (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)
theorem left_live (c : Dev nD) (w t) (h : cfg0.idle w (cfg0.grid.coords t) = false) :
    Left m c w t = owns (c : Thread nD τ) ((cfg0.win w).stage (cfg0.slots t w)) fullShare ((dats m 0 c).after w t) := by
  unfold Left; rw [h]
theorem left_idle (c : Dev nD) (w t) (h : cfg0.idle w (cfg0.grid.coords t) = true) (hf : (cfg0.win w).flush t = false) :
    Left m c w t = iprop(∃ d, owns (c : Thread nD τ) ((cfg0.win w).stage (cfg0.slots t w)) fullShare ((dats m 0 c).before w t d)) := by
  unfold Left; rw [h, hf]
theorem left_flush (c : Dev nD) (w t) (h : cfg0.idle w (cfg0.grid.coords t) = true) (hf : (cfg0.win w).flush t = true) :
    Left m c w t = owns (c : Thread nD τ) ((cfg0.win w).stage (cfg0.slots t w)) fullShare ((dats m 0 c).after w t) := by
  unfold Left; rw [h, hf]
/-- The windows a point of sweep 1 leaves alone are handed back as found. -/
theorem left2 (c : Dev nD) (k : Fin 56) : (iprop(∃ d, owns (c : Thread nD τ) (ms2 (pt1 k)) fullShare ((dats m 0 c).before 2 (pt1 k) d)) : sProp 𝕄) ⊢ Left m c 2 (pt1 k) := by
  have hi : 56 ≤ (pt1 k).val := Nat.le_add_right _ _
  by_cases e : k.val = 55
  · rw [left_flush m c 2 _ (idle2' _ hi) (flush2 _ (by show 111 ≤ 56 + k.val; omega)), after2]
    iintro ⟨%d, H⟩
    have hb : (dats m 0 c).before 2 (pt1 k) d = outA m c (ka (pt1 k).val) := by
      have h2 : ka (pt1 k).val = ka 55 := Fin.ext (by show min (56 + k.val) 55 = min 55 55; omega)
      rw [h2]; exact before2 m c d _ _ hi
    irw [← hb]
    iexact H
  · rw [left_idle m c 2 _ (idle2' _ hi) (flush2' _ (by omega) (by show 56 + k.val < 111; have := k.isLt; omega))]
theorem left5 (c : Dev nD) (k : Fin 56) (hk : k.val ≠ 0) : (iprop(∃ d, owns (c : Thread nD τ) (ms5 (pt1 k)) fullShare ((dats m 0 c).before 5 (pt1 k) d)) : sProp 𝕄) ⊢ Left m c 5 (pt1 k) := by
  have hi : (pt1 k).val ≠ 56 := fun h => hk (by have h' : 56 + k.val = 56 := h; omega)
  by_cases e : k.val = 55
  · rw [left_flush m c 5 _ (idle5' _ hi) (flush5 _ (by show 111 ≤ 56 + k.val; omega)), after5]
    iintro ⟨%d, H⟩
    have hb : (dats m 0 c).before 5 (pt1 k) d = outT m c := before5 m c d _ _ (by show 57 ≤ 56 + k.val; omega)
    irw [← hb]
    iexact H
  · rw [left_idle m c 5 _ (idle5' _ hi) (flush5' _ (by show 56 + k.val < 111; have := k.isLt; omega))]

/-! ## The body obligation -/

def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)))
def bodyPost (c : Dev nD) (t : Fin cfg0.N) : sProp 𝕄 :=
  iprop((dats m 0 c).Φ t.succ ∗ (dats m 0 c).owesAt () t.succ ∗ Left m c 0 t ∗ Left m c 1 t ∗ Left m c 2 t ∗ Left m c 3 t ∗ Left m c 4 t ∗ Left m c 5 t)

theorem owesAt_eq (c : Dev nD) (t) : ((dats m 0 c).owesAt () t : sProp 𝕄) ⊢ iprop(∃ W, owes (c : Thread nD τ) 0 W) := by
  unfold Dat.owesAt Pipeline.owesWithin
  rw [show (dats m 0 c).owed t = 0 from rfl]
  iintro ⟨%W, -, HW⟩
  iexists W; iexact HW
theorem eq_owesAt (c : Dev nD) (t) : iprop(∃ W, owes (c : Thread nD τ) 0 W) ⊢ ((dats m 0 c).owesAt () t : sProp 𝕄) := by
  unfold Dat.owesAt Pipeline.owesWithin
  rw [show (dats m 0 c).owed t = 0 from rfl]
  iintro ⟨%W, HW⟩
  iexists W; isplitr; · ipureintro; exact fun _ _ => Or.inl trivial
  iexact HW

theorem Φp_A (c : Dev nD) (p : ℕ) (h0 : p ≠ 0) (h : p ≤ 56) : Φp m c p = ΦA m c p := by unfold Φp; rw [if_neg h0, if_pos h]
theorem Φp_B (c : Dev nD) (p : ℕ) (h : 56 < p) : Φp m c p = ΦB m c := by unfold Φp; rw [if_neg (by omega), if_neg (by omega)]

/-- A block left out. -/
theorem bind_unit (p : Prog (TpuEff nD τ sig (Elt F) Λ₀ .tc) PUnit) : (p >>= fun _ => pure PUnit.unit) = p := bind_pure p
/-- The body at each kind of point: its live blocks in turn. -/
theorem body_first : bodyAt0 (F := F) (pt0 0) = (blk1 (co (pt0 0)) (ms0 (pt0 0)) (hs0 (pt0 0)) xM (Memref.isWhole_whole _) (ms1 (pt0 0)) (hs1 (pt0 0)) (ms2 (pt0 0)) (hs2 (pt0 0)) (ms3 (pt0 0)) (hs3 (pt0 0)) (ms4 (pt0 0)) (hs4 (pt0 0)) (ms5 (pt0 0)) (hs5 (pt0 0)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 h1_0 >>= fun _ => blk2 (co (pt0 0)) (ms0 (pt0 0)) (hs0 (pt0 0)) xM (Memref.isWhole_whole _) (ms1 (pt0 0)) (hs1 (pt0 0)) (ms2 (pt0 0)) (hs2 (pt0 0)) (ms3 (pt0 0)) (hs3 (pt0 0)) (ms4 (pt0 0)) (hs4 (pt0 0)) (ms5 (pt0 0)) (hs5 (pt0 0)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (h2_k 0)) := by
  unfold bodyAt0
  rw [skel_blocks, dif_pos h1_0, dif_pos (h2_k 0), dif_neg (fun h => absurd ((c3_iff (pt0 0)).1 h) (by decide)), dif_neg (fun h => absurd ((c4_iff (pt0 0)).1 h) (by decide))]
  simp only [pure_bind, bind_unit]
theorem body_sweep0 (k : Fin 56) (hk : k.val ≠ 0) : bodyAt0 (F := F) (pt0 k) = blk2 (co (pt0 k)) (ms0 (pt0 k)) (hs0 (pt0 k)) xM (Memref.isWhole_whole _) (ms1 (pt0 k)) (hs1 (pt0 k)) (ms2 (pt0 k)) (hs2 (pt0 k)) (ms3 (pt0 k)) (hs3 (pt0 k)) (ms4 (pt0 k)) (hs4 (pt0 k)) (ms5 (pt0 k)) (hs5 (pt0 k)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (h2_k k) := by
  have hl := k.isLt
  unfold bodyAt0
  rw [skel_blocks, dif_neg (fun h => hk ((c1_iff (pt0 k)).1 h)), dif_pos (h2_k k), dif_neg (fun h => absurd ((c3_iff (pt0 k)).1 h) (Nat.ne_of_lt hl)),
    dif_neg (fun h => absurd ((c4_iff (pt0 k)).1 h) (Nat.not_le_of_lt hl))]
  simp only [pure_bind, bind_unit]
theorem body_head : bodyAt0 (F := F) (pt1 0) = (blk3 (co (pt1 0)) (ms0 (pt1 0)) (hs0 (pt1 0)) xM (Memref.isWhole_whole _) (ms1 (pt1 0)) (hs1 (pt1 0)) (ms2 (pt1 0)) (hs2 (pt1 0)) (ms3 (pt1 0)) (hs3 (pt1 0)) (ms4 (pt1 0)) (hs4 (pt1 0)) (ms5 (pt1 0)) (hs5 (pt1 0)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 h3_0 >>= fun _ => blk4 (co (pt1 0)) (ms0 (pt1 0)) (hs0 (pt1 0)) xM (Memref.isWhole_whole _) (ms1 (pt1 0)) (hs1 (pt1 0)) (ms2 (pt1 0)) (hs2 (pt1 0)) (ms3 (pt1 0)) (hs3 (pt1 0)) (ms4 (pt1 0)) (hs4 (pt1 0)) (ms5 (pt1 0)) (hs5 (pt1 0)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (h4_k 0)) := by
  unfold bodyAt0
  rw [skel_blocks, dif_neg (fun h => absurd ((c1_iff (pt1 0)).1 h) (by decide)), dif_neg (fun h => absurd ((c2_iff (pt1 0)).1 h) (by decide)), dif_pos h3_0, dif_pos (h4_k 0)]
  simp only [pure_bind, bind_unit]
theorem body_sweep1 (k : Fin 56) (hk : k.val ≠ 0) : bodyAt0 (F := F) (pt1 k) = blk4 (co (pt1 k)) (ms0 (pt1 k)) (hs0 (pt1 k)) xM (Memref.isWhole_whole _) (ms1 (pt1 k)) (hs1 (pt1 k)) (ms2 (pt1 k)) (hs2 (pt1 k)) (ms3 (pt1 k)) (hs3 (pt1 k)) (ms4 (pt1 k)) (hs4 (pt1 k)) (ms5 (pt1 k)) (hs5 (pt1 k)) bufM (Memref.isWhole_whole _)
        (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (h4_k k) := by
  have hv : (pt1 k).val = 56 + k.val := rfl
  unfold bodyAt0
  rw [skel_blocks, dif_neg (fun h => absurd ((c1_iff (pt1 k)).1 h) (by omega)), dif_neg (fun h => absurd ((c2_iff (pt1 k)).1 h) (by omega)),
    dif_neg (fun h => absurd ((c3_iff (pt1 k)).1 h) (by omega)), dif_pos (h4_k k)]
  simp only [pure_bind, bind_unit]

/-- The first point: the preparation, then sweep 0's first chunk. -/
theorem wp_sweep0 (c : Dev nD) (k : Fin 56) (Q : PUnit → sProp 𝕄) :
    iprop((Φp m c k.val ∗ PT c (ms0 (pt0 k)) ((hs0 (pt0 k)).unread (iblk m c 0 (pt0 k))) ∗ AnyPT c (ms2 (pt0 k)) ∗ ∃ W, owes (c : Thread nD τ) 0 W)
        ∗ ((ΦA m c (k.val + 1) ∗ PT c (ms0 (pt0 k)) ((hs0 (pt0 k)).unread (iblk m c 0 (pt0 k)))
            ∗ PT c (ms2 (pt0 k)) (run2 m c k (Memref.whole cc0_scratch1).view.junk (rm m c k.val)).1.1 ∗ ∃ W, owes (c : Thread nD τ) 0 W) -∗ Q ⟨⟩))
      ⊢ wp frame (wpE (defs₀ (F := F)) 𝒱₀ c none) Set.univ (bodyAt0 (pt0 k)) Q := by
  by_cases hk : k.val = 0
  · obtain rfl : k = 0 := Fin.ext hk
    rw [body_first, wp_bind]
    unfold Φp
    rw [if_pos hk]
    iintro ⟨⟨HΦ, H0, H2, HW⟩, Hk⟩
    iapply (step1 m c)
    isplitl [HΦ H0]
    · isplitl [HΦ]; · iexact HΦ
      iexact H0
    iintro ⟨HΦ, H0⟩
    iapply (step2 m c 0)
    isplitl [HΦ H2 HW]
    · isplitl [HΦ]; · iexact HΦ
      isplitl [H2]; · iexact H2
      iexact HW
    iintro ⟨HΦ, H2, HW⟩
    iapply Hk
    isplitl [HΦ]; · iexact HΦ
    isplitl [H0]; · iexact H0
    isplitl [H2]; · iexact H2
    iexact HW
  · rw [body_sweep0 k hk, Φp_A m c _ hk k.isLt.le]
    iintro ⟨⟨HΦ, H0, H2, HW⟩, Hk⟩
    iapply (step2 m c k)
    isplitl [HΦ H2 HW]
    · isplitl [HΦ]; · iexact HΦ
      isplitl [H2]; · iexact H2
      iexact HW
    iintro ⟨HΦ, H2, HW⟩
    iapply Hk
    isplitl [HΦ]; · iexact HΦ
    isplitl [H0]; · iexact H0
    isplitl [H2]; · iexact H2
    iexact HW

theorem sound0 (c : Dev nD) (k : Fin 56) : bodyPre m c (pt0 k) ⊢ wp frame (wpE (defs₀ (F := F)) 𝒱₀ c none) Set.univ (bodyAt0 (pt0 k)) (fun _ => bodyPost m c (pt0 k)) := by
  have hv : (pt0 k).val = k.val := rfl
  have hl := k.isLt
  unfold bodyPre bodyPost
  rw [show (dats m 0 c).Φ (pt0 k).castSucc = Φp m c k.val from rfl, show (dats m 0 c).Φ (pt0 k).succ = Φp m c (k.val + 1) from rfl,
    Φp_A m c (k.val + 1) (Nat.succ_ne_zero _) hl, left_live m c 0 _ rfl, left_live m c 1 _ rfl, left_live m c 2 _ (idle2 _ hl),
    left_idle m c 3 _ (idle3' _ hl) (flush3' _ hl), left_idle m c 4 _ (idle4' _ hl) (flush4' _ hl),
    left_idle m c 5 _ (idle5' _ (Nat.ne_of_lt hl)) (flush5' _ (by omega)), after0, after1, after2]
  simp only [before0, before1]
  iintro ⟨HΦ, HW, ⟨%d0, H0⟩, ⟨%d1, H1⟩, ⟨%d2, H2⟩, H3, H4, H5⟩
  ihave HW := (owesAt_eq m c _) $$ HW
  ihave H0 := (owns_PT c (ms0 (pt0 k)) (hs0 (pt0 k)) _) $$ H0
  ihave H2 := (owns_any c (ms2 (pt0 k)) (hs2 (pt0 k)) _) $$ H2
  iapply (wp_sweep0 m c k)
  isplitl [HΦ H0 H2 HW]
  · isplitl [HΦ]; · iexact HΦ
    isplitl [H0]; · iexact H0
    isplitl [H2]; · iexact H2
    iexact HW
  iintro ⟨HΦ, H0, H2, HW⟩
  isplitl [HΦ]; · iexact HΦ
  isplitl [HW]; · iapply (eq_owesAt m c _); iexact HW
  isplitl [H0]; · iapply (PT_owns c (ms0 (pt0 k)) (hs0 (pt0 k)) _ _ ((hs0 (pt0 k)).read_unread _)); iexact H0
  isplitl [H1]; · iexact H1
  isplitl [H2]
  · iapply (PT_owns c (ms2 (pt0 k)) (hs2 (pt0 k)) _ _ (show _ = outA m c (ka (pt0 k).val) from by
      rw [show ka (pt0 k).val = k from Fin.ext (by show min k.val 55 = k.val; omega)]; rfl))
    iexact H2
  isplitl [H3]; · iexact H3
  isplitl [H4]; · iexact H4
  iexact H5

/-- What the tensor scale's window holds after a point of sweep 1. -/
theorem wp_sweep1 (c : Dev nD) (k : Fin 56) (Q : PUnit → sProp 𝕄) :
    iprop((Φp m c (56 + k.val) ∗ PT c (ms1 (pt1 k)) ((hs1 (pt1 k)).unread (iblk m c 1 (pt1 k))) ∗ AnyPT c (ms3 (pt1 k)) ∗ AnyPT c (ms4 (pt1 k))
          ∗ (∃ d, owns (c : Thread nD τ) (ms5 (pt1 k)) fullShare ((dats m 0 c).before 5 (pt1 k) d)))
        ∗ ((ΦB m c ∗ PT c (ms1 (pt1 k)) ((hs1 (pt1 k)).unread (iblk m c 1 (pt1 k))) ∗ PT c (ms3 (pt1 k)) (run4 m c k).1.1
            ∗ PT c (ms4 (pt1 k)) (run4 m c k).1.2 ∗ Left m c 5 (pt1 k)) -∗ Q ⟨⟩))
      ⊢ wp frame (wpE (defs₀ (F := F)) 𝒱₀ c none) Set.univ (bodyAt0 (pt1 k)) Q := by
  by_cases hk : k.val = 0
  · obtain rfl : k = 0 := Fin.ext hk
    rw [body_head, wp_bind, left_live m c 5 _ (idle5 _ rfl), after5, Φp_A m c _ (by decide) (by decide)]
    iintro ⟨⟨HΦ, H1, H3, H4, ⟨%d5, H5⟩⟩, Hk⟩
    ihave H5 := (owns_any c (ms5 (pt1 0)) (hs5 (pt1 0)) _) $$ H5
    iapply (step3 m c)
    isplitl [HΦ H5]
    · isplitl [HΦ]; · iexact HΦ
      iexact H5
    iintro ⟨HΦ, H5⟩
    iapply (step4 m c 0)
    isplitl [HΦ H1 H3 H4]
    · isplitl [HΦ]; · iexact HΦ
      isplitl [H1]; · iexact H1
      isplitl [H3]; · iexact H3
      iexact H4
    iintro ⟨HΦ, H1, H3, H4⟩
    iapply Hk
    isplitl [HΦ]; · iexact HΦ
    isplitl [H1]; · iexact H1
    isplitl [H3]; · iexact H3
    isplitl [H4]; · iexact H4
    iapply (PT_owns c (ms5 (pt1 0)) (hs5 (pt1 0)) _ _ rfl)
    iexact H5
  · rw [body_sweep1 k hk, Φp_B m c _ (by omega)]
    iintro ⟨⟨HΦ, H1, H3, H4, H5⟩, Hk⟩
    iapply (step4 m c k)
    isplitl [HΦ H1 H3 H4]
    · isplitl [HΦ]; · iexact HΦ
      isplitl [H1]; · iexact H1
      isplitl [H3]; · iexact H3
      iexact H4
    iintro ⟨HΦ, H1, H3, H4⟩
    iapply Hk
    isplitl [HΦ]; · iexact HΦ
    isplitl [H1]; · iexact H1
    isplitl [H3]; · iexact H3
    isplitl [H4]; · iexact H4
    iapply (left5 m c k hk)
    iexact H5

theorem sound1 (c : Dev nD) (k : Fin 56) : bodyPre m c (pt1 k) ⊢ wp frame (wpE (defs₀ (F := F)) 𝒱₀ c none) Set.univ (bodyAt0 (pt1 k)) (fun _ => bodyPost m c (pt1 k)) := by
  have hv : (pt1 k).val = 56 + k.val := rfl
  have hl := k.isLt
  have hi : 56 ≤ (pt1 k).val := Nat.le_add_right _ _
  have hkc : kc (pt1 k).val = k := Fin.ext (by show (56 + k.val - 56) % 56 = k.val; omega)
  unfold bodyPre bodyPost
  rw [show (dats m 0 c).Φ (pt1 k).castSucc = Φp m c (56 + k.val) from rfl, show (dats m 0 c).Φ (pt1 k).succ = Φp m c (56 + k.val + 1) from rfl,
    Φp_B m c (56 + k.val + 1) (by omega), left_live m c 0 _ rfl, left_live m c 1 _ rfl,
    left_live m c 3 _ (idle3 _ hi), left_live m c 4 _ (idle4 _ hi), after0, after1, after3, after4, hkc]
  simp only [before0, before1]
  iintro ⟨HΦ, HW, ⟨%d0, H0⟩, ⟨%d1, H1⟩, H2, ⟨%d3, H3⟩, ⟨%d4, H4⟩, H5⟩
  ihave H1 := (owns_PT c (ms1 (pt1 k)) (hs1 (pt1 k)) _) $$ H1
  ihave H3 := (owns_any c (ms3 (pt1 k)) (hs3 (pt1 k)) _) $$ H3
  ihave H4 := (owns_any c (ms4 (pt1 k)) (hs4 (pt1 k)) _) $$ H4
  iapply (wp_sweep1 m c k)
  isplitl [HΦ H1 H3 H4 H5]
  · isplitl [HΦ]; · iexact HΦ
    isplitl [H1]; · iexact H1
    isplitl [H3]; · iexact H3
    isplitl [H4]; · iexact H4
    iexact H5
  iintro ⟨HΦ, H1, H3, H4, H5⟩
  isplitl [HΦ]; · iexact HΦ
  isplitl [HW]; · iapply (eq_owesAt m c _); iapply (owesAt_eq m c (pt1 k).castSucc); iexact HW
  isplitl [H0]; · iexact H0
  isplitl [H1]; · iapply (PT_owns c (ms1 (pt1 k)) (hs1 (pt1 k)) _ _ ((hs1 (pt1 k)).read_unread _)); iexact H1
  isplitl [H2]; · iapply (left2 m c k); iexact H2
  isplitl [H3]; · iapply (PT_owns c (ms3 (pt1 k)) (hs3 (pt1 k)) _ (outC m c k) rfl); iexact H3
  isplitl [H4]; · iapply (PT_owns c (ms4 (pt1 k)) (hs4 (pt1 k)) _ (outS m c k) rfl); iexact H4
  iexact H5

theorem sound_body (c : Dev nD) (t : Fin cfg0.N) : bodyPre m c t ⊢ wp frame (wpE (defs₀ (F := F)) 𝒱₀ c none) Set.univ (bodyAt0 t) (fun _ => bodyPost m c t) := by
  have hN : t.val < 112 := t.isLt
  by_cases h : t.val < 56
  · exact sound0 m c ⟨t.val, h⟩
  · have e : t = pt1 ⟨t.val - 56, by omega⟩ := Fin.ext (by show t.val = 56 + (t.val - 56); omega)
    rw [e]; exact sound1 m c _

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

end Cert.KernelIdeal.Hand

end
-- ==== Proof.KernelIdeal.Run.lean ====
/-
  Hand-written, untrusted. The launch: the chunk buffer and the tokens dealt chunk by chunk at entry and gathered at exit; the run of
  @main and the frame.
-/
module

public import proofs.«01_k».proof.Proof.KernelIdeal.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Chunk by chunk -/

abbrev G56 (b : Fin 56) : Finset S1280x14336.Idx := (Rect.unit (s := S1280x14336) (grpOff b) S1280x256.size (grpOff_inb b)).set
abbrev S56s (s : Fin 56) : Finset S56x1280x256.Idx := (Rect.unit (s := S56x1280x256) (slotOff s) S1x1280x256.size (slotOff_inb s)).set
omit [FloatOps F] in
theorem grp_set (b : Fin 56) : (grp b : Memref sig .tc .hbm _ _).view.set = G56 b := View.set_slice_whole _ _
theorem mem_G56 (b : Fin 56) (y : S1280x14336.Idx) : y ∈ G56 b ↔ (y 1).val / 256 = b.val := by
  rw [Rect.mem_set_unit]
  have h0 : (y 0).val < 1280 := (y 0).isLt
  constructor
  · intro H
    have a1 : 256 * b.val ≤ (y 1).val ∧ (y 1).val < 256 * b.val + 256 := H 1
    omega
  · intro H a
    fin_cases a
    · show 0 ≤ (y 0).val ∧ (y 0).val < 0 + 1280; omega
    · show 256 * b.val ≤ (y 1).val ∧ (y 1).val < 256 * b.val + 256; omega
theorem mem_S56s (b : Fin 56) (y : S56x1280x256.Idx) : y ∈ S56s b ↔ (y 0).val = b.val := by
  rw [Rect.mem_set_unit]
  have h1 : (y 1).val < 1280 := (y 1).isLt
  have h2 : (y 2).val < 256 := (y 2).isLt
  constructor
  · intro H
    have a0 : b.val ≤ (y 0).val ∧ (y 0).val < b.val + 1 := H 0
    omega
  · intro H a
    fin_cases a
    · show b.val ≤ (y 0).val ∧ (y 0).val < b.val + 1; omega
    · show 0 ≤ (y 1).val ∧ (y 1).val < 0 + 1280; omega
    · show 0 ≤ (y 2).val ∧ (y 2).val < 0 + 256; omega
theorem G56_disjoint : ∀ b b' : Fin 56, b ≠ b' → Disjoint (G56 b) (G56 b') := by
  intro b b' hne; rw [Finset.disjoint_left]; intro y hy hy'; rw [mem_G56] at hy hy'; exact hne (Fin.ext (hy.symm.trans hy'))
theorem G56_cover : (Finset.univ : Finset (Fin 56)).biUnion G56 = Finset.univ := by
  ext y; simp only [Finset.mem_biUnion, Finset.mem_univ, true_and, iff_true]
  have h1 : (y 1).val < 14336 := (y 1).isLt
  exact ⟨⟨(y 1).val / 256, by omega⟩, by rw [mem_G56]⟩
theorem S56s_disjoint : ∀ b b' : Fin 56, b ≠ b' → Disjoint (S56s b) (S56s b') := by
  intro b b' hne; rw [Finset.disjoint_left]; intro y hy hy'; rw [mem_S56s] at hy hy'; exact hne (Fin.ext (hy.symm.trans hy'))
theorem S56s_cover : (Finset.univ : Finset (Fin 56)).biUnion S56s = Finset.univ := by
  ext y; simp only [Finset.mem_biUnion, Finset.mem_univ, true_and, iff_true]
  exact ⟨(y 0).cast (by rfl), by rw [mem_S56s]; rfl⟩

omit [FloatOps F] in
theorem slotP_eq (c : Dev nD) (s : Fin 56) (f) : slotP c s f = (((c : Thread nD τ).loc cc0_scratch0) ↦[S56s s]{fullShare} f : sProp 𝕄) :=
  congrArg (fun S => (_ ↦[S]{fullShare} f : sProp 𝕄)) (rslot_set s)
omit [FloatOps F] in
theorem ent_eq {P Q : sProp 𝕄} (h : P = Q) : P ⊢ Q := by rw [h]
omit [FloatOps F] in
theorem three (A B C : Fin 56 → sProp 𝕄) : bigSep Finset.univ (fun b => iprop(A b ∗ B b ∗ C b)) = iprop(bigSep Finset.univ A ∗ bigSep Finset.univ B ∗ bigSep Finset.univ C) :=
  (bigSep_sep Finset.univ A (fun b => iprop(B b ∗ C b))).trans (congrArg (fun X => iprop(bigSep Finset.univ A ∗ X)) (bigSep_sep Finset.univ B C))
omit [FloatOps F] in
theorem bmono (Φ Ψ : Fin 56 → sProp 𝕄) (h : ∀ s, Φ s ⊢ Ψ s) : bigSep Finset.univ Φ ⊢ bigSep Finset.univ Ψ := bigSep_mono fun s _ => h s
omit [FloatOps F] in
theorem slot_some (c : Dev nD) (s : Fin 56) (f) : (((c : Thread nD τ).loc cc0_scratch0) ↦[S56s s]{fullShare} f : sProp 𝕄) ⊢ iprop(∃ f, slotP c s f) := by
  iintro H; iexists f; iapply (ent_eq (slotP_eq c s f).symm); iexact H
omit [FloatOps F] in
theorem some_slot (c : Dev nD) (s : Fin 56) : (iprop(∃ f, slotP c s f) : sProp 𝕄) ⊢ iprop(∃ f, (((c : Thread nD τ).loc cc0_scratch0) ↦[S56s s]{fullShare} f)) := by
  iintro ⟨%f, H⟩; iexists f; iapply (ent_eq (slotP_eq c s f)); iexact H
omit [FloatOps F] in
theorem held_some (c : Dev nD) (s : Fin 56) (f) : (slotP c s f : sProp 𝕄) ⊢ iprop(∃ f, slotP c s f) := by
  iintro H; iexists f; iexact H

/-- The tokens whole are their chunks home; -/
theorem x_eq (c : Dev nD) :
    (((c : Thread nD τ).loc main_v0) ↦{fullShare} XA m c : sProp 𝕄) = bigSep Finset.univ (homeP c (XA m c)) := by
  rw [Ring.pointsTo_blocks (ℓ := (c : Thread nD τ).loc main_v0) G56 G56_disjoint G56_cover]
  exact bigSep_congr fun b _ => by rw [← grp_set]; rfl
/-- the chunk buffer whole is its slots, -/
theorem buf_split (c : Dev nD) :
    iprop(∃ f : Buf (Elt F) ((c : Thread nD τ).loc cc0_scratch0), ((c : Thread nD τ).loc cc0_scratch0) ↦{fullShare} f) ⊢ (bigSep Finset.univ (fun s : Fin 56 => iprop(∃ f, slotP c s f)) : sProp 𝕄) := by
  iintro ⟨%f, H⟩
  ihave H2 := (ent_eq (Ring.pointsTo_blocks (Ix := Unit) (Name := ℕ) (U := Pipeline.UD sig nD τ) (Lvl := ℕ) (q := fullShare) (ℓ := (c : Thread nD τ).loc cc0_scratch0) S56s S56s_disjoint S56s_cover f)) $$ H
  iapply (bmono _ _ (fun s => slot_some c s f))
  iexact H2
/-- and back. -/
theorem buf_join (c : Dev nD) :
    (bigSep Finset.univ (fun s : Fin 56 => iprop(∃ f, slotP c s f)) : sProp 𝕄) ⊢ iprop(∃ f : Buf (Elt F) ((c : Thread nD τ).loc cc0_scratch0), ((c : Thread nD τ).loc cc0_scratch0) ↦{fullShare} f) :=
  (bmono _ _ (fun s => some_slot c s)).trans
  (Ring.pointsTo_blocks_join_exists (ℓ := (c : Thread nD τ).loc cc0_scratch0) S56s S56s_disjoint S56s_cover ((Memref.whole cc0_scratch0).view.junk))

/-- The kernel's own cells. -/
def osem0 : Fin 56 → SemLoc sig := fun s => SemLoc.dma (csm s).sem
theorem ownSemFacts0 : Pipeline.OwnSemFacts spec0 osem0 := by decide +kernel

abbrev H0 : Finset (Ref sig .tc) := {main_v0}
abbrev R0 : Finset (Ref sig .tc) := ∅
theorem H0_sub : H0 ⊆ Pipeline.restRefs sig spec0 := by decide
theorem R0_sub : R0 ⊆ Pipeline.restRefs sig spec0 \ H0 := Finset.empty_subset _

theorem issuing_none (c : Dev nD) : issuing c (XA m c) 0 = freeP c (XA m c) := by
  funext b; unfold issuing; rw [if_neg (Nat.not_lt_zero _)]
theorem landing_full (c : Dev nD) : landing c (XA m c) 56 = heldP c (XA m c) := by
  funext b; unfold landing; rw [if_pos b.isLt]

theorem hin (c : Dev nD) : Pipeline.ΦDRV osem0 spec0 H0 R0 (V m) (V m) c ⊢ (dats m 0 c).Φ 0 := by
  rw [show (dats m 0 c).Φ 0 = Φ0 m c from rfl]
  unfold Pipeline.ΦDRV Φ0 Pipeline.ownSems0
  rw [scopedRest0_eq, bigSep_singleton, issuing_none]
  unfold freeP
  rw [three (fun b => iprop(∃ f, slotP c b f)) (homeP c (XA m c)) (cellP c), ← x_eq m c]
  iintro ⟨⟨HB, HS⟩, HC, HX, -⟩
  isplitr [HS]; swap; · iexact HS
  isplitl [HB]; · iapply (buf_split c); iexact HB
  isplitl [HX]; · iexact HX
  iexact HC

theorem hout (c : Dev nD) : (dats m 0 c).Φ (Fin.last cfg0.N) ⊢ Pipeline.ΦDRV osem0 spec0 H0 R0 (V m) (V m) c := by
  rw [show (dats m 0 c).Φ (Fin.last cfg0.N) = ΦB m c from rfl]
  unfold Pipeline.ΦDRV ΦB Pipeline.ownSems0
  rw [scopedRest0_eq, bigSep_singleton, bigSep_empty, landing_full]
  unfold heldP
  rw [three (fun b => slotP c b (landed c (XA m c) b (rslot b).view.junk)) (homeP c (XA m c)) (cellP c), ← x_eq m c]
  iintro ⟨⟨HB, HX, HC⟩, H1, H2, H3, H4, H5, H6, H7, H8⟩
  isplitl [HB H1 H2 H3 H4 H5 H6 H7 H8]
  · isplitl [HB]
    · iapply (buf_join c)
      iapply (bmono _ _ (fun s => held_some c s (landed c (XA m c) s (rslot s).view.junk)))
      iexact HB
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexact H8
  isplitl [HC]; · iexact HC
  isplitl [HX]; · iexact HX
  iempintro

/-! ## The run -/

set_option maxHeartbeats 800000 in
theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What @main ends with: the windows' arrays as the pipeline leaves them, every other buffer as the host lines after the region leave it,
    the semaphore counters at zero. -/
def Post (r : PUnit × MemSt nD τ sig (Elt F)) : Prop :=
  (∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b)
        = StableHlo.after [hostOps1].flatten (Pipeline.withArrays spec0 c (Pipeline.withR (V0 m c) R0 c (V m c)) fun w => (dats m 0 c).arrAt w cfg0.N) (Proc.devRef .tc b))
  ∧ r.2.sem = fun _ => 0

set_option backward.isDefEq.respectTransparency.types false in
theorem run_main : θ_run defs (onTc (τ := τ) (main (F := F))) (s₀ m ρ) (Post m) :=
  Pipeline.θ_run_frame_dmaR_aroundV cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := V m)
    (hmain := hmainD m) (hA := A_eq m) (hin := hin m) (hout := hout m) (Q' := Post m) (hQ' := fun r h => h)

/-- A buffer the region bypasses and no host line after it writes. -/
theorem withR_none (c : Dev nD) : Pipeline.withR (V0 m c) R0 c (V m c) = V0 m c := by
  funext b
  unfold Pipeline.withR
  simp

theorem W_arg0 (c : Dev nD) : StableHlo.after [hostOps1].flatten (Pipeline.withArrays spec0 c (Pipeline.withR (V0 m c) R0 c (V m c)) fun w => (dats m 0 c).arrAt w cfg0.N) (Proc.devRef .tc main_arg0) = m ((c : Thread nD τ).loc main_arg0) := by
  rw [withR_none, StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_arg2 (c : Dev nD) : StableHlo.after [hostOps1].flatten (Pipeline.withArrays spec0 c (Pipeline.withR (V0 m c) R0 c (V m c)) fun w => (dats m 0 c).arrAt w cfg0.N) (Proc.devRef .tc main_arg2) = m ((c : Thread nD τ).loc main_arg2) := by
  rw [withR_none, StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The three arguments end as launched. -/
theorem args_kept (r : PUnit × MemSt nD τ sig (Elt F)) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(((h.1 c).2 main_arg0 (Pipeline.mem_restRefs_of main_arg0 (by decide) (by decide))).trans (W_arg0 m c)),
    ((h.1 c).1 0).trans (((dats m 0 c).arrAt_in 0 rfl _).trans ((A_eq m c 0).trans (V_main_arg1 m c))),
    (((h.1 c).2 main_arg2 (Pipeline.mem_restRefs_of main_arg2 (by decide) (by decide))).trans (W_arg2 m c))⟩

/-- The frame: from any memory with zero counters @main terminates, its arguments unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_kept m r h c, h.2⟩) (run_main m ρ)

end Cert.KernelIdeal.Hand

end
-- ==== Proof.Values.Consts.lean ====
/-
  Hand-written, untrusted. The scalar arithmetic of the quantiser over the extended reals: the code of one element, computed by the
  kernel from integer words and by the reference from steps and fractions, is the same four bits.
-/
module

public import Idealize.ShloMosaic.Lib.Pointwise
public import Idealize.ShloMosaic.Lib.IdealHost

@[expose] public section

noncomputable section

namespace Cert.Scalar

open Idealize.ShloMosaic

/-! ## The constants -/

theorem c_G : Ideal.ofBits .f32 889192448#32 = (((2 : ℝ) ^ (-21 : ℤ) : ℝ) : EReal) := by
  simp [Ideal.ofBits, Ideal.ieee, -EReal.coe_mul]; try norm_num
theorem c_6G : Ideal.ofBits .f32 910163968#32 = ((6 * (2 : ℝ) ^ (-21 : ℤ) : ℝ) : EReal) := by
  simp [Ideal.ofBits, Ideal.ieee, -EReal.coe_mul]; try norm_num
theorem c_2G : Ideal.ofBits .f32 897581056#32 = ((2 * (2 : ℝ) ^ (-21 : ℤ) : ℝ) : EReal) := by
  simp [Ideal.ofBits, Ideal.ieee, -EReal.coe_mul]; try norm_num
theorem c_4G : Ideal.ofBits .f32 905969664#32 = ((4 * (2 : ℝ) ^ (-21 : ℤ) : ℝ) : EReal) := by
  simp [Ideal.ofBits, Ideal.ieee, -EReal.coe_mul]; try norm_num
theorem c_8G : Ideal.ofBits .f32 914358272#32 = ((8 * (2 : ℝ) ^ (-21 : ℤ) : ℝ) : EReal) := by
  simp [Ideal.ofBits, Ideal.ieee, -EReal.coe_mul]; try norm_num
theorem c_p44 : Ideal.ofBits .f32 1434451968#32 = ((17592186044416 : ℝ) : EReal) := by
  simp [Ideal.ofBits, Ideal.ieee, -EReal.coe_mul]; try norm_num
theorem c_p43 : Ideal.ofBits .f32 1426063360#32 = ((8796093022208 : ℝ) : EReal) := by
  simp [Ideal.ofBits, Ideal.ieee, -EReal.coe_mul]; try norm_num
theorem c_p42 : Ideal.ofBits .f32 1417674752#32 = ((4398046511104 : ℝ) : EReal) := by
  simp [Ideal.ofBits, Ideal.ieee, -EReal.coe_mul]; try norm_num
theorem c_p41 : Ideal.ofBits .f32 1409286144#32 = ((2199023255552 : ℝ) : EReal) := by
  simp [Ideal.ofBits, Ideal.ieee, -EReal.coe_mul]; try norm_num
theorem c_2 : Ideal.ofBits .f32 1073741824#32 = ((2 : ℝ) : EReal) := by
  simp [Ideal.ofBits, Ideal.ieee, -EReal.coe_mul]; try norm_num
theorem c_4 : Ideal.ofBits .f32 1082130432#32 = ((4 : ℝ) : EReal) := by
  simp [Ideal.ofBits, Ideal.ieee, -EReal.coe_mul]; try norm_num
theorem c_6 : Ideal.ofBits .f32 1086324736#32 = ((6 : ℝ) : EReal) := by
  simp [Ideal.ofBits, Ideal.ieee, -EReal.coe_mul]; try norm_num
theorem c_m6 : Ideal.ofBits .f32 3233808384#32 = ((-6 : ℝ) : EReal) := by
  simp [Ideal.ofBits, Ideal.ieee, -EReal.coe_mul]; try norm_num
theorem c_half : Ideal.ofBits .f32 1056964608#32 = ((1 / 2 : ℝ) : EReal) := by
  simp [Ideal.ofBits, Ideal.ieee, -EReal.coe_mul]; try norm_num
theorem c_256 : Ideal.ofBits .f32 1132462080#32 = ((256 : ℝ) : EReal) := by
  simp [Ideal.ofBits, Ideal.ieee, -EReal.coe_mul]; try norm_num
theorem c_base : Ideal.ofBits .f32 1262477311#32 = ((12574719 : ℝ) : EReal) := by
  simp [Ideal.ofBits, Ideal.ieee, -EReal.coe_mul]; try norm_num
theorem c_m14 : Ideal.ofBits .f32 3330277376#32 = ((-16384 : ℝ) : EReal) := by
  simp [Ideal.ofBits, Ideal.ieee, -EReal.coe_mul]; try norm_num
theorem c_sum : Ideal.ofBits .f32 1220542464#32 = ((393216 : ℝ) : EReal) := by
  simp [Ideal.ofBits, Ideal.ieee, -EReal.coe_mul]; try norm_num

/-! ## Reals among the extended reals -/

theorem one_coe : (1 : EReal) = ((1 : ℝ) : EReal) := rfl
theorem zero_coe : (0 : EReal) = ((0 : ℝ) : EReal) := rfl
theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm
theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- An integer that fits is converted as it is. -/
theorem fptosi_int (n : ℤ) (h0 : -2147483648 ≤ n) (h1 : n ≤ 2147483647) : Ideal.fptosi 32 (((n : ℝ)) : EReal) = BitVec.ofInt 32 n := by
  unfold Ideal.fptosi Ideal.toIntClamped
  congr 1
  show max _ (min _ (if 0 ≤ (n : ℝ) then ⌊(n : ℝ)⌋ else ⌈(n : ℝ)⌉)) = n
  rw [Int.floor_intCast, Int.ceil_intCast, ite_self]
  have a : (-((2 ^ (32 - 1) : ℕ) : ℤ)) = -2147483648 := by norm_num
  have b : (((2 ^ (32 - 1) : ℕ) : ℤ) - 1) = 2147483647 := by norm_num
  rw [a, b]; omega
theorem fptosi_nat (n : ℕ) (h1 : n ≤ 2147483647) : Ideal.fptosi 32 (((n : ℝ)) : EReal) = BitVec.ofNat 32 n := by
  have := fptosi_int (n : ℤ) (by omega) (by omega)
  rw [Int.cast_natCast] at this
  rw [this]; rfl

end Cert.Scalar

end
-- ==== Proof.Values.Level.lean ====
/-
  Hand-written, untrusted. The scalar arithmetic of the quantiser over the extended reals: the code of one element, computed by the
  kernel from integer words and by the reference from steps and fractions, is the same four bits.
-/
module

public import proofs.«01_k».proof.Proof.Values.Consts

@[expose] public section

noncomputable section

namespace Cert.Scalar

open Idealize.ShloMosaic

/-! ## The level of a magnitude and its code -/

/-- The place of a magnitude among the codes: code `k` sits at `k`. -/
def lev (a : ℝ) : ℝ := if a < 2 then 2 * a else if a < 4 then a + 2 else a / 2 + 4
/-- The code a magnitude rounds to, the byte `r` its rounding noise. -/
def idx (a : ℝ) (r : ℕ) : ℕ := ⌊lev a⌋₊ + if (r : ℝ) + 1 / 2 < (lev a - ⌊lev a⌋₊) * 256 then 1 else 0

/-- A level is not negative, -/
theorem lev_nonneg (a : ℝ) (h : 0 ≤ a) : 0 ≤ lev a := by unfold lev; split_ifs <;> linarith
/-- at most seven, -/
theorem lev_le (a : ℝ) (h : a ≤ 6) : lev a ≤ 7 := by unfold lev; split_ifs <;> linarith
/-- and so is its rounding. -/
theorem idx_le (a : ℝ) (r : ℕ) (h0 : 0 ≤ a) (h : a ≤ 6) : idx a r ≤ 7 := by
  have h1 := lev_nonneg a h0
  have h2 := lev_le a h
  have f1 := Nat.floor_le h1
  have f2 := Nat.lt_floor_add_one (lev a)
  unfold idx
  by_cases e : ⌊lev a⌋₊ = 7
  · rw [e] at f1 ⊢
    rw [if_neg]
    have : lev a = 7 := le_antisymm h2 (by exact_mod_cast f1)
    rw [this]; push_cast
    have : (0 : ℝ) ≤ r := Nat.cast_nonneg r
    linarith
  · have : ⌊lev a⌋₊ ≤ 7 := by
      have := Nat.floor_le_floor h2
      simpa using this
    split_ifs <;> omega

/-- The top bits of the two words' sum are the code. -/
theorem word_core (a : ℝ) (r : ℕ) (h0 : 0 ≤ a) (h : a ≤ 6) (hr : r < 256) :
    (2147483648 + ⌈(2 : ℝ) ^ 22 * lev a⌉₊ + (4186111 - 16384 * r)) / 4194304 = 512 + idx a r := by
  have h1 := lev_nonneg a h0
  have f1 := Nat.floor_le h1
  have f2 := Nat.lt_floor_add_one (lev a)
  set m := ⌊lev a⌋₊ with hm
  set f := lev a - m with hf
  have hL : lev a = m + f := by rw [hf]; ring
  have e : ⌈(2 : ℝ) ^ 22 * lev a⌉₊ = ⌈(2 : ℝ) ^ 22 * f⌉₊ + 2 ^ 22 * m := by
    rw [hL, show (2 : ℝ) ^ 22 * (m + f) = 2 ^ 22 * f + ((2 ^ 22 * m : ℕ) : ℝ) by push_cast; ring, Nat.ceil_add_natCast (by positivity)]
  rw [e]
  have c1 : ⌈(2 : ℝ) ^ 22 * f⌉₊ ≤ 2 ^ 22 := by
    apply Nat.ceil_le.2; push_cast; nlinarith
  have c2 : 16384 * r + 8192 < ⌈(2 : ℝ) ^ 22 * f⌉₊ ↔ (r : ℝ) + 1 / 2 < f * 256 := by
    rw [Nat.lt_ceil]; push_cast
    constructor <;> intro H <;> linarith
  unfold idx
  rw [← hm, ← hf]
  by_cases H : (r : ℝ) + 1 / 2 < f * 256
  · rw [if_pos H]; have := c2.2 H; omega
  · rw [if_neg H]; have : ¬ _ := fun h => H (c2.1 h); omega

end Cert.Scalar

end
-- ==== Proof.Values.RefCode.lean ====
/-
  Hand-written, untrusted. The reference's code of one element, from steps and fractions over the extended reals.
-/
module

public import proofs.«01_k».proof.Proof.Values.Level

@[expose] public section

noncomputable section

namespace Cert.Scalar

open Idealize.ShloMosaic

/-- The reference's step at a magnitude, -/
def stepS (a : EReal) : EReal := if a < Ideal.ofBits .f32 1073741824#32 then Ideal.ofBits .f32 1056964608#32 else if a < Ideal.ofBits .f32 1082130432#32 then 1 else Ideal.ofBits .f32 1073741824#32
/-- its rounded magnitude, from the clipped element and the noise, -/
def qS (y r : EReal) : EReal :=
  Ideal.liftRound Int.floor (Ideal.div (FloatOps.absf (F := Ideal) (φ := .f32) y) (stepS (FloatOps.absf (F := Ideal) (φ := .f32) y))) * stepS (FloatOps.absf (F := Ideal) (φ := .f32) y)
    + stepS (FloatOps.absf (F := Ideal) (φ := .f32) y) * FloatOps.sitofp (F := Ideal) .f32 (BitVec.setWidth 32 (BitVec.ofBool (decide (r + Ideal.ofBits .f32 1056964608#32
      < Ideal.div (FloatOps.absf (F := Ideal) (φ := .f32) y - Ideal.liftRound Int.floor (Ideal.div (FloatOps.absf (F := Ideal) (φ := .f32) y) (stepS (FloatOps.absf (F := Ideal) (φ := .f32) y))) * stepS (FloatOps.absf (F := Ideal) (φ := .f32) y))
          (stepS (FloatOps.absf (F := Ideal) (φ := .f32) y)) * Ideal.ofBits .f32 1132462080#32))))
/-- the code of a rounded magnitude, -/
def iS (q : EReal) : BitVec 32 :=
  FloatOps.fptosi (F := Ideal) (φ := .f32) 32 (if q < Ideal.ofBits .f32 1073741824#32 then Ideal.ofBits .f32 1073741824#32 * q
    else if q < Ideal.ofBits .f32 1082130432#32 then q + Ideal.ofBits .f32 1073741824#32
    else q * Ideal.ofBits .f32 1056964608#32 + Ideal.ofBits .f32 1082130432#32)
/-- and the code with its sign. -/
def codeS (y q : EReal) : BitVec 32 :=
  Scalar.select (IntOp.andi (BitVec.ofBool (decide (y < 0))) (IntOp.cmpi CmpIPredicate.sgt (iS q) 0#32)) (IntOp.ori (iS q) 8#32) (iS q)

/-- The rounded magnitude, the step and the floor known. -/
theorem qS_eq (y : EReal) (a s : ℝ) (m r : ℕ) (hs : 0 < s) (ea : max y (-y) = ((a : ℝ) : EReal)) (es : stepS ((a : ℝ) : EReal) = ((s : ℝ) : EReal)) (em : ⌊a / s⌋ = (m : ℤ)) :
    qS y ((r : ℝ) : EReal) = ((s * (m + if (r : ℝ) + 1 / 2 < (a / s - m) * 256 then 1 else 0) : ℝ) : EReal) := by
  unfold qS
  rw [show FloatOps.absf (F := Ideal) (φ := .f32) y = max y (-y) from rfl, ea, es, div_coe a s hs.ne', Ideal.liftRound_coe, em, c_half, c_256, ← EReal.coe_mul, ← EReal.coe_sub,
    div_coe _ s hs.ne', ← EReal.coe_mul, ← EReal.coe_add]
  simp only [EReal.coe_lt_coe_iff]
  have e : (a - ((m : ℤ) : ℝ) * s) / s = a / s - m := by
    rw [sub_div, mul_div_cancel_right₀ _ hs.ne', Int.cast_natCast]
  rw [e]
  by_cases h : (r : ℝ) + 1 / 2 < (a / s - m) * 256
  · rw [decide_eq_true h, if_pos h]
    have : FloatOps.sitofp (F := Ideal) .f32 (BitVec.setWidth 32 (BitVec.ofBool true)) = ((1 : ℝ) : EReal) := by
      show ((((BitVec.setWidth 32 (BitVec.ofBool true)).toInt : ℤ) : ℝ) : EReal) = _
      rw [show (BitVec.setWidth 32 (BitVec.ofBool true)).toInt = 1 by decide]; norm_num
    rw [this, ← EReal.coe_mul, ← EReal.coe_add, Int.cast_natCast]
    exact congrArg _ (by ring)
  · rw [decide_eq_false h, if_neg h]
    have : FloatOps.sitofp (F := Ideal) .f32 (BitVec.setWidth 32 (BitVec.ofBool false)) = ((0 : ℝ) : EReal) := by
      show ((((BitVec.setWidth 32 (BitVec.ofBool false)).toInt : ℤ) : ℝ) : EReal) = _
      rw [show (BitVec.setWidth 32 (BitVec.ofBool false)).toInt = 0 by decide]; norm_num
    rw [this, ← EReal.coe_mul, ← EReal.coe_add, Int.cast_natCast]
    exact congrArg _ (by ring)

/-- The code of a rounded magnitude that is a code's value. -/
theorem iS_eq (q : ℝ) (k : ℕ) (hk : k ≤ 7) (h : (if q < 2 then 2 * q else if q < 4 then q + 2 else q * (1 / 2) + 4) = k) : iS ((q : ℝ) : EReal) = BitVec.ofNat 32 k := by
  unfold iS
  rw [c_2, c_4, c_half]
  simp only [EReal.coe_lt_coe_iff, ← EReal.coe_mul, ← EReal.coe_add]
  rw [show FloatOps.fptosi (F := Ideal) (φ := .f32) 32 = Ideal.fptosi 32 from rfl, ← fptosi_nat k (by omega), ← h]
  split_ifs <;> rfl

/-- The rounded magnitude's code is the magnitude's. -/
theorem iS_qS (y : EReal) (a : ℝ) (r : ℕ) (h0 : 0 ≤ a) (h : a ≤ 6) (ea : max y (-y) = ((a : ℝ) : EReal)) : iS (qS y ((r : ℝ) : EReal)) = BitVec.ofNat 32 (idx a r) := by
  have hi := idx_le a r h0 h
  have step : ∀ (s : ℝ) (m k0 : ℕ), 0 < s → stepS ((a : ℝ) : EReal) = ((s : ℝ) : EReal) → lev a = a / s + k0 → ⌊a / s⌋₊ = m →
      (∀ u : ℕ, (u = 0 ∨ u = 1) → (if s * (m + u) < 2 then 2 * (s * (m + u)) else if s * (m + u) < 4 then s * (m + u) + 2 else s * (m + u) * (1 / 2) + 4) = ((m + u + k0 : ℕ) : ℝ)) →
      iS (qS y ((r : ℝ) : EReal)) = BitVec.ofNat 32 (idx a r) := by
    intro s m k0 hs es el em hu
    have hp : 0 ≤ a / s := by positivity
    have em' : ⌊a / s⌋ = (m : ℤ) := by rw [← em]; exact (Int.natCast_floor_eq_floor hp).symm
    have ei : idx a r = m + (if (r : ℝ) + 1 / 2 < (a / s - m) * 256 then 1 else 0) + k0 := by
      unfold idx
      rw [el, Nat.floor_add_natCast hp, em]
      have : a / s + (k0 : ℝ) - ((m + k0 : ℕ) : ℝ) = a / s - m := by push_cast; ring
      rw [this]; omega
    rw [qS_eq y a s m r hs ea es em']
    refine iS_eq _ _ hi ?_
    rw [ei]
    by_cases hc : (r : ℝ) + 1 / 2 < (a / s - m) * 256
    · have := hu 1 (Or.inr rfl); simp only [if_pos hc]; push_cast at this ⊢; exact this
    · have := hu 0 (Or.inl rfl); simp only [if_neg hc]; push_cast at this ⊢; exact this
  have fl : ∀ (x : ℝ) (m : ℕ), (m : ℝ) ≤ x → x < m + 1 → ⌊x⌋₊ = m := fun x m h1 h2 => (Nat.floor_eq_iff ((Nat.cast_nonneg m).trans h1)).2 ⟨h1, h2⟩
  rcases lt_or_ge a 2 with c2 | c2
  · have es : stepS ((a : ℝ) : EReal) = ((1 / 2 : ℝ) : EReal) := by
      unfold stepS; rw [c_2, c_half, if_pos (EReal.coe_lt_coe_iff.2 c2)]
    have el : lev a = a / (1 / 2) + (0 : ℕ) := by unfold lev; rw [if_pos c2]; push_cast; ring
    rcases lt_or_ge a 1 with d1 | d1
    · rcases lt_or_ge a (1 / 2) with d0 | d0
      · refine step (1 / 2) 0 0 (by norm_num) es el (fl _ _ (by push_cast; positivity) (by push_cast; linarith)) ?_
        rintro u (rfl | rfl) <;> norm_num
      · refine step (1 / 2) 1 0 (by norm_num) es el (fl _ _ (by push_cast; linarith) (by push_cast; linarith)) ?_
        rintro u (rfl | rfl) <;> norm_num
    · rcases lt_or_ge a (3 / 2) with d0 | d0
      · refine step (1 / 2) 2 0 (by norm_num) es el (fl _ _ (by push_cast; linarith) (by push_cast; linarith)) ?_
        rintro u (rfl | rfl) <;> norm_num
      · refine step (1 / 2) 3 0 (by norm_num) es el (fl _ _ (by push_cast; linarith) (by push_cast; linarith)) ?_
        rintro u (rfl | rfl) <;> norm_num
  rcases lt_or_ge a 4 with c4 | c4
  · have es : stepS ((a : ℝ) : EReal) = ((1 : ℝ) : EReal) := by
      unfold stepS; rw [c_2, c_4, if_neg (by rw [EReal.coe_lt_coe_iff]; linarith), if_pos (EReal.coe_lt_coe_iff.2 c4)]; rfl
    have el : lev a = a / 1 + (2 : ℕ) := by unfold lev; rw [if_neg (by linarith), if_pos c4]; push_cast; ring
    rcases lt_or_ge a 3 with d1 | d1
    · refine step 1 2 2 (by norm_num) es el (fl _ _ (by push_cast; linarith) (by push_cast; linarith)) ?_
      rintro u (rfl | rfl) <;> norm_num
    · refine step 1 3 2 (by norm_num) es el (fl _ _ (by push_cast; linarith) (by push_cast; linarith)) ?_
      rintro u (rfl | rfl) <;> norm_num
  · have es : stepS ((a : ℝ) : EReal) = ((2 : ℝ) : EReal) := by
      unfold stepS; rw [c_2, c_4, if_neg (by rw [EReal.coe_lt_coe_iff]; linarith), if_neg (by rw [EReal.coe_lt_coe_iff]; linarith)]
    have el : lev a = a / 2 + (4 : ℕ) := by unfold lev; rw [if_neg (by linarith), if_neg (by linarith)]; push_cast; ring
    rcases lt_or_ge a 6 with d1 | d1
    · refine step 2 2 4 (by norm_num) es el (fl _ _ (by push_cast; linarith) (by push_cast; linarith)) ?_
      rintro u (rfl | rfl) <;> norm_num
    · refine step 2 3 4 (by norm_num) es el (fl _ _ (by push_cast; linarith) (by push_cast; linarith)) ?_
      rintro u (rfl | rfl) <;> norm_num

/-- The code as a word. -/
theorem code_word : ∀ k : Fin 8, ∀ s : Bool, Scalar.select (IntOp.andi (BitVec.ofBool s) (IntOp.cmpi CmpIPredicate.sgt (BitVec.ofNat 32 k.val) 0#32)) (IntOp.ori (BitVec.ofNat 32 k.val) 8#32) (BitVec.ofNat 32 k.val)
    = BitVec.ofNat 32 (k.val + if s = true ∧ 0 < k.val then 8 else 0) := by decide

/-- The reference's code of an element is its magnitude's code, the sign above it unless the code is zero. -/
theorem codeS_eq (y : EReal) (a : ℝ) (r : ℕ) (h0 : 0 ≤ a) (h : a ≤ 6) (ea : max y (-y) = ((a : ℝ) : EReal)) :
    codeS y (qS y ((r : ℝ) : EReal)) = BitVec.ofNat 32 (idx a r + if y < 0 ∧ 0 < idx a r then 8 else 0) := by
  have hi := idx_le a r h0 h
  unfold codeS
  rw [iS_qS y a r h0 h ea, code_word ⟨idx a r, by omega⟩ (decide (y < 0))]
  simp only [decide_eq_true_eq]

/-! ## The scaled element -/

/-- The reference's clipped element, -/
def yR (w d : EReal) : EReal := min (Ideal.ofBits .f32 1086324736#32) (max (Ideal.ofBits .f32 3233808384#32) (if 0 < d then Ideal.div w (if 0 < d then d else 1) else 0))
/-- and the kernel's scaled one. -/
def yK (w d : EReal) : EReal := w * (if 0 < d then Ideal.div (Ideal.ofBits .f32 889192448#32) (if 0 < d then d else 1) else 0)

/-- The two have the same magnitude, up to the kernel's scale, and the same sign. -/
theorem yK_yR (w d : EReal) : ∃ a : ℝ, 0 ≤ a ∧ a ≤ 6 ∧ max (yR w d) (-yR w d) = ((a : ℝ) : EReal)
    ∧ min (max (yK w d) (-yK w d)) ((6 * (2 : ℝ) ^ (-21 : ℤ) : ℝ) : EReal) = (((2 : ℝ) ^ (-21 : ℤ) * a : ℝ) : EReal) ∧ (yK w d < 0 ↔ yR w d < 0) := by
  have hG : (0 : ℝ) < (2 : ℝ) ^ (-21 : ℤ) := by positivity
  obtain ⟨t, e1, e2⟩ : ∃ t : EReal, yR w d = min ((6 : ℝ) : EReal) (max ((-6 : ℝ) : EReal) t) ∧ yK w d = (((2 : ℝ) ^ (-21 : ℤ) : ℝ) : EReal) * t := by
    unfold yR yK
    rw [c_6, c_m6, c_G]
    by_cases h : 0 < d
    · refine ⟨Ideal.div w d, by simp only [if_pos h], ?_⟩
      simp only [if_pos h]
      unfold Ideal.div
      rw [if_neg h.ne', if_neg h.ne', ← mul_assoc, ← mul_assoc, mul_comm w]
    · refine ⟨0, by simp only [if_neg h], ?_⟩
      simp only [if_neg h, mul_zero]
  rw [e1, e2]
  generalize (2 : ℝ) ^ (-21 : ℤ) = G at hG
  induction t with
  | bot =>
    refine ⟨6, by norm_num, le_rfl, ?_, ?_, ?_⟩
    · rw [max_eq_left bot_le, min_eq_right (by rw [EReal.coe_le_coe_iff]; norm_num), ← EReal.coe_neg, coe_max]; norm_num
    · rw [EReal.coe_mul_bot_of_pos hG, EReal.neg_bot, max_eq_right bot_le, min_eq_right le_top, mul_comm]
    · rw [EReal.coe_mul_bot_of_pos hG, max_eq_left bot_le, min_eq_right (by rw [EReal.coe_le_coe_iff]; norm_num)]
      exact ⟨fun _ => by rw [zero_coe, EReal.coe_lt_coe_iff]; norm_num, fun _ => EReal.bot_lt_zero⟩
  | top =>
    refine ⟨6, by norm_num, le_rfl, ?_, ?_, ?_⟩
    · rw [max_eq_right le_top, min_eq_left le_top, ← EReal.coe_neg, coe_max]; norm_num
    · rw [EReal.coe_mul_top_of_pos hG, max_eq_left le_top, min_eq_right le_top, mul_comm]
    · rw [EReal.coe_mul_top_of_pos hG, max_eq_right le_top, min_eq_left le_top]
      exact ⟨fun h => absurd h (not_lt.2 le_top), fun h => absurd h (not_lt.2 (by rw [zero_coe, EReal.coe_le_coe_iff]; norm_num))⟩
  | coe t =>
    refine ⟨min |t| 6, le_min (abs_nonneg t) (by norm_num), min_le_right _ _, ?_, ?_, ?_⟩
    · rw [coe_max, coe_min, ← EReal.coe_neg, coe_max]
      refine congrArg _ ?_
      rcases le_total 0 t with h | h
      · rw [abs_of_nonneg h, max_eq_right (show (-6 : ℝ) ≤ t by linarith), min_comm, max_eq_left]
        have : 0 ≤ min t 6 := le_min h (by norm_num)
        linarith
      · rw [abs_of_nonpos h, min_eq_right (show max (-6) t ≤ 6 from max_le (by norm_num) (by linarith)), ← min_neg_neg, neg_neg, min_comm, max_eq_right]
        have : 0 ≤ min (-t) 6 := le_min (by linarith) (by norm_num)
        have : max (-6) t ≤ 0 := max_le (by norm_num) h
        have e : min (-t) 6 = -(max (-6) t) := by rw [← min_neg_neg, neg_neg, min_comm]
        rw [e]; linarith
    · rw [← EReal.coe_mul, ← EReal.coe_neg, coe_max, coe_min]
      refine congrArg _ ?_
      rw [show max (G * t) (-(G * t)) = |G * t| from rfl, abs_mul, abs_of_pos hG, mul_comm 6 G, ← mul_min_of_nonneg _ _ hG.le]
    · rw [← EReal.coe_mul, coe_max, coe_min, zero_coe, EReal.coe_lt_coe_iff, EReal.coe_lt_coe_iff, min_lt_iff, max_lt_iff]
      constructor
      · intro h; right; exact ⟨by norm_num, by by_contra hc; exact absurd h (not_lt.2 (mul_nonneg hG.le (not_lt.1 hc)))⟩
      · rintro (h | ⟨_, h⟩)
        · norm_num at h
        · exact mul_neg_of_pos_of_neg hG h

end Cert.Scalar

end
-- ==== Proof.Values.Spec.lean ====
/-
  Hand-written, untrusted. The results as functions of the transformed blocks and of the noise bytes, over the extended reals.
-/
module

public import proofs.«01_k».proof.Proof.Values.RefCode

@[expose] public section

noncomputable section

namespace Cert.Spec

open Idealize.ShloMosaic Cert.Scalar

/-- The transformed blocks: block, place in the block, column. -/
abbrev Blocks := Fin 80 → Fin 16 → Fin 14336 → EReal

/-- A magnitude. -/
abbrev mag (x : EReal) : EReal := FloatOps.absf (F := Ideal) (φ := .f32) x
/-- A block's largest magnitude; -/
def bmax (w : Blocks) (n : Fin 80) (d : Fin 14336) : EReal := Finset.fold max (Ideal.ofBits .f32 4286578688#32) (fun i => mag (w n i d)) Finset.univ
/-- the tensor's; -/
def tmax (w : Blocks) : EReal := ⨆ n, ⨆ i, ⨆ d, mag (w n i d)
/-- the tensor scale of a largest magnitude; -/
def tsOf (t : EReal) : EReal := if 0 < t then Ideal.div t (Ideal.ofBits .f32 1160249344#32) else 1
/-- a block's scale; -/
def sbOf (b ts : EReal) : EReal := Ideal.div b (Ideal.ofBits .f32 1086324736#32 * ts)
/-- The tensor scale; -/
def ts (w : Blocks) : EReal := tsOf (tmax w)
/-- a block's scale. -/
def sb (w : Blocks) (n : Fin 80) (d : Fin 14336) : EReal := sbOf (bmax w n d) (ts w)
/-- what it is divided by; -/
def dv (w : Blocks) (n : Fin 80) (d : Fin 14336) : EReal := sb w n d * ts w
/-- its code, `r` the noise byte. -/
def code (w : Blocks) (r : ℕ) (n : Fin 80) (i : Fin 16) (d : Fin 14336) : BitVec 32 :=
  codeS (yR (w n i d) (dv w n d)) (qS (yR (w n i d) (dv w n d)) ((r : ℝ) : EReal))

/-- Sylvester's matrix: the parity of the bits that two places share. -/
def par (i j : Fin 16) : BitVec 32 :=
  let k := BitVec.ofNat 32 i.val &&& BitVec.ofNat 32 j.val
  ((k &&& 1#32) + (k.sshiftRight 1 &&& 1#32) + (k.sshiftRight 2 &&& 1#32) + (k.sshiftRight 3 &&& 1#32)) &&& 1#32
/-- The transform's coefficient, a quarter of ±1 times a sign; -/
def coef (s : Fin 16 → EReal) (i j : Fin 16) : EReal :=
  Ideal.ofBits .f32 1048576000#32 * (1 - Ideal.ofBits .f32 1073741824#32 * FloatOps.sitofp (F := Ideal) .f32 (par i j)) * s j
/-- row `16n + i`; -/
def row (n : Fin 80) (i : Fin 16) : Fin 1280 := ⟨n.val * 16 + i.val, by omega⟩
/-- the transformed blocks of an array by its rows and columns. -/
def trn (x : Fin 1280 → Fin 14336 → EReal) (s : Fin 16 → EReal) : Blocks := fun n i d => ∑ j, x (row n j) d * coef s i j
/-- The packed byte: two neighbours' codes. -/
def byte (w : Blocks) (u : Fin 14336 → Fin 1280 → BitVec 8) (d : Fin 14336) (n : Fin 80) (q : Fin 8) : BitVec 8 :=
  let i0 : Fin 16 := ⟨2 * q.val, by omega⟩
  let i1 : Fin 16 := ⟨2 * q.val + 1, by omega⟩
  (code w (u d (row n i0)).toNat n i0 d ||| code w (u d (row n i1)).toNat n i1 d <<< 4).setWidth 8

theorem c_bot : Ideal.ofBits .f32 4286578688#32 = (⊥ : EReal) := by
  simp [Ideal.ofBits, Ideal.ieee]

/-- What bounds the tensor's maximum; -/
theorem tmax_le (w : Blocks) (z : EReal) : tmax w ≤ z ↔ ∀ n i d, mag (w n i d) ≤ z := by
  unfold tmax; simp only [iSup_le_iff]
/-- what bounds a block's. -/
theorem bmax_le (w : Blocks) (n d) (z : EReal) : bmax w n d ≤ z ↔ ∀ i, mag (w n i d) ≤ z := by
  unfold bmax; rw [Finset.fold_max_le, c_bot]; simp

end Cert.Spec

end
-- ==== Proof.Values.MatrixWords.lean ====
/-
  Hand-written, untrusted. The integer words that the matrices are made from: rows, columns, orders, parities.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.Spec
@[expose] public section
noncomputable section
namespace Cert.KernelIdeal.Hand
open Cert.KernelIdeal Cert.KernelIdeal.Gen
open Cert.Scalar Cert.Spec
open Idealize.ShloMosaic Idealize.ShloMosaic.TcCoe Idealize.ShloMosaic.Tactic
set_option maxRecDepth 16384
/-- A word below 256 over 16, as the kernel's rounded division spells it; -/
theorem w_div : ∀ t : Fin 256, Scalar.select (IntOp.andi
            (IntOp.cmpi CmpIPredicate.ne
              (IntOp.subi (BitVec.setWidth 32 (IntOp.cmpi CmpIPredicate.sgt (BitVec.ofNat 32 t.val) 0#32))
                (BitVec.setWidth 32 (IntOp.cmpi CmpIPredicate.slt (BitVec.ofNat 32 t.val) 0#32)))
              (Scalar.subi (Scalar.extui (Scalar.cmpi CmpIPredicate.sgt 16#32 0#32))
                (Scalar.extui (Scalar.cmpi CmpIPredicate.slt 16#32 0#32))))
            (IntOp.cmpi CmpIPredicate.ne (IntOp.remsi ArithUnit.vector (BitVec.ofNat 32 t.val) 16#32) 0#32))
          (IntOp.subi (IntOp.divsi ArithUnit.vector (BitVec.ofNat 32 t.val) 16#32) 1#32)
          (IntOp.divsi ArithUnit.vector (BitVec.ofNat 32 t.val) 16#32) = BitVec.ofNat 32 (t.val / 16) := by decide +kernel
/-- its last four bits; -/
theorem w_low : ∀ t : Fin 256, IntOp.andi (BitVec.ofNat 32 t.val) 15#32 = BitVec.ofNat 32 (t.val % 16) := by decide +kernel
/-- a place in its block. -/
def lo (t : Fin 256) : Fin 16 := ⟨t.val % 16, by omega⟩
/-- The parity of the bits that two words share, as the kernel folds it. -/
theorem w_par : ∀ a : Fin 256, ∀ j : Fin 16, IntOp.andi
                  (IntOp.xori
                    (IntOp.xori
                      (IntOp.xori (IntOp.andi (BitVec.ofNat 32 a.val) (BitVec.ofNat 32 j.val))
                        (IntOp.shrsi ArithUnit.vector (IntOp.andi (BitVec.ofNat 32 a.val) (BitVec.ofNat 32 j.val)) 1#32))
                      (IntOp.shrsi ArithUnit.vector (IntOp.andi (BitVec.ofNat 32 a.val) (BitVec.ofNat 32 j.val)) 2#32))
                    (IntOp.shrsi ArithUnit.vector (IntOp.andi (BitVec.ofNat 32 a.val) (BitVec.ofNat 32 j.val)) 3#32))
                  1#32 = par (lo a) j := by decide +kernel
theorem w_eq (a b : ℕ) (ha : a < 256) (hb : b < 256) (x y : EReal) : Scalar.select (IntOp.cmpi CmpIPredicate.eq (BitVec.ofNat 32 a) (BitVec.ofNat 32 b)) x y = if a = b then x else y := by
  have : (BitVec.ofNat 32 a = BitVec.ofNat 32 b) ↔ a = b := by
    constructor
    · intro h
      have := congrArg BitVec.toNat h
      simp only [BitVec.toNat_ofNat] at this
      omega
    · rintro rfl; rfl
  by_cases h : a = b
  · subst h; simp [Scalar.select, IntOp.cmpi]
  · have e : (BitVec.ofNat 32 a == BitVec.ofNat 32 b) = false := beq_false_of_ne (mt this.1 h)
    simp [Scalar.select, IntOp.cmpi, e, h]
/-- Reading a table of sixteen through a chain of selections. -/
theorem w_chain (s : Fin 16 → EReal) (t : Fin 256) : (Scalar.select (IntOp.cmpi CmpIPredicate.eq (IntOp.andi (BitVec.ofNat 32 t.val) 15#32) 15#32) (s 15) (Scalar.select (IntOp.cmpi CmpIPredicate.eq (IntOp.andi (BitVec.ofNat 32 t.val) 15#32) 14#32) (s 14) (Scalar.select (IntOp.cmpi CmpIPredicate.eq (IntOp.andi (BitVec.ofNat 32 t.val) 15#32) 13#32) (s 13) (Scalar.select (IntOp.cmpi CmpIPredicate.eq (IntOp.andi (BitVec.ofNat 32 t.val) 15#32) 12#32) (s 12) (Scalar.select (IntOp.cmpi CmpIPredicate.eq (IntOp.andi (BitVec.ofNat 32 t.val) 15#32) 11#32) (s 11) (Scalar.select (IntOp.cmpi CmpIPredicate.eq (IntOp.andi (BitVec.ofNat 32 t.val) 15#32) 10#32) (s 10) (Scalar.select (IntOp.cmpi CmpIPredicate.eq (IntOp.andi (BitVec.ofNat 32 t.val) 15#32) 9#32) (s 9) (Scalar.select (IntOp.cmpi CmpIPredicate.eq (IntOp.andi (BitVec.ofNat 32 t.val) 15#32) 8#32) (s 8) (Scalar.select (IntOp.cmpi CmpIPredicate.eq (IntOp.andi (BitVec.ofNat 32 t.val) 15#32) 7#32) (s 7) (Scalar.select (IntOp.cmpi CmpIPredicate.eq (IntOp.andi (BitVec.ofNat 32 t.val) 15#32) 6#32) (s 6) (Scalar.select (IntOp.cmpi CmpIPredicate.eq (IntOp.andi (BitVec.ofNat 32 t.val) 15#32) 5#32) (s 5) (Scalar.select (IntOp.cmpi CmpIPredicate.eq (IntOp.andi (BitVec.ofNat 32 t.val) 15#32) 4#32) (s 4) (Scalar.select (IntOp.cmpi CmpIPredicate.eq (IntOp.andi (BitVec.ofNat 32 t.val) 15#32) 3#32) (s 3) (Scalar.select (IntOp.cmpi CmpIPredicate.eq (IntOp.andi (BitVec.ofNat 32 t.val) 15#32) 2#32) (s 2) (Scalar.select (IntOp.cmpi CmpIPredicate.eq (IntOp.andi (BitVec.ofNat 32 t.val) 15#32) 1#32) (s 1) (Scalar.select (IntOp.cmpi CmpIPredicate.eq (IntOp.andi (BitVec.ofNat 32 t.val) 15#32) 0#32) (s 0) 0)))))))))))))))) = s (lo t) := by
  rw [w_low]
  show (fun j : Fin 16 => (Scalar.select (IntOp.cmpi CmpIPredicate.eq (BitVec.ofNat 32 j.val) 15#32) (s 15) (Scalar.select (IntOp.cmpi CmpIPredicate.eq (BitVec.ofNat 32 j.val) 14#32) (s 14) (Scalar.select (IntOp.cmpi CmpIPredicate.eq (BitVec.ofNat 32 j.val) 13#32) (s 13) (Scalar.select (IntOp.cmpi CmpIPredicate.eq (BitVec.ofNat 32 j.val) 12#32) (s 12) (Scalar.select (IntOp.cmpi CmpIPredicate.eq (BitVec.ofNat 32 j.val) 11#32) (s 11) (Scalar.select (IntOp.cmpi CmpIPredicate.eq (BitVec.ofNat 32 j.val) 10#32) (s 10) (Scalar.select (IntOp.cmpi CmpIPredicate.eq (BitVec.ofNat 32 j.val) 9#32) (s 9) (Scalar.select (IntOp.cmpi CmpIPredicate.eq (BitVec.ofNat 32 j.val) 8#32) (s 8) (Scalar.select (IntOp.cmpi CmpIPredicate.eq (BitVec.ofNat 32 j.val) 7#32) (s 7) (Scalar.select (IntOp.cmpi CmpIPredicate.eq (BitVec.ofNat 32 j.val) 6#32) (s 6) (Scalar.select (IntOp.cmpi CmpIPredicate.eq (BitVec.ofNat 32 j.val) 5#32) (s 5) (Scalar.select (IntOp.cmpi CmpIPredicate.eq (BitVec.ofNat 32 j.val) 4#32) (s 4) (Scalar.select (IntOp.cmpi CmpIPredicate.eq (BitVec.ofNat 32 j.val) 3#32) (s 3) (Scalar.select (IntOp.cmpi CmpIPredicate.eq (BitVec.ofNat 32 j.val) 2#32) (s 2) (Scalar.select (IntOp.cmpi CmpIPredicate.eq (BitVec.ofNat 32 j.val) 1#32) (s 1) (Scalar.select (IntOp.cmpi CmpIPredicate.eq (BitVec.ofNat 32 j.val) 0#32) (s 0) 0))))))))))))))))) (lo t) = s (lo t)
  generalize lo t = j
  fin_cases j <;> simp [Scalar.select, IntOp.cmpi]

variable (m : (ℓ : Loc nD τ sig) → Buf (Elt Ideal) ℓ) (c : Dev nD)
/-- The sign of a place, as the preparation reads it. -/
def sg (j : Fin 16) : EReal := iblk m c 0 (pt0 0) (ix1 j)
abbrev gS : Buf (Elt Ideal) ((ms0 (pt0 0)).view.loc (c : Thread nD τ)) := (hs0 (pt0 0)).unread (iblk m c 0 (pt0 0))
theorem rd_sg (q : Fin 16) (inb) (h) : View.readAt (Elt Ideal) (ms0 (pt0 0)).view (Rect.unit (s := S16) ![q.val] S1.size inb).toLoadRect (gS m c) (Shape.Idx.first h) = sg m c q := by
  refine ((hs0 (pt0 0)).readAt_unread _ _ _).trans ?_
  refine congrArg (iblk m c 0 (pt0 0)) ?_
  funext a
  apply Fin.ext
  fin_cases a
  rfl
theorem s_r : blk1Run.sl.r c (ms0 (pt0 0)) (gS m c) = sg m c 0 := rd_sg m c 0 _ _
theorem s_r_1 : blk1Run.sl.r_1 c (ms0 (pt0 0)) (gS m c) = sg m c 1 := rd_sg m c 1 _ _
theorem s_r_2 : blk1Run.sl.r_2 c (ms0 (pt0 0)) (gS m c) = sg m c 2 := rd_sg m c 2 _ _
theorem s_r_3 : blk1Run.sl.r_3 c (ms0 (pt0 0)) (gS m c) = sg m c 3 := rd_sg m c 3 _ _
theorem s_r_4 : blk1Run.sl.r_4 c (ms0 (pt0 0)) (gS m c) = sg m c 4 := rd_sg m c 4 _ _
theorem s_r_5 : blk1Run.sl.r_5 c (ms0 (pt0 0)) (gS m c) = sg m c 5 := rd_sg m c 5 _ _
theorem s_r_6 : blk1Run.sl.r_6 c (ms0 (pt0 0)) (gS m c) = sg m c 6 := rd_sg m c 6 _ _
theorem s_r_9 : blk1Run.sl.r_9 c (ms0 (pt0 0)) (gS m c) = sg m c 7 := rd_sg m c 7 _ _
theorem s_r_10 : blk1Run.sl.r_10 c (ms0 (pt0 0)) (gS m c) = sg m c 8 := rd_sg m c 8 _ _
theorem s_r_11 : blk1Run.sl.r_11 c (ms0 (pt0 0)) (gS m c) = sg m c 9 := rd_sg m c 9 _ _
theorem s_r_12 : blk1Run.sl.r_12 c (ms0 (pt0 0)) (gS m c) = sg m c 10 := rd_sg m c 10 _ _
theorem s_r_13 : blk1Run.sl.r_13 c (ms0 (pt0 0)) (gS m c) = sg m c 11 := rd_sg m c 11 _ _
theorem s_r_14 : blk1Run.sl.r_14 c (ms0 (pt0 0)) (gS m c) = sg m c 12 := rd_sg m c 12 _ _
theorem s_r_15 : blk1Run.sl.r_15 c (ms0 (pt0 0)) (gS m c) = sg m c 13 := rd_sg m c 13 _ _
theorem s_r_16 : blk1Run.sl.r_16 c (ms0 (pt0 0)) (gS m c) = sg m c 14 := rd_sg m c 14 _ _
theorem s_r_17 : blk1Run.sl.r_17 c (ms0 (pt0 0)) (gS m c) = sg m c 15 := rd_sg m c 15 _ _
theorem s_r_22 : blk1Run.sl.r_22 c (ms0 (pt0 0)) (gS m c) = sg m c 2 := rd_sg m c 2 _ _
theorem s_r_23 : blk1Run.sl.r_23 c (ms0 (pt0 0)) (gS m c) = sg m c 3 := rd_sg m c 3 _ _
theorem s_r_24 : blk1Run.sl.r_24 c (ms0 (pt0 0)) (gS m c) = sg m c 4 := rd_sg m c 4 _ _
theorem s_r_25 : blk1Run.sl.r_25 c (ms0 (pt0 0)) (gS m c) = sg m c 5 := rd_sg m c 5 _ _
theorem s_r_26 : blk1Run.sl.r_26 c (ms0 (pt0 0)) (gS m c) = sg m c 6 := rd_sg m c 6 _ _
theorem s_r_27 : blk1Run.sl.r_27 c (ms0 (pt0 0)) (gS m c) = sg m c 10 := rd_sg m c 10 _ _
theorem s_r_28 : blk1Run.sl.r_28 c (ms0 (pt0 0)) (gS m c) = sg m c 11 := rd_sg m c 11 _ _
theorem s_r_29 : blk1Run.sl.r_29 c (ms0 (pt0 0)) (gS m c) = sg m c 12 := rd_sg m c 12 _ _
theorem s_r_30 : blk1Run.sl.r_30 c (ms0 (pt0 0)) (gS m c) = sg m c 13 := rd_sg m c 13 _ _
theorem s_r_31 : blk1Run.sl.r_31 c (ms0 (pt0 0)) (gS m c) = sg m c 14 := rd_sg m c 14 _ _
theorem s_r_32 : blk1Run.sl.r_32 c (ms0 (pt0 0)) (gS m c) = sg m c 15 := rd_sg m c 15 _ _

theorem r18_at (r t : Fin 256) : blk1Run.sl.r_18 c (ms0 (pt0 0)) (gS m c) (ix2 r t) = sg m c (lo t) := by
  rw [← w_chain (sg m c) t]
  pointwise [blk1Run.sl.v297,blk1Run.sl.v128,blk1Run.sl.v317,blk1Run.sl.r_8,blk1Run.sl.v124,blk1Run.sl.v139,blk1Run.sl.v114,blk1Run.sl.v288,blk1Run.sl.H13_1,blk1Run.sl.v104,blk1Run.sl.v41,blk1Run.sl.v52,blk1Run.sl.v134,blk1Run.sl.v291,blk1Run.sl.v119,blk1Run.sl.v302,blk1Run.sl.r_7,blk1Run.sl.r_33,blk1Run.sl.v123,blk1Run.sl.v130,blk1Run.sl.r_35,blk1Run.sl.v140,blk1Run.sl.v287,blk1Run.sl.v281,blk1Run.sl.v103,blk1Run.sl.v220,blk1Run.sl.v28,blk1Run.sl.v21,blk1Run.sl.v18,blk1Run.sl.v125,blk1Run.sl.r_18,blk1Run.sl.r_20,blk1Run.sl.v113,blk1Run.sl.v120,blk1Run.sl.v133,blk1Run.sl.H11_1,blk1Run.sl.v108,blk1Run.sl.v118,blk1Run.sl.r_34,blk1Run.sl.v109,blk1Run.sl.v283,blk1Run.sl.r_19,blk1Run.sl.v105,blk1Run.sl.v115,blk1Run.sl.v298,blk1Run.sl.H16_1,blk1Run.sl.v282,blk1Run.sl.H14_1,blk1Run.sl.v138,blk1Run.sl.v100,blk1Run.sl.v51,blk1Run.sl.v23,blk1Run.sl.v286,blk1Run.sl.v24,blk1Run.sl.v278,blk1Run.sl.v44,blk1Run.sl.v17,blk1Run.sl.v307,blk1Run.sl.v26,blk1Run.sl.v293,blk1Run.sl.v110,blk1Run.sl.v34,blk1Run.sl.v312,blk1Run.sl.v221,blk1Run.sl.v33,blk1Run.sl.v135,blk1Run.sl.r_21,blk1Run.sl.v296,blk1Run.sl.v30,blk1Run.sl.v129,blk1Run.sl.v301,blk1Run.sl.H15_1,blk1Run.sl.v292,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42]
  simp only [s_r,s_r_1,s_r_2,s_r_3,s_r_4,s_r_5,s_r_6,s_r_9,s_r_10,s_r_11,s_r_12,s_r_13,s_r_14,s_r_15,s_r_16,s_r_17]
theorem r33_at (r t : Fin 256) : blk1Run.sl.r_33 c (ms0 (pt0 0)) (gS m c) (ix2 r t) = sg m c (lo t) := by
  rw [← w_chain (sg m c) t]
  pointwise [blk1Run.sl.v297,blk1Run.sl.v128,blk1Run.sl.v317,blk1Run.sl.r_8,blk1Run.sl.v124,blk1Run.sl.v139,blk1Run.sl.v114,blk1Run.sl.v288,blk1Run.sl.H13_1,blk1Run.sl.v104,blk1Run.sl.v41,blk1Run.sl.v52,blk1Run.sl.v134,blk1Run.sl.v291,blk1Run.sl.v119,blk1Run.sl.v302,blk1Run.sl.r_7,blk1Run.sl.r_33,blk1Run.sl.v123,blk1Run.sl.v130,blk1Run.sl.r_35,blk1Run.sl.v140,blk1Run.sl.v287,blk1Run.sl.v281,blk1Run.sl.v103,blk1Run.sl.v220,blk1Run.sl.v28,blk1Run.sl.v21,blk1Run.sl.v18,blk1Run.sl.v125,blk1Run.sl.r_18,blk1Run.sl.r_20,blk1Run.sl.v113,blk1Run.sl.v120,blk1Run.sl.v133,blk1Run.sl.H11_1,blk1Run.sl.v108,blk1Run.sl.v118,blk1Run.sl.r_34,blk1Run.sl.v109,blk1Run.sl.v283,blk1Run.sl.r_19,blk1Run.sl.v105,blk1Run.sl.v115,blk1Run.sl.v298,blk1Run.sl.H16_1,blk1Run.sl.v282,blk1Run.sl.H14_1,blk1Run.sl.v138,blk1Run.sl.v100,blk1Run.sl.v51,blk1Run.sl.v23,blk1Run.sl.v286,blk1Run.sl.v24,blk1Run.sl.v278,blk1Run.sl.v44,blk1Run.sl.v17,blk1Run.sl.v307,blk1Run.sl.v26,blk1Run.sl.v293,blk1Run.sl.v110,blk1Run.sl.v34,blk1Run.sl.v312,blk1Run.sl.v221,blk1Run.sl.v33,blk1Run.sl.v135,blk1Run.sl.r_21,blk1Run.sl.v296,blk1Run.sl.v30,blk1Run.sl.v129,blk1Run.sl.v301,blk1Run.sl.H15_1,blk1Run.sl.v292,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42]
  simp only [s_r,s_r_1,s_r_22,s_r_23,s_r_24,s_r_25,s_r_26,s_r_9,s_r_10,s_r_11,s_r_27,s_r_28,s_r_29,s_r_30,s_r_31,s_r_32]

/-- The block-diagonal transform: token `a` out of token `t`. -/
def cf (s : Fin 16 → EReal) (a t : Fin 256) : EReal := if a.val / 16 = t.val / 16 then coef s (lo a) (lo t) else 0

end Cert.KernelIdeal.Hand

end
-- ==== Proof.Values.Matrices.lean ====
/-
  Hand-written, untrusted. The four matrices that the first step stores, element by element.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.MatrixWords
@[expose] public section
noncomputable section
namespace Cert.KernelIdeal.Hand
open Cert.KernelIdeal Cert.KernelIdeal.Gen
open Cert.Scalar Cert.Spec
open Idealize.ShloMosaic Idealize.ShloMosaic.TcCoe Idealize.ShloMosaic.Tactic
set_option maxRecDepth 16384
variable (m : (ℓ : Loc nD τ sig) → Buf (Elt Ideal) ℓ) (c : Dev nD)
/-- The token of row `r` of the first sweep's matrix. -/
def tokM (r : Fin 256) : Fin 256 := ⟨r.val % 16 * 16 + r.val / 16, by omega⟩
theorem w_tokM : ∀ r : Fin 256, (IntOp.addi
                              (IntOp.muli
                                (Scalar.select
                                  (IntOp.andi
                                    (IntOp.xori
                                      (IntOp.cmpi CmpIPredicate.slt
                                        (IntOp.remsi ArithUnit.vector (BitVec.ofNat 32 ↑r) 16#32) 0#32)
                                      0#1)
                                    (IntOp.cmpi CmpIPredicate.ne
                                      (IntOp.remsi ArithUnit.vector (BitVec.ofNat 32 ↑r) 16#32) 0#32))
                                  (IntOp.addi (IntOp.remsi ArithUnit.vector (BitVec.ofNat 32 ↑r) 16#32) 16#32)
                                  (IntOp.remsi ArithUnit.vector (BitVec.ofNat 32 ↑r) 16#32))
                                16#32)
                              (Scalar.select
                                (IntOp.andi
                                  (IntOp.cmpi CmpIPredicate.ne
                                    (IntOp.subi
                                      (BitVec.setWidth 32 (IntOp.cmpi CmpIPredicate.sgt (BitVec.ofNat 32 ↑r) 0#32))
                                      (BitVec.setWidth 32 (IntOp.cmpi CmpIPredicate.slt (BitVec.ofNat 32 ↑r) 0#32)))
                                    1#32)
                                  (IntOp.cmpi CmpIPredicate.ne (IntOp.remsi ArithUnit.vector (BitVec.ofNat 32 ↑r) 16#32)
                                    0#32))
                                (IntOp.subi (IntOp.divsi ArithUnit.vector (BitVec.ofNat 32 ↑r) 16#32) 1#32)
                                (IntOp.divsi ArithUnit.vector (BitVec.ofNat 32 ↑r) 16#32))) = BitVec.ofNat 32 (tokM r).val := by decide +kernel
theorem m13_pay (r t : Fin 256) (A) : (k0_pay19 (F := Ideal) blk1Run.sl.v18 A blk1Run.sl.r_19 (k0_pay17 blk1Run.sl.r_7) (16#32) (k0_pay18 blk1Run.sl.v18) 0#32) (ix2 r t)
   = if (tokM r).val / 16 = t.val / 16 then Ideal.ofBits FTy.f32 1048576000#32 * (1 - Ideal.ofBits FTy.f32 1073741824#32 * FloatOps.sitofp (F := Ideal) FTy.f32 (par (lo (tokM r)) (lo t))) * A (ix2 r t) else 0 := by
  pointwise [blk1Run.sl.v297,blk1Run.sl.v128,blk1Run.sl.v317,blk1Run.sl.r_8,blk1Run.sl.v124,blk1Run.sl.v139,blk1Run.sl.v114,blk1Run.sl.v288,blk1Run.sl.H13_1,blk1Run.sl.v104,blk1Run.sl.v41,blk1Run.sl.v52,blk1Run.sl.v134,blk1Run.sl.v291,blk1Run.sl.v119,blk1Run.sl.v302,blk1Run.sl.r_7,blk1Run.sl.r_33,blk1Run.sl.v123,blk1Run.sl.v130,blk1Run.sl.r_35,blk1Run.sl.v140,blk1Run.sl.v287,blk1Run.sl.v281,blk1Run.sl.v103,blk1Run.sl.v220,blk1Run.sl.v28,blk1Run.sl.v21,blk1Run.sl.v18,blk1Run.sl.v125,blk1Run.sl.r_18,blk1Run.sl.r_20,blk1Run.sl.v113,blk1Run.sl.v120,blk1Run.sl.v133,blk1Run.sl.H11_1,blk1Run.sl.v108,blk1Run.sl.v118,blk1Run.sl.r_34,blk1Run.sl.v109,blk1Run.sl.v283,blk1Run.sl.r_19,blk1Run.sl.v105,blk1Run.sl.v115,blk1Run.sl.v298,blk1Run.sl.H16_1,blk1Run.sl.v282,blk1Run.sl.H14_1,blk1Run.sl.v138,blk1Run.sl.v100,blk1Run.sl.v51,blk1Run.sl.v23,blk1Run.sl.v286,blk1Run.sl.v24,blk1Run.sl.v278,blk1Run.sl.v44,blk1Run.sl.v17,blk1Run.sl.v307,blk1Run.sl.v26,blk1Run.sl.v293,blk1Run.sl.v110,blk1Run.sl.v34,blk1Run.sl.v312,blk1Run.sl.v221,blk1Run.sl.v33,blk1Run.sl.v135,blk1Run.sl.r_21,blk1Run.sl.v296,blk1Run.sl.v30,blk1Run.sl.v129,blk1Run.sl.v301,blk1Run.sl.H15_1,blk1Run.sl.v292,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42]
  simp only [w_tokM, w_low, w_div]
  rw [w_eq _ _ (by omega) (by omega)]
  have := w_par (tokM r) (lo t)
  unfold lo at this
  dsimp only at this
  rw [this]
  rfl
/-- The transform in the order of the maxima; -/
theorem m13_eq : View.readAt (Elt Ideal) (Memref.whole cc0_scratch4).view (Rect.unit (s := S256x256) ![0, 0] S256x256.size inb_S256x256_S256x256_0_0).toLoadRect (M13 m c) =
   k0_pay19 blk1Run.sl.v18 (blk1Run.sl.r_18 c (ms0 (pt0 0)) (gS m c)) blk1Run.sl.r_19 (k0_pay17 blk1Run.sl.r_7) (16#32) (k0_pay18 blk1Run.sl.v18) 0#32 := by
  exact View.readAt_writes_full (Memref.whole cc0_scratch4).view _ inb_S256x256_S256x256_0_0 inb_S256x256_S256x256_0_0 _ []
/-- … of the second's. -/
def tokP (r : Fin 256) : Fin 256 := ⟨r.val % 128 * 2 + r.val / 128, by omega⟩
theorem w_tokP : ∀ r : Fin 256, (IntOp.addi
                            (IntOp.muli
                              (Scalar.select
                                (IntOp.andi
                                  (IntOp.xori
                                    (IntOp.cmpi CmpIPredicate.slt
                                      (IntOp.remsi ArithUnit.vector (BitVec.ofNat 32 r.val)
                                        (Scalar.select (Scalar.cmpi CmpIPredicate.eq 128#32 0#32) 1#32 128#32))
                                      0#32)
                                    (Scalar.cmpi CmpIPredicate.slt
                                      (Scalar.select (Scalar.cmpi CmpIPredicate.eq 128#32 0#32) 1#32 128#32) 0#32))
                                  (IntOp.cmpi CmpIPredicate.ne
                                    (IntOp.remsi ArithUnit.vector (BitVec.ofNat 32 r.val)
                                      (Scalar.select (Scalar.cmpi CmpIPredicate.eq 128#32 0#32) 1#32 128#32))
                                    0#32))
                                (IntOp.addi
                                  (IntOp.remsi ArithUnit.vector (BitVec.ofNat 32 r.val)
                                    (Scalar.select (Scalar.cmpi CmpIPredicate.eq 128#32 0#32) 1#32 128#32))
                                  128#32)
                                (IntOp.remsi ArithUnit.vector (BitVec.ofNat 32 r.val)
                                  (Scalar.select (Scalar.cmpi CmpIPredicate.eq 128#32 0#32) 1#32 128#32)))
                              2#32)
                            (Scalar.select
                              (IntOp.andi
                                (IntOp.cmpi CmpIPredicate.ne
                                  (IntOp.subi
                                    (BitVec.setWidth 32 (IntOp.cmpi CmpIPredicate.sgt (BitVec.ofNat 32 r.val) 0#32))
                                    (BitVec.setWidth 32 (IntOp.cmpi CmpIPredicate.slt (BitVec.ofNat 32 r.val) 0#32)))
                                  (Scalar.subi (Scalar.extui (Scalar.cmpi CmpIPredicate.sgt 128#32 0#32))
                                    (Scalar.extui (Scalar.cmpi CmpIPredicate.slt 128#32 0#32))))
                                (IntOp.cmpi CmpIPredicate.ne (IntOp.remsi ArithUnit.vector (BitVec.ofNat 32 r.val) 128#32)
                                  0#32))
                              (IntOp.subi (IntOp.divsi ArithUnit.vector (BitVec.ofNat 32 r.val) 128#32) 1#32)
                              (IntOp.divsi ArithUnit.vector (BitVec.ofNat 32 r.val) 128#32))) = BitVec.ofNat 32 (tokP r).val := by decide +kernel
/-- the transform in the order of pairs; -/
theorem m14_pay (r t : Fin 256) (A) : (k0_pay36 (F := Ideal) A blk1Run.sl.r_35 (k0_pay33 blk1Run.sl.r_20) (k0_pay34 blk1Run.sl.v221) (k0_pay35 blk1Run.sl.v221) 1#32) (ix2 r t)
   = if (tokP r).val / 16 = t.val / 16 then Ideal.ofBits FTy.f32 1048576000#32 * (1 - Ideal.ofBits FTy.f32 1073741824#32 * FloatOps.sitofp (F := Ideal) FTy.f32 (par (lo (tokP r)) (lo t))) * A (ix2 r t) else 0 := by
  pointwise [blk1Run.sl.v297,blk1Run.sl.v128,blk1Run.sl.v317,blk1Run.sl.r_8,blk1Run.sl.v124,blk1Run.sl.v139,blk1Run.sl.v114,blk1Run.sl.v288,blk1Run.sl.H13_1,blk1Run.sl.v104,blk1Run.sl.v41,blk1Run.sl.v52,blk1Run.sl.v134,blk1Run.sl.v291,blk1Run.sl.v119,blk1Run.sl.v302,blk1Run.sl.r_7,blk1Run.sl.r_33,blk1Run.sl.v123,blk1Run.sl.v130,blk1Run.sl.r_35,blk1Run.sl.v140,blk1Run.sl.v287,blk1Run.sl.v281,blk1Run.sl.v103,blk1Run.sl.v220,blk1Run.sl.v28,blk1Run.sl.v21,blk1Run.sl.v18,blk1Run.sl.v125,blk1Run.sl.r_18,blk1Run.sl.r_20,blk1Run.sl.v113,blk1Run.sl.v120,blk1Run.sl.v133,blk1Run.sl.H11_1,blk1Run.sl.v108,blk1Run.sl.v118,blk1Run.sl.r_34,blk1Run.sl.v109,blk1Run.sl.v283,blk1Run.sl.r_19,blk1Run.sl.v105,blk1Run.sl.v115,blk1Run.sl.v298,blk1Run.sl.H16_1,blk1Run.sl.v282,blk1Run.sl.H14_1,blk1Run.sl.v138,blk1Run.sl.v100,blk1Run.sl.v51,blk1Run.sl.v23,blk1Run.sl.v286,blk1Run.sl.v24,blk1Run.sl.v278,blk1Run.sl.v44,blk1Run.sl.v17,blk1Run.sl.v307,blk1Run.sl.v26,blk1Run.sl.v293,blk1Run.sl.v110,blk1Run.sl.v34,blk1Run.sl.v312,blk1Run.sl.v221,blk1Run.sl.v33,blk1Run.sl.v135,blk1Run.sl.r_21,blk1Run.sl.v296,blk1Run.sl.v30,blk1Run.sl.v129,blk1Run.sl.v301,blk1Run.sl.H15_1,blk1Run.sl.v292,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42]
  simp only [w_tokP, w_low, w_div]
  rw [w_eq _ _ (by omega) (by omega)]
  have := w_par (tokP r) (lo t)
  unfold lo at this
  dsimp only at this
  rw [this]
  rfl
theorem w_tokP' : ∀ r : Fin 256, IntOp.addi
          (IntOp.muli
            (Scalar.select
              (IntOp.andi
                (IntOp.xori
                  (IntOp.cmpi CmpIPredicate.slt (IntOp.remsi ArithUnit.vector (BitVec.ofNat 32 r.val) (Scalar.select (Scalar.cmpi CmpIPredicate.eq 128#32 0#32) 1#32 128#32)) 0#32)
                  (Scalar.cmpi CmpIPredicate.slt (Scalar.select (Scalar.cmpi CmpIPredicate.eq 128#32 0#32) 1#32 128#32) 0#32))
                (IntOp.cmpi CmpIPredicate.ne (IntOp.remsi ArithUnit.vector (BitVec.ofNat 32 r.val) (Scalar.select (Scalar.cmpi CmpIPredicate.eq 128#32 0#32) 1#32 128#32)) 0#32))
              (IntOp.addi (IntOp.remsi ArithUnit.vector (BitVec.ofNat 32 r.val) (Scalar.select (Scalar.cmpi CmpIPredicate.eq 128#32 0#32) 1#32 128#32)) (Scalar.select (Scalar.cmpi CmpIPredicate.eq 128#32 0#32) 1#32 128#32))
              (IntOp.remsi ArithUnit.vector (BitVec.ofNat 32 r.val) (Scalar.select (Scalar.cmpi CmpIPredicate.eq 128#32 0#32) 1#32 128#32)))
            2#32)
          (Scalar.select
            (IntOp.andi
              (IntOp.cmpi CmpIPredicate.ne
                (IntOp.subi (BitVec.setWidth 32 (IntOp.cmpi CmpIPredicate.sgt (BitVec.ofNat 32 r.val) 0#32))
                  (BitVec.setWidth 32 (IntOp.cmpi CmpIPredicate.slt (BitVec.ofNat 32 r.val) 0#32)))
                (Scalar.subi (1#32) (Scalar.extui (Scalar.cmpi CmpIPredicate.slt 128#32 0#32))))
              (IntOp.cmpi CmpIPredicate.ne (IntOp.remsi ArithUnit.vector (BitVec.ofNat 32 r.val) 128#32) 0#32))
            (IntOp.subi (IntOp.divsi ArithUnit.vector (BitVec.ofNat 32 r.val) 128#32) 1#32)
            (IntOp.divsi ArithUnit.vector (BitVec.ofNat 32 r.val) 128#32)) = BitVec.ofNat 32 (tokP r).val := by decide +kernel
/-- the noise matrix; -/
theorem m15_pay (r t : Fin 256) : (k0_pay40 (F := Ideal) blk1Run.sl.v220 blk1Run.sl.v221 k0_pay37 (128#32) k0_pay38 k0_pay39 1#32) (ix2 r t)
   = if tokP r = t then Ideal.ofBits FTy.f32 3330277376#32 else 0 := by
  pointwise [blk1Run.sl.v297,blk1Run.sl.v128,blk1Run.sl.v317,blk1Run.sl.r_8,blk1Run.sl.v124,blk1Run.sl.v139,blk1Run.sl.v114,blk1Run.sl.v288,blk1Run.sl.H13_1,blk1Run.sl.v104,blk1Run.sl.v41,blk1Run.sl.v52,blk1Run.sl.v134,blk1Run.sl.v291,blk1Run.sl.v119,blk1Run.sl.v302,blk1Run.sl.r_7,blk1Run.sl.r_33,blk1Run.sl.v123,blk1Run.sl.v130,blk1Run.sl.r_35,blk1Run.sl.v140,blk1Run.sl.v287,blk1Run.sl.v281,blk1Run.sl.v103,blk1Run.sl.v220,blk1Run.sl.v28,blk1Run.sl.v21,blk1Run.sl.v18,blk1Run.sl.v125,blk1Run.sl.r_18,blk1Run.sl.r_20,blk1Run.sl.v113,blk1Run.sl.v120,blk1Run.sl.v133,blk1Run.sl.H11_1,blk1Run.sl.v108,blk1Run.sl.v118,blk1Run.sl.r_34,blk1Run.sl.v109,blk1Run.sl.v283,blk1Run.sl.r_19,blk1Run.sl.v105,blk1Run.sl.v115,blk1Run.sl.v298,blk1Run.sl.H16_1,blk1Run.sl.v282,blk1Run.sl.H14_1,blk1Run.sl.v138,blk1Run.sl.v100,blk1Run.sl.v51,blk1Run.sl.v23,blk1Run.sl.v286,blk1Run.sl.v24,blk1Run.sl.v278,blk1Run.sl.v44,blk1Run.sl.v17,blk1Run.sl.v307,blk1Run.sl.v26,blk1Run.sl.v293,blk1Run.sl.v110,blk1Run.sl.v34,blk1Run.sl.v312,blk1Run.sl.v221,blk1Run.sl.v33,blk1Run.sl.v135,blk1Run.sl.r_21,blk1Run.sl.v296,blk1Run.sl.v30,blk1Run.sl.v129,blk1Run.sl.v301,blk1Run.sl.H15_1,blk1Run.sl.v292,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42]
  simp only [w_tokP']
  rw [w_eq _ _ (by omega) (by omega)]
  simp only [Fin.ext_iff]
theorem w_128 : ∀ r : Fin 128, IntOp.addi (BitVec.ofNat 32 r.val) 128#32 = BitVec.ofNat 32 (r.val + 128) := by decide +kernel
/-- the packing matrix. -/
theorem m16_pay (r : Fin 128) (t : Fin 256) : (k0_pay41 (F := Ideal)) (ix2 r t)
   = if r.val = t.val then Ideal.ofBits FTy.f32 1098907648#32 else if r.val + 128 = t.val then Ideal.ofBits FTy.f32 1132462080#32 else 0 := by
  pointwise [blk1Run.sl.v297,blk1Run.sl.v128,blk1Run.sl.v317,blk1Run.sl.r_8,blk1Run.sl.v124,blk1Run.sl.v139,blk1Run.sl.v114,blk1Run.sl.v288,blk1Run.sl.H13_1,blk1Run.sl.v104,blk1Run.sl.v41,blk1Run.sl.v52,blk1Run.sl.v134,blk1Run.sl.v291,blk1Run.sl.v119,blk1Run.sl.v302,blk1Run.sl.r_7,blk1Run.sl.r_33,blk1Run.sl.v123,blk1Run.sl.v130,blk1Run.sl.r_35,blk1Run.sl.v140,blk1Run.sl.v287,blk1Run.sl.v281,blk1Run.sl.v103,blk1Run.sl.v220,blk1Run.sl.v28,blk1Run.sl.v21,blk1Run.sl.v18,blk1Run.sl.v125,blk1Run.sl.r_18,blk1Run.sl.r_20,blk1Run.sl.v113,blk1Run.sl.v120,blk1Run.sl.v133,blk1Run.sl.H11_1,blk1Run.sl.v108,blk1Run.sl.v118,blk1Run.sl.r_34,blk1Run.sl.v109,blk1Run.sl.v283,blk1Run.sl.r_19,blk1Run.sl.v105,blk1Run.sl.v115,blk1Run.sl.v298,blk1Run.sl.H16_1,blk1Run.sl.v282,blk1Run.sl.H14_1,blk1Run.sl.v138,blk1Run.sl.v100,blk1Run.sl.v51,blk1Run.sl.v23,blk1Run.sl.v286,blk1Run.sl.v24,blk1Run.sl.v278,blk1Run.sl.v44,blk1Run.sl.v17,blk1Run.sl.v307,blk1Run.sl.v26,blk1Run.sl.v293,blk1Run.sl.v110,blk1Run.sl.v34,blk1Run.sl.v312,blk1Run.sl.v221,blk1Run.sl.v33,blk1Run.sl.v135,blk1Run.sl.r_21,blk1Run.sl.v296,blk1Run.sl.v30,blk1Run.sl.v129,blk1Run.sl.v301,blk1Run.sl.H15_1,blk1Run.sl.v292,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42]
  rw [w_128, w_eq _ _ (by omega) (by omega), w_eq _ _ (by omega) (by omega)]

/-- The four matrices as later points load them. -/
abbrev L13 : Vec Ideal S256x256 .bf16 := View.readAt (Elt Ideal) (Memref.whole cc0_scratch4).view (Rect.unit (s := S256x256) ![0, 0] S256x256.size inb_S256x256_S256x256_0_0).toLoadRect (M13 m c)
abbrev L14 : Vec Ideal S256x256 .bf16 := View.readAt (Elt Ideal) (Memref.whole cc0_scratch5).view (Rect.unit (s := S256x256) ![0, 0] S256x256.size inb_S256x256_S256x256_0_0).toLoadRect (M14 m c)
abbrev L15 : Vec Ideal S256x256 .bf16 := View.readAt (Elt Ideal) (Memref.whole cc0_scratch6).view (Rect.unit (s := S256x256) ![0, 0] S256x256.size inb_S256x256_S256x256_0_0).toLoadRect (M15 m c)
abbrev L16 : Vec Ideal S128x256 .bf16 := View.readAt (Elt Ideal) (Memref.whole cc0_scratch7).view (Rect.unit (s := S128x256) ![0, 0] S128x256.size inb_S128x256_S128x256_0_0).toLoadRect (M16 m c)
/-- The first sweep's transform, its rows in the order that puts a block's place in the high digit; -/
theorem L13_at (r t : Fin 256) : L13 m c (ix2 r t) = (cf (sg m c) (tokM r) t : EReal) := by
  rw [show L13 m c = _ from m13_eq m c, m13_pay, r18_at]; rfl
/-- the second sweep's, its rows in the order that puts a pair's second member 128 rows down; -/
theorem L14_at (r t : Fin 256) : L14 m c (ix2 r t) = (cf (sg m c) (tokP r) t : EReal) := by
  have e : L14 m c = k0_pay36 (blk1Run.sl.r_33 c (ms0 (pt0 0)) (gS m c)) blk1Run.sl.r_35 (k0_pay33 blk1Run.sl.r_20) (k0_pay34 blk1Run.sl.v221) (k0_pay35 blk1Run.sl.v221) 1#32 :=
    View.readAt_writes_full (Memref.whole cc0_scratch5).view _ inb_S256x256_S256x256_0_0 inb_S256x256_S256x256_0_0 _ []
  rw [e, m14_pay, r33_at]; rfl
/-- the noise's permutation, scaled; -/
theorem L15_at (r t : Fin 256) : L15 m c (ix2 r t) = (if tokP r = t then Ideal.ofBits FTy.f32 3330277376#32 else 0 : EReal) := by
  have e : L15 m c = k0_pay40 (F := Ideal) blk1Run.sl.v220 blk1Run.sl.v221 k0_pay37 (128#32) k0_pay38 k0_pay39 1#32 :=
    View.readAt_writes_full (Memref.whole cc0_scratch6).view _ inb_S256x256_S256x256_0_0 inb_S256x256_S256x256_0_0 _ []
  rw [e, m15_pay]
/-- the packing, a pair's second member sixteen times the first. -/
theorem L16_at (r : Fin 128) (t : Fin 256) : L16 m c (ix2 r t) = (if r.val = t.val then Ideal.ofBits FTy.f32 1098907648#32 else if r.val + 128 = t.val then Ideal.ofBits FTy.f32 1132462080#32 else 0 : EReal) := by
  have e : L16 m c = k0_pay41 (F := Ideal) :=
    View.readAt_writes_full (Memref.whole cc0_scratch7).view _ inb_S128x256_S128x256_0_0 inb_S128x256_S128x256_0_0 _ []
  rw [e, m16_pay]

end Cert.KernelIdeal.Hand

end
-- ==== Proof.Values.Slab.lean ====
/-
  Hand-written, untrusted. A chunk of the copied array as the steps read it.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.Spec
public import Idealize.ShloMosaic.Lib.ValueLayout
@[expose] public section
noncomputable section
namespace Cert.KernelIdeal.Hand
open Cert.KernelIdeal Cert.KernelIdeal.Gen
open Cert.Scalar Cert.Spec
open Idealize.ShloMosaic Idealize.ShloMosaic.TcCoe Idealize.ShloMosaic.Tactic
set_option maxRecDepth 16384
variable (c : Dev nD) (X : Buf (Elt Ideal) (xM.view.loc (c : Thread nD τ)))
/-- A chunk's slot after its transfer, read through itself: the chunk. -/
theorem landed_read (s : Fin 56) : (rslot s).view.read (Elt Ideal) ((rslot s).view.writes (Elt Ideal) (rslot s).view.junk [⟨Rect.whole S1280x256, payload c X s⟩]) = payload c X s := by
  exact View.read_writes_whole ..
theorem slab_at (s : Fin 56) (n : ℕ) (off : Fin 3 → ℕ) (e : off = ![s.val, n, 0]) (hh) (hn : n + 256 ≤ 1280) (t l : Fin 256) :
    View.readAt (Elt Ideal) bufM.view (Rect.unit (s := S56x1280x256) off S1x256x256.size hh).toLoadRect ((rslot s).view.writes (Elt Ideal) (rslot s).view.junk [⟨Rect.whole S1280x256, payload c X s⟩]) (ix3 (0 : Fin 1) t l)
      = X (ix2 (⟨n + t.val, by omega⟩ : Fin 1280) (⟨256 * s.val + l.val, by omega⟩ : Fin 14336)) := by
  subst e
  have h1 := congrFun (landed_read c X s) (ix2 (⟨n + t.val, by omega⟩ : Fin 1280) l)
  generalize (rslot s).view.writes (Elt Ideal) (rslot s).view.junk [⟨Rect.whole S1280x256, payload c X s⟩] = f at *
  have h2 : (rslot s).view.emb (ix2 (⟨n + t.val, by omega⟩ : Fin 1280) l) = (ix3 s (⟨n + t.val, by omega⟩ : Fin 1280) l : S56x1280x256.Idx) := by
    have e : Shape.reshapeEquiv squeezes_S1x1280x256_S1280x256.numel_eq (ix2 (⟨n + t.val, by omega⟩ : Fin 1280) l) = ix3 (⟨0, Nat.one_pos⟩ : Fin 1) (⟨n + t.val, by omega⟩ : Fin 1280) l := ValueIdx.reshapeEquiv_ix2_1ab _ _ _
    refine (congrArg (fun z => (Rect.unit (s := S56x1280x256) (slotOff s) S1x1280x256.size (slotOff_inb s)).emb z) e).trans ?_
    funext a; apply Fin.ext
    fin_cases a
    · show s.val + 1 * 0 = s.val; omega
    · show 0 + 1 * (n + t.val) = n + t.val; omega
    · show 0 + 1 * l.val = l.val; omega
  have h3 : (bufM.view.slice (Rect.unit (s := S56x1280x256) ![s.val, n, 0] S1x256x256.size hh)).emb (ix3 (0 : Fin 1) t l) = (ix3 s (⟨n + t.val, by omega⟩ : Fin 1280) l : S56x1280x256.Idx) := by
    funext a; apply Fin.ext
    fin_cases a
    · show s.val + 1 * 0 = s.val; omega
    · show n + 1 * t.val = n + t.val; omega
    · show 0 + 1 * l.val = l.val; omega
  have h4 : (grp s).view.emb (ix2 (⟨n + t.val, by omega⟩ : Fin 1280) l) = (ix2 (⟨n + t.val, by omega⟩ : Fin 1280) (⟨256 * s.val + l.val, by omega⟩ : Fin 14336) : S1280x14336.Idx) := by
    funext a; apply Fin.ext
    fin_cases a
    · show 0 + 1 * (n + t.val) = n + t.val; omega
    · show 256 * s.val + 1 * l.val = 256 * s.val + l.val; omega
  have e1 : payload c X s (ix2 (⟨n + t.val, by omega⟩ : Fin 1280) l) = X (ix2 (⟨n + t.val, by omega⟩ : Fin 1280) (⟨256 * s.val + l.val, by omega⟩ : Fin 14336)) := congrArg X h4
  rw [← e1, ← h1]
  exact (congrArg f h3).trans (congrArg f h2).symm
end Cert.KernelIdeal.Hand
end
-- ==== Proof.Values.Sums.lean ====
/-
  Hand-written, untrusted. The kernel's products with the transform are the transformed blocks, in the two orders of rows.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.Matrices
public import proofs.«01_k».proof.Proof.Values.Slab
public import proofs.«01_k».proof.Proof.KernelIdeal.Steps
@[expose] public section
noncomputable section
namespace Cert.KernelIdeal.Hand
open Cert.KernelIdeal Cert.KernelIdeal.Gen
open Cert.Scalar Cert.Spec
open Idealize.ShloMosaic Idealize.ShloMosaic.TcCoe Idealize.ShloMosaic.Tactic
set_option maxRecDepth 16384
/-- A product with a matrix that vanishes outside a block is the block's own sum. -/
theorem sum_cf (s : Fin 16 → EReal) (a : Fin 256) (f : Fin 256 → EReal) :
    ∑ t, cf s a t * f t = ∑ j : Fin 16, f ⟨a.val / 16 * 16 + j.val, by omega⟩ * coef s (lo a) j := by
  have e := (finProdFinEquiv (m := 16) (n := 16)).sum_comp (fun t : Fin 256 => cf s a t * f t)
  refine e.symm.trans ?_
  rw [Fintype.sum_prod_type, Finset.sum_eq_single (⟨a.val / 16, by omega⟩ : Fin 16)]
  · refine Finset.sum_congr rfl fun j _ => ?_
    have h1 : (finProdFinEquiv (m := 16) (n := 16)) ((⟨a.val / 16, by omega⟩ : Fin 16), j) = (⟨a.val / 16 * 16 + j.val, by omega⟩ : Fin 256) := by
      apply Fin.ext; show j.val + 16 * (a.val / 16) = a.val / 16 * 16 + j.val; omega
    rw [h1]
    have h2 : cf s a (⟨a.val / 16 * 16 + j.val, by omega⟩ : Fin 256) = coef s (lo a) j := by
      unfold cf
      rw [if_pos (by show a.val / 16 = (a.val / 16 * 16 + j.val) / 16; omega)]
      congr 1; apply Fin.ext; show (a.val / 16 * 16 + j.val) % 16 = j.val; omega
    rw [h2, mul_comm]
  · intro q _ hq
    refine Finset.sum_eq_zero fun j _ => ?_
    have h2 : cf s a ((finProdFinEquiv (m := 16) (n := 16)) (q, j)) = 0 := by
      unfold cf
      rw [if_neg]
      intro h
      have h3 : a.val / 16 = (j.val + 16 * q.val) / 16 := h
      exact hq (Fin.ext (by show q.val = a.val / 16; omega))
    rw [h2, zero_mul]
  · intro h; exact absurd (Finset.mem_univ _) h

variable (m : (ℓ : Loc nD τ sig) → Buf (Elt Ideal) ℓ) (c : Dev nD)
/-- The tokens by row and column. -/
def xK (r : Fin 1280) (d : Fin 14336) : EReal := XA m c (ix2 r d)
/-- The transformed blocks. -/
def wK : Blocks := trn (xK m c) (sg m c)
def nb (g : Fin 5) (b : Fin 16) : Fin 80 := ⟨16 * g.val + b.val, by omega⟩
def cl (k : Fin 56) (l : Fin 256) : Fin 14336 := ⟨256 * k.val + l.val, by omega⟩
/-- A loaded slab holds group `g` of chunk `k`. -/
def Holds (g : Fin 5) (k : Fin 56) (x : Vec Ideal S1x256x256 .bf16) : Prop := ∀ t l : Fin 256, x (ix3 (0 : Fin 1) t l) = xK m c ⟨256 * g.val + t.val, by omega⟩ (cl k l)

/-- A row of the second sweep's product, and of the first's. -/
theorem sum_row (g : Fin 5) (k : Fin 56) (x) (hx : Holds m c g k x) (a : Fin 256) (l : Fin 256) :
    ∑ t, (cf (sg m c) a t : EReal) * (x (ix3 (0 : Fin 1) t l) : EReal) = wK m c (nb g ⟨a.val / 16, by omega⟩) (lo a) (cl k l) := by
  refine (sum_cf _ a _).trans ?_
  unfold wK trn
  refine Finset.sum_congr rfl fun j _ => ?_
  rw [hx]
  have e : (⟨256 * g.val + (a.val / 16 * 16 + j.val), by omega⟩ : Fin 1280) = row (nb g ⟨a.val / 16, by omega⟩) j := by
    apply Fin.ext; show 256 * g.val + (a.val / 16 * 16 + j.val) = (16 * g.val + a.val / 16) * 16 + j.val; omega
  rw [e]
theorem fold_row (g : Fin 5) (k : Fin 56) (x) (hx : Holds m c g k x) (b : Fin 16) (l : Fin 256) :
    Finset.fold max (Ideal.ofBits FTy.f32 4286578688#32) (fun i : Fin 16 => FloatOps.absf (F := Ideal) (φ := .f32) (∑ t : Fin 256, L13 m c (ix2 (⟨i.val * 16 + b.val, by omega⟩ : Fin 256) t) * x (ix3 (0 : Fin 1) t l))) Finset.univ
      = bmax (wK m c) (nb g b) (cl k l) := by
  unfold bmax
  refine Finset.fold_congr fun i _ => ?_
  show mag _ = mag _
  have h : (∑ t : Fin 256, L13 m c (ix2 (⟨i.val * 16 + b.val, by omega⟩ : Fin 256) t) * x (ix3 (0 : Fin 1) t l)) = wK m c (nb g b) i (cl k l) := by
    have q1 : (i.val * 16 + b.val) % 16 = b.val := by omega
    have q2 : (i.val * 16 + b.val) / 16 = i.val := by omega
    have h1 := sum_row m c g k x hx (tokM ⟨i.val * 16 + b.val, by omega⟩) l
    have e1 : (⟨(tokM ⟨i.val * 16 + b.val, by omega⟩).val / 16, by have := (tokM ⟨i.val * 16 + b.val, by omega⟩).isLt; omega⟩ : Fin 16) = b := by
      apply Fin.ext; show ((i.val * 16 + b.val) % 16 * 16 + (i.val * 16 + b.val) / 16) / 16 = b.val; rw [q1, q2]; omega
    have e2 : lo (tokM ⟨i.val * 16 + b.val, by omega⟩) = i := by
      apply Fin.ext; show ((i.val * 16 + b.val) % 16 * 16 + (i.val * 16 + b.val) / 16) % 16 = i.val; rw [q1, q2]; omega
    rw [e1, e2] at h1
    rw [← h1]
    exact Finset.sum_congr rfl fun t _ => by rw [L13_at]
  exact congrArg mag h

section Pay
variable (g : Fin 5) (k : Fin 56) (x : Vec Ideal S1x256x256 .bf16) (hx : Holds m c g k x) (b : Fin 16) (l : Fin 256) (r : Vec Ideal S256x256 .bf16)
include hx
/-- The largest magnitudes of a group's product, in the order of the maxima, are the blocks' maxima; likewise for the other groups. -/
theorem p43 : k0_pay43 x (L13 m c) (ix2 b l) = bmax (wK m c) (nb g b) (cl k l) := by
  rw [← fold_row m c g k x hx]; generalize L13 m c = r; pointwise [k0_pay43]
theorem p46 : k0_pay46 x (L13 m c) (ix2 b l) = bmax (wK m c) (nb g b) (cl k l) := by
  rw [← fold_row m c g k x hx]; generalize L13 m c = r; pointwise [k0_pay46]
theorem p48 : k0_pay48 x (L13 m c) (ix2 b l) = bmax (wK m c) (nb g b) (cl k l) := by
  rw [← fold_row m c g k x hx]; generalize L13 m c = r; pointwise [k0_pay48]
theorem p50 : k0_pay50 x (L13 m c) (ix2 b l) = bmax (wK m c) (nb g b) (cl k l) := by
  rw [← fold_row m c g k x hx]; generalize L13 m c = r; pointwise [k0_pay50]
theorem p1 : k0_pay1 x (L13 m c) (ix2 b l) = bmax (wK m c) (nb g b) (cl k l) := by
  rw [← fold_row m c g k x hx]; generalize L13 m c = r; pointwise [k0_pay1]
omit hx
theorem p44 : k0_pay44 x r (ix3 (0 : Fin 1) b l) = k0_pay43 x r (ix2 b l) := by pointwise [k0_pay44]
theorem p47 (z : FVec Ideal S16x256 .f32) : k0_pay47 z (ix3 (0 : Fin 1) b l) = z (ix2 b l) := by pointwise [k0_pay47]
theorem p49 : k0_pay49 x r (ix3 (0 : Fin 1) b l) = k0_pay48 x r (ix2 b l) := by pointwise [k0_pay49]
theorem p51 : k0_pay51 x r (ix3 (0 : Fin 1) b l) = k0_pay50 x r (ix2 b l) := by pointwise [k0_pay51]
theorem p2 : k0_pay2 x r (ix3 (0 : Fin 1) b l) = k0_pay1 x r (ix2 b l) := by pointwise [k0_pay2]
theorem p45 (z : FVec Ideal S16x256 .f32) : k0_pay45 z x r (ix2 b l) = max (z (ix2 b l)) (k0_pay43 x r (ix2 b l)) := by pointwise [k0_pay45]
theorem p52 (u v : FVec Ideal S16x256 .f32) (y) : k0_pay52 u v x r y r (ix2 b l) = max (max (max (u (ix2 b l)) (v (ix2 b l))) (k0_pay48 x r (ix2 b l))) (k0_pay50 y r (ix2 b l)) := by pointwise [k0_pay52]
theorem p3 (z : FVec Ideal S16x256 .f32) : k0_pay3 z x r (ix2 b l) = max (z (ix2 b l)) (k0_pay1 x r (ix2 b l)) := by pointwise [k0_pay3]
theorem p42 : k0_pay42 (F := Ideal) (ix2 b l) = 0 := by pointwise [k0_pay42]
end Pay
end Cert.KernelIdeal.Hand
end
-- ==== Proof.Values.Max.lean ====
/-
  Hand-written, untrusted. The first sweep: what a step stores of its columns' block maxima, and what the running maximum holds at the end.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.Sums
@[expose] public section
noncomputable section
namespace Cert.KernelIdeal.Hand
open Cert.KernelIdeal Cert.KernelIdeal.Gen
open Cert.Scalar Cert.Spec
open Idealize.ShloMosaic Idealize.ShloMosaic.TcCoe Idealize.ShloMosaic.Tactic
set_option maxRecDepth 16384
variable (m : (ℓ : Loc nD τ sig) → Buf (Elt Ideal) ℓ) (c : Dev nD)

/-- Five strips of sixteen rows. -/
theorem rows5 {sp : Space} (v : View sig .tc sp S80x256 .f32) (f) (w0 w1 w2 w3 w4 : FVec Ideal S16x256 .f32) (i0 i1 i2 i3 i4) (G : Fin 80 → Fin 256 → EReal)
    (h0 : ∀ b l, w0 (ix2 b l) = G (nb 0 b) l) (h1 : ∀ b l, w1 (ix2 b l) = G (nb 1 b) l) (h2 : ∀ b l, w2 (ix2 b l) = G (nb 2 b) l)
    (h3 : ∀ b l, w3 (ix2 b l) = G (nb 3 b) l) (h4 : ∀ b l, w4 (ix2 b l) = G (nb 4 b) l) (n : Fin 80) (l : Fin 256) :
    v.read (Elt Ideal) (v.writes (Elt Ideal) f [⟨Rect.unit (s := S80x256) ![64, 0] S16x256.size i4, w4⟩, ⟨Rect.unit (s := S80x256) ![48, 0] S16x256.size i3, w3⟩, ⟨Rect.unit (s := S80x256) ![32, 0] S16x256.size i2, w2⟩,
      ⟨Rect.unit (s := S80x256) ![16, 0] S16x256.size i1, w1⟩, ⟨Rect.unit (s := S80x256) ![0, 0] S16x256.size i0, w0⟩]) (ix2 n l) = G n l := by
  have key : ∀ (g : Fin 5) (b : Fin 16), n = nb g b → n.val = 16 * g.val + b.val := fun g b e => congrArg Fin.val e
  by_cases a4 : 64 ≤ n.val
  · rw [View.read_writes_cons_rows_of_mem v f i4 w4 _ (ix2 n l) (ix2 (⟨n.val - 64, by omega⟩ : Fin 16) l) rfl (by show n.val = 64 + (n.val - 64); omega) rfl]
    exact (h4 _ _).trans (congrArg (fun n => G n l) (Fin.ext (by show 16 * 4 + (n.val - 64) = n.val; omega)))
  rw [View.read_writes_cons_rows_of_not_mem v f i4 w4 _ (ix2 n l) rfl rfl (Or.inl (by show n.val < 64; omega))]
  by_cases a3 : 48 ≤ n.val
  · rw [View.read_writes_cons_rows_of_mem v f i3 w3 _ (ix2 n l) (ix2 (⟨n.val - 48, by omega⟩ : Fin 16) l) rfl (by show n.val = 48 + (n.val - 48); omega) rfl]
    exact (h3 _ _).trans (congrArg (fun n => G n l) (Fin.ext (by show 16 * 3 + (n.val - 48) = n.val; omega)))
  rw [View.read_writes_cons_rows_of_not_mem v f i3 w3 _ (ix2 n l) rfl rfl (Or.inl (by show n.val < 48; omega))]
  by_cases a2 : 32 ≤ n.val
  · rw [View.read_writes_cons_rows_of_mem v f i2 w2 _ (ix2 n l) (ix2 (⟨n.val - 32, by omega⟩ : Fin 16) l) rfl (by show n.val = 32 + (n.val - 32); omega) rfl]
    exact (h2 _ _).trans (congrArg (fun n => G n l) (Fin.ext (by show 16 * 2 + (n.val - 32) = n.val; omega)))
  rw [View.read_writes_cons_rows_of_not_mem v f i2 w2 _ (ix2 n l) rfl rfl (Or.inl (by show n.val < 32; omega))]
  by_cases a1 : 16 ≤ n.val
  · rw [View.read_writes_cons_rows_of_mem v f i1 w1 _ (ix2 n l) (ix2 (⟨n.val - 16, by omega⟩ : Fin 16) l) rfl (by show n.val = 16 + (n.val - 16); omega) rfl]
    exact (h1 _ _).trans (congrArg (fun n => G n l) (Fin.ext (by show 16 * 1 + (n.val - 16) = n.val; omega)))
  rw [View.read_writes_cons_rows_of_not_mem v f i1 w1 _ (ix2 n l) rfl rfl (Or.inl (by show n.val < 16; omega))]
  rw [View.read_writes_cons_rows_of_mem v f i0 w0 _ (ix2 n l) (ix2 (⟨n.val, by omega⟩ : Fin 16) l) rfl (by show n.val = 0 + n.val; omega) rfl]
  exact (h0 _ _).trans (congrArg (fun n => G n l) (Fin.ext (by show 16 * 0 + n.val = n.val; omega)))

/-- The same five strips in one chunk's place of the block maxima. -/
theorem slabs5 {sp : Space} (v : View sig .tc sp S56x80x256 .f32) (f) (k : Fin 56) (o0 o1 o2 o3 o4 : Fin 3 → ℕ) (w0 w1 w2 w3 w4 : FVec Ideal S1x16x256 .f32) (i0 i1 i2 i3 i4) (G : Fin 80 → Fin 256 → EReal)
    (e0 : o0 = ![k.val, 0, 0]) (e1 : o1 = ![k.val, 16, 0]) (e2 : o2 = ![k.val, 32, 0]) (e3 : o3 = ![k.val, 48, 0]) (e4 : o4 = ![k.val, 64, 0])
    (h0 : ∀ b l, w0 (ix3 (0 : Fin 1) b l) = G (nb 0 b) l) (h1 : ∀ b l, w1 (ix3 (0 : Fin 1) b l) = G (nb 1 b) l) (h2 : ∀ b l, w2 (ix3 (0 : Fin 1) b l) = G (nb 2 b) l)
    (h3 : ∀ b l, w3 (ix3 (0 : Fin 1) b l) = G (nb 3 b) l) (h4 : ∀ b l, w4 (ix3 (0 : Fin 1) b l) = G (nb 4 b) l) (n : Fin 80) (l : Fin 256) :
    v.read (Elt Ideal) (v.writes (Elt Ideal) f [⟨Rect.unit (s := S56x80x256) o4 S1x16x256.size i4, w4⟩, ⟨Rect.unit (s := S56x80x256) o3 S1x16x256.size i3, w3⟩, ⟨Rect.unit (s := S56x80x256) o2 S1x16x256.size i2, w2⟩,
      ⟨Rect.unit (s := S56x80x256) o1 S1x16x256.size i1, w1⟩, ⟨Rect.unit (s := S56x80x256) o0 S1x16x256.size i0, w0⟩]) (ix3 k n l) = G n l := by
  have pos : ∀ (q : ℕ) (x : Fin 16), n.val = q + x.val → ∀ a : Fin 3, ((ix3 k n l : S56x80x256.Idx) a).val = (![k.val, q, 0] : Fin 3 → ℕ) a + ((ix3 (0 : Fin 1) x l : S1x16x256.Idx) a).val := by
    intro q x h a
    fin_cases a
    · show k.val = k.val + 0; omega
    · exact h
    · show l.val = 0 + l.val; omega
  by_cases a4 : 64 ≤ n.val
  · rw [View.read_writes_cons_unit_of_mem v f i4 w4 _ (ix3 k n l) (ix3 (0 : Fin 1) (⟨n.val - 64, by omega⟩ : Fin 16) l) e4 (pos _ _ (by show n.val = 64 + (n.val - 64); omega))]
    exact (h4 _ _).trans (congrArg (fun n => G n l) (Fin.ext (by show 16 * 4 + (n.val - 64) = n.val; omega)))
  rw [View.read_writes_cons_unit_of_not_mem v f i4 w4 _ (ix3 k n l) e4 1 (Or.inl (by show n.val < 64; omega))]
  by_cases a3 : 48 ≤ n.val
  · rw [View.read_writes_cons_unit_of_mem v f i3 w3 _ (ix3 k n l) (ix3 (0 : Fin 1) (⟨n.val - 48, by omega⟩ : Fin 16) l) e3 (pos _ _ (by show n.val = 48 + (n.val - 48); omega))]
    exact (h3 _ _).trans (congrArg (fun n => G n l) (Fin.ext (by show 16 * 3 + (n.val - 48) = n.val; omega)))
  rw [View.read_writes_cons_unit_of_not_mem v f i3 w3 _ (ix3 k n l) e3 1 (Or.inl (by show n.val < 48; omega))]
  by_cases a2 : 32 ≤ n.val
  · rw [View.read_writes_cons_unit_of_mem v f i2 w2 _ (ix3 k n l) (ix3 (0 : Fin 1) (⟨n.val - 32, by omega⟩ : Fin 16) l) e2 (pos _ _ (by show n.val = 32 + (n.val - 32); omega))]
    exact (h2 _ _).trans (congrArg (fun n => G n l) (Fin.ext (by show 16 * 2 + (n.val - 32) = n.val; omega)))
  rw [View.read_writes_cons_unit_of_not_mem v f i2 w2 _ (ix3 k n l) e2 1 (Or.inl (by show n.val < 32; omega))]
  by_cases a1 : 16 ≤ n.val
  · rw [View.read_writes_cons_unit_of_mem v f i1 w1 _ (ix3 k n l) (ix3 (0 : Fin 1) (⟨n.val - 16, by omega⟩ : Fin 16) l) e1 (pos _ _ (by show n.val = 16 + (n.val - 16); omega))]
    exact (h1 _ _).trans (congrArg (fun n => G n l) (Fin.ext (by show 16 * 1 + (n.val - 16) = n.val; omega)))
  rw [View.read_writes_cons_unit_of_not_mem v f i1 w1 _ (ix3 k n l) e1 1 (Or.inl (by show n.val < 16; omega))]
  rw [View.read_writes_cons_unit_of_mem v f i0 w0 _ (ix3 k n l) (ix3 (0 : Fin 1) (⟨n.val, by omega⟩ : Fin 16) l) e0 (pos _ _ (by show n.val = 0 + n.val; omega))]
  exact (h0 _ _).trans (congrArg (fun n => G n l) (Fin.ext (by show 16 * 0 + n.val = n.val; omega)))

section Slabs
variable (k : Fin 56)
theorem co0 : (co (pt0 k) 1).val = k.val := congrArg Fin.val (ij0 k)
theorem co1 : (co (pt1 k) 1).val = k.val := congrArg Fin.val (ij1 k)
/-- A slab read from a landed chunk. -/
theorem holds_of (i : grid0.Coords) (hi : ij i = k) (g : Fin 5) (off : Fin 3 → ℕ) (e : off = ![(i 1).val, 256 * g.val, 0]) (hh) :
    Holds m c g k (View.readAt (Elt Ideal) bufM.view (Rect.unit (s := S56x1280x256) off S1x256x256.size hh).toLoadRect ((rslot (ij i)).view.writes (Elt Ideal) (rslot (ij i)).view.junk [⟨Rect.whole S1280x256, payload c (XA m c) (ij i)⟩])) := by
  intro t l
  rw [slab_at c (XA m c) (ij i) (256 * g.val) off e hh (by omega) t l]
  exact congrArg (fun k => xK m c ⟨256 * g.val + t.val, by omega⟩ (cl k l)) hi
theorem hv25 : Holds m c 0 k (blk2Run.sl.v25 c (XA m c) (co (pt0 k)) (h2_k k)) := holds_of m c k _ (ij0 k) 0 _ (k0_off7_eq _) _
theorem hv39 : Holds m c 1 k (blk2Run.sl.v39 c (XA m c) (co (pt0 k)) (h2_k k)) := holds_of m c k _ (ij0 k) 1 _ (k0_off9_eq _) _
theorem hv53 : Holds m c 2 k (blk2Run.sl.v53 c (XA m c) (co (pt0 k)) (h2_k k)) := holds_of m c k _ (ij0 k) 2 _ (k0_off11_eq _) _
theorem hv67 : Holds m c 3 k (blk2Run.sl.v67 c (XA m c) (co (pt0 k)) (h2_k k)) := holds_of m c k _ (ij0 k) 3 _ (k0_off13_eq _) _
theorem hv81 : Holds m c 4 k (blk2Run.sl.v81 c (XA m c) (co (pt0 k)) (h2_k k)) := holds_of m c k _ (ij0 k) 4 _ (k0_off15_eq _) _

/-- The block maxima that sweep 0 writes out, -/
theorem outA_at (n : Fin 80) (l : Fin 256) : outA m c k (ix2 n l) = bmax (wK m c) n (cl k l) :=
  rows5 (ms2 (pt0 k)).view _ (k0_pay43 (blk2Run.sl.v25 c (XA m c) (co (pt0 k)) (h2_k k)) (L13 m c)) (k0_pay46 (blk2Run.sl.v39 c (XA m c) (co (pt0 k)) (h2_k k)) (L13 m c)) (k0_pay48 (blk2Run.sl.v53 c (XA m c) (co (pt0 k)) (h2_k k)) (L13 m c))
    (k0_pay50 (blk2Run.sl.v67 c (XA m c) (co (pt0 k)) (h2_k k)) (L13 m c)) (k0_pay1 (blk2Run.sl.v81 c (XA m c) (co (pt0 k)) (h2_k k)) (L13 m c)) _ _ _ _ _ (fun n l => bmax (wK m c) n (cl k l))
    (p43 m c 0 k _ (hv25 m c k)) (p46 m c 1 k _ (hv39 m c k)) (p48 m c 2 k _ (hv53 m c k)) (p50 m c 3 k _ (hv67 m c k)) (p1 m c 4 k _ (hv81 m c k)) n l
/-- What one step keeps of its block maxima. -/
theorem amK_eq : amK m c k = (Memref.whole cc0_scratch1).view.writes (Elt Ideal) (Memref.whole cc0_scratch1).view.junk
    [⟨Rect.unit (s := S56x80x256) (k0_off16 (co (pt0 k))) S1x16x256.size (k0_off16_inb _ (h2_k k)), k0_pay2 (blk2Run.sl.v81 c (XA m c) (co (pt0 k)) (h2_k k)) (L13 m c)⟩, ⟨Rect.unit (s := S56x80x256) (k0_off14 (co (pt0 k))) S1x16x256.size (k0_off14_inb _ (h2_k k)), k0_pay51 (blk2Run.sl.v67 c (XA m c) (co (pt0 k)) (h2_k k)) (L13 m c)⟩,
      ⟨Rect.unit (s := S56x80x256) (k0_off12 (co (pt0 k))) S1x16x256.size (k0_off12_inb _ (h2_k k)), k0_pay49 (blk2Run.sl.v53 c (XA m c) (co (pt0 k)) (h2_k k)) (L13 m c)⟩, ⟨Rect.unit (s := S56x80x256) (k0_off10 (co (pt0 k))) S1x16x256.size (k0_off10_inb _ (h2_k k)), k0_pay47 (k0_pay46 (blk2Run.sl.v39 c (XA m c) (co (pt0 k)) (h2_k k)) (L13 m c))⟩,
      ⟨Rect.unit (s := S56x80x256) (k0_off8 (co (pt0 k))) S1x16x256.size (k0_off8_inb _ (h2_k k)), k0_pay44 (blk2Run.sl.v25 c (XA m c) (co (pt0 k)) (h2_k k)) (L13 m c)⟩] := by
  unfold amK run2 blk2Run
  dsimp only
  rfl
/-- and keeps. -/
theorem amK_at (n : Fin 80) (l : Fin 256) : amK m c k (ix3 k n l) = bmax (wK m c) n (cl k l) := by
  refine (rd1 c (amK m c k) (ix3 k n l)).symm.trans ?_
  rw [amK_eq]
  exact slabs5 (Memref.whole cc0_scratch1).view _ k _ _ _ _ _ (k0_pay44 (blk2Run.sl.v25 c (XA m c) (co (pt0 k)) (h2_k k)) (L13 m c)) (k0_pay47 (k0_pay46 (blk2Run.sl.v39 c (XA m c) (co (pt0 k)) (h2_k k)) (L13 m c))) (k0_pay49 (blk2Run.sl.v53 c (XA m c) (co (pt0 k)) (h2_k k)) (L13 m c))
    (k0_pay51 (blk2Run.sl.v67 c (XA m c) (co (pt0 k)) (h2_k k)) (L13 m c)) (k0_pay2 (blk2Run.sl.v81 c (XA m c) (co (pt0 k)) (h2_k k)) (L13 m c)) (k0_off8_inb _ (h2_k k)) (k0_off10_inb _ (h2_k k)) (k0_off12_inb _ (h2_k k)) (k0_off14_inb _ (h2_k k)) (k0_off16_inb _ (h2_k k)) (fun n l => bmax (wK m c) n (cl k l))
    ((k0_off8_eq _).trans (by rw [co0])) ((k0_off10_eq _).trans (by rw [co0])) ((k0_off12_eq _).trans (by rw [co0])) ((k0_off14_eq _).trans (by rw [co0])) ((k0_off16_eq _).trans (by rw [co0]))
    (fun b l => (p44 _ b l _).trans (p43 m c 0 k _ (hv25 m c k) b l)) (fun b l => (p47 b l _).trans (p46 m c 1 k _ (hv39 m c k) b l)) (fun b l => (p49 _ b l _).trans (p48 m c 2 k _ (hv53 m c k) b l)) (fun b l => (p51 _ b l _).trans (p50 m c 3 k _ (hv67 m c k) b l)) (fun b l => (p2 _ b l _).trans (p1 m c 4 k _ (hv81 m c k) b l)) n l
/-- The maxima kept for the second sweep. -/
theorem amBuf_at (n : Fin 80) (l : Fin 256) : amBuf m c (ix3 k n l) = bmax (wK m c) n (cl k l) := amK_at m c k n l
end Slabs
end Cert.KernelIdeal.Hand
end
-- ==== Proof.Values.Scale.lean ====
/-
  Hand-written, untrusted. The tensor scale, the block scales and the reciprocals of the second sweep.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.Max
@[expose] public section
noncomputable section
namespace Cert.KernelIdeal.Hand
open Cert.KernelIdeal Cert.KernelIdeal.Gen
open Cert.Scalar Cert.Spec
open Idealize.ShloMosaic Idealize.ShloMosaic.TcCoe Idealize.ShloMosaic.Tactic
set_option maxRecDepth 16384
variable (m : (ℓ : Loc nD τ sig) → Buf (Elt Ideal) ℓ) (c : Dev nD)

/-- The running maximum as loaded. -/
abbrev R11 (f : Buf (Elt Ideal) ((Memref.whole cc0_scratch2).view.loc (c : Thread nD τ))) : Vec Ideal S16x256 .f32 := View.readAt (Elt Ideal) (Memref.whole cc0_scratch2).view (Rect.unit (s := S16x256) ![0, 0] S16x256.size inb_S16x256_S16x256_0_0).toLoadRect f
/-- The running maximum starts at zero, -/
theorem rm_zero : R11 c (rm m c 0) = k0_pay42 (F := Ideal) :=
  View.readAt_writes_full (Memref.whole cc0_scratch2).view _ inb_S16x256_S16x256_0_0 inb_S16x256_S16x256_0_0 _ []
/-- grows by a step's maxima, -/
theorem rm_step (k : Fin 56) : R11 c (rm m c (k.val + 1)) = k0_pay3 (blk2Run.sl.r_2 c (XA m c) (co (pt0 k)) (h2_k k) (rm m c k.val) (M13 m c)) (blk2Run.sl.v81 c (XA m c) (co (pt0 k)) (h2_k k)) (L13 m c) := by
  rw [rm_succ m c k (Memref.whole cc0_scratch1).view.junk]
  unfold run2 blk2Run
  dsimp only
  exact View.readAt_writes_full (Memref.whole cc0_scratch2).view _ inb_S16x256_S16x256_0_0 inb_S16x256_S16x256_0_0 _ []
/-- place by place, -/
theorem rm_step_at (k : Fin 56) (b : Fin 16) (l : Fin 256) : R11 c (rm m c (k.val + 1)) (ix2 b l)
    = max (max (max (max (max (R11 c (rm m c k.val) (ix2 b l)) (bmax (wK m c) (nb 0 b) (cl k l))) (bmax (wK m c) (nb 1 b) (cl k l))) (bmax (wK m c) (nb 2 b) (cl k l))) (bmax (wK m c) (nb 3 b) (cl k l))) (bmax (wK m c) (nb 4 b) (cl k l)) := by
  rw [rm_step, p3, p1 m c 4 k _ (hv81 m c k)]
  unfold blk2Run.sl.r_2 blk2Run.sl.r blk2Run.sl.r_1
  have e1 := p43 m c 0 k _ (hv25 m c k) b l
  have e2 := p46 m c 1 k _ (hv39 m c k) b l
  have e3 := p48 m c 2 k _ (hv53 m c k) b l
  have e4 := p50 m c 3 k _ (hv67 m c k) b l
  rw [← e1, ← e2, ← e3, ← e4, p52, p45]
/-- and is bounded by what bounds every magnitude. -/
theorem rm_le (b : Fin 16) (l : Fin 256) (z : EReal) : ∀ n : ℕ, n ≤ 56 → (R11 c (rm m c n) (ix2 b l) ≤ z ↔ 0 ≤ z ∧ ∀ k : Fin 56, k.val < n → ∀ g, bmax (wK m c) (nb g b) (cl k l) ≤ z) := by
  intro n
  induction n with
  | zero =>
    intro _
    rw [rm_zero, p42]
    exact ⟨fun h => ⟨h, fun k hk => absurd hk (Nat.not_lt_zero _)⟩, fun h => h.1⟩
  | succ n ih =>
    intro hn
    have ih := ih (by omega)
    have e := rm_step_at m c ⟨n, by omega⟩ b l
    rw [show R11 c (rm m c (n + 1)) (ix2 b l) = _ from e]
    simp only [max_le_iff]
    rw [show R11 c (rm m c n) (ix2 b l) ≤ z ↔ _ from ih]
    constructor
    · rintro ⟨⟨⟨⟨⟨⟨h0, h⟩, g0⟩, g1⟩, g2⟩, g3⟩, g4⟩
      refine ⟨h0, fun k hk g => ?_⟩
      by_cases e : k.val < n
      · exact h k e g
      · rw [show k = ⟨n, by omega⟩ from Fin.ext (by show k.val = n; omega)]
        fin_cases g
        · exact g0
        · exact g1
        · exact g2
        · exact g3
        · exact g4
    · rintro ⟨h0, h⟩
      have hh := h ⟨n, by omega⟩ (Nat.lt_succ_self n)
      exact ⟨⟨⟨⟨⟨⟨h0, fun k hk => h k (Nat.lt_succ_of_lt hk)⟩, hh 0⟩, hh 1⟩, hh 2⟩, hh 3⟩, hh 4⟩
theorem mag_nonneg (x : EReal) : 0 ≤ mag x := by
  show 0 ≤ max x (-x)
  rcases le_total 0 x with h | h
  · exact le_max_of_le_left h
  · exact le_max_of_le_right (by rw [EReal.neg_nonneg]; exact h)
/-- The largest running maximum is the tensor's. -/
theorem top_max : Finset.fold max (Ideal.ofBits FTy.f32 4286578688#32) (fun j : Fin 16 × Fin 256 => R11 c (rm m c 56) (ix2 j.1 j.2)) Finset.univ = tmax (wK m c) := by
  refine eq_of_forall_ge_iff fun z => ?_
  rw [Finset.fold_max_le, tmax_le, c_bot]
  constructor
  · rintro ⟨_, h⟩ n i d
    have h1 := ((rm_le m c ⟨n.val % 16, by omega⟩ ⟨d.val % 256, by omega⟩ z 56 le_rfl).1 (h (⟨n.val % 16, by omega⟩, ⟨d.val % 256, by omega⟩) (Finset.mem_univ _))).2 ⟨d.val / 256, by omega⟩ (Fin.isLt _) ⟨n.val / 16, by omega⟩
    have e1 : nb ⟨n.val / 16, by omega⟩ ⟨n.val % 16, by omega⟩ = n := Fin.ext (by show 16 * (n.val / 16) + n.val % 16 = n.val; omega)
    have e2 : cl ⟨d.val / 256, by omega⟩ ⟨d.val % 256, by omega⟩ = d := Fin.ext (by show 256 * (d.val / 256) + d.val % 256 = d.val; omega)
    rw [e1, e2] at h1
    exact (bmax_le _ _ _ _).1 h1 i
  · intro h
    refine ⟨bot_le, fun j _ => (rm_le m c j.1 j.2 z 56 le_rfl).2 ⟨(mag_nonneg _).trans (h 0 0 0), fun k _ g => (bmax_le _ _ _ _).2 fun i => h _ _ _⟩⟩

theorem p4 (x : Vec Ideal S16x256 .f32) : k0_pay4 x (ix2 (0 : Fin 1) (0 : Fin 1)) = tsOf (Finset.fold max (Ideal.ofBits FTy.f32 4286578688#32) (fun j : Fin 16 × Fin 256 => x (ix2 j.1 j.2)) Finset.univ) := by
  unfold tsOf
  pointwise [k0_pay4]
theorem p5 (x : Vec Ideal S16x256 .f32) (b : Fin 8) (l : Fin 128) : k0_pay5 x (ix2 b l) = k0_pay4 x (ix2 (0 : Fin 1) (0 : Fin 1)) := by
  pointwise [k0_pay5]
/-- The tensor scale is that of the tensor's largest magnitude. -/
theorem p4_ts : k0_pay4 (R11 c (rm m c 56)) (ix2 (0 : Fin 1) (0 : Fin 1)) = ts (wK m c) := by
  rw [p4, top_max]; rfl
attribute [local irreducible] rm
/-- The second sweep's first step stores the tensor scale. -/
theorem run3_out : (run3 m c).1.1 = (ms5 (pt1 0)).view.writes (Elt Ideal) (ms5 (pt1 0)).view.junk [⟨Rect.unit (s := S1x1) ![0, 0] S1x1.size inb_S1x1_S1x1_0_0, k0_pay4 (R11 c (rm m c 56))⟩] := by
  unfold run3
  generalize rm m c 56 = f
  unfold blk3Run
  dsimp only
  rfl
theorem M12_eq : M12 m c = (Memref.whole cc0_scratch3).view.writes (Elt Ideal) (Memref.whole cc0_scratch3).view.junk [⟨Rect.unit (s := S8x128) ![0, 0] S8x128.size inb_S8x128_S8x128_0_0, k0_pay5 (R11 c (rm m c 56))⟩] := by
  unfold M12 run3
  generalize rm m c 56 = f
  unfold blk3Run
  dsimp only
  rfl
/-- The tensor scale, as written out -/
theorem outT_at : outT m c (ix2 (0 : Fin 1) (0 : Fin 1)) = ts (wK m c) := by
  refine Eq.trans ?_ (p4_ts m c)
  unfold outT
  rw [run3_out]
  generalize k0_pay4 (R11 c (rm m c 56)) = w
  exact View.read_writes_cons_unit_of_mem (Val := Elt Ideal) (ms5 (pt1 0)).view _ inb_S1x1_S1x1_0_0 w [] (ix2 (0 : Fin 1) (0 : Fin 1)) (ix2 (0 : Fin 1) (0 : Fin 1)) rfl (fun a => by fin_cases a <;> rfl)
/-- and as kept. -/
abbrev L12 : Vec Ideal S1x1 .f32 := View.readAt (Elt Ideal) (Memref.whole cc0_scratch3).view (Rect.unit (s := S8x128) ![0, 0] S1x1.size inb_S8x128_S1x1_0_0).toLoadRect (M12 m c)
/-- The tensor scale as a later step reads it. -/
theorem L12_at : L12 m c (ix2 (0 : Fin 1) (0 : Fin 1)) = ts (wK m c) := by
  have h : (Memref.whole cc0_scratch3).view.read (Elt Ideal) (M12 m c) (ix2 (0 : Fin 8) (0 : Fin 128)) = ts (wK m c) := by
    refine Eq.trans ?_ ((p5 _ 0 0).trans (p4_ts m c))
    rw [M12_eq]
    generalize k0_pay5 (R11 c (rm m c 56)) = w
    exact View.read_writes_cons_unit_of_mem (Val := Elt Ideal) (Memref.whole cc0_scratch3).view _ inb_S8x128_S8x128_0_0 w [] (ix2 (0 : Fin 8) (0 : Fin 128)) (ix2 (0 : Fin 8) (0 : Fin 128)) rfl (fun a => by fin_cases a <;> rfl)
  refine Eq.trans ?_ h
  have e : (Rect.unit (s := S8x128) ![0, 0] S1x1.size inb_S8x128_S1x1_0_0).emb (ix2 (0 : Fin 1) (0 : Fin 1)) = (ix2 (0 : Fin 8) (0 : Fin 128) : S8x128.Idx) := by
    funext a; apply Fin.ext; fin_cases a <;> rfl
  exact congrArg ((Memref.whole cc0_scratch3).view.read (Elt Ideal) (M12 m c)) e

/-! ## The scales -/
section Scales
variable (k : Fin 56)
abbrev LA : Vec Ideal S1x80x256 .f32 := View.readAt (Elt Ideal) (Memref.whole cc0_scratch1).view (Rect.unit (s := S56x80x256) (k0_off17 (co (pt1 k))) S1x80x256.size (k0_off17_inb _ (h4_k k))).toLoadRect (amBuf m c)
/-- The block maxima as a later step reads them. -/
theorem LA_at (n : Fin 80) (l : Fin 256) : LA m c k (ix3 (0 : Fin 1) n l) = bmax (wK m c) n (cl k l) := by
  refine Eq.trans ?_ (amBuf_at m c k n l)
  refine Eq.trans ?_ (rd1 c (amBuf m c) (ix3 k n l))
  have e : (Rect.unit (s := S56x80x256) (k0_off17 (co (pt1 k))) S1x80x256.size (k0_off17_inb _ (h4_k k))).emb (ix3 (0 : Fin 1) n l) = (ix3 k n l : S56x80x256.Idx) := by
    have e0 : k0_off17 (co (pt1 k)) = ![k.val, 0, 0] := (k0_off17_eq _).trans (by rw [co1])
    funext a; apply Fin.ext
    show k0_off17 (co (pt1 k)) a + 1 * ((ix3 (0 : Fin 1) n l : S1x80x256.Idx) a).val = _
    rw [e0]
    fin_cases a
    · show k.val + 1 * 0 = k.val; omega
    · show 0 + 1 * n.val = n.val; omega
    · show 0 + 1 * l.val = l.val; omega
  exact congrArg ((Memref.whole cc0_scratch1).view.read (Elt Ideal) (amBuf m c)) e
theorem p53 (t : Vec Ideal S1x1 .f32) (a : Vec Ideal S1x80x256 .f32) (n : Fin 80) (l : Fin 256) : k0_pay53 (F := Ideal) t a (ix2 n l) = sbOf (a (ix3 (0 : Fin 1) n l)) (t (ix2 (0 : Fin 1) (0 : Fin 1))) := by
  unfold sbOf
  pointwise [k0_pay53]
/-- The block scale. -/
theorem p53_at (n : Fin 80) (l : Fin 256) : k0_pay53 (F := Ideal) (L12 m c) (LA m c k) (ix2 n l) = sb (wK m c) n (cl k l) := by
  rw [p53, LA_at, L12_at]; rfl
/-- A step of the second sweep stores its columns' block scales. -/
theorem run4_scales : (run4 m c k).1.2 = (ms4 (pt1 k)).view.writes (Elt Ideal) (ms4 (pt1 k)).view.junk [⟨Rect.unit (s := S80x256) ![0, 0] S80x256.size inb_S80x256_S80x256_0_0, k0_pay53 (F := Ideal) (L12 m c) (LA m c k)⟩] := by
  unfold run4 L12 LA
  generalize amBuf m c = f10
  generalize M12 m c = f12
  unfold blk4Run
  dsimp only
  rfl
/-- The scales as written out. -/
theorem outS_at (n : Fin 80) (l : Fin 256) : outS m c k (ix2 n l) = sb (wK m c) n (cl k l) := by
  refine Eq.trans ?_ (p53_at m c k n l)
  unfold outS
  rw [run4_scales]
  generalize k0_pay53 (F := Ideal) (L12 m c) (LA m c k) = w
  exact View.read_writes_cons_unit_of_mem (Val := Elt Ideal) (ms4 (pt1 k)).view _ inb_S80x256_S80x256_0_0 w [] (ix2 n l) (ix2 n l) rfl (fun a => by fin_cases a <;> exact (Nat.zero_add _).symm)
end Scales
end Cert.KernelIdeal.Hand
end
-- ==== Proof.Values.Mats.lean ====
/-
  Hand-written, untrusted. The products with the stored matrices, and the reciprocals spread over a group's rows, element by element.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.Scale
@[expose] public section
noncomputable section
namespace Cert.KernelIdeal.Hand
open Cert.KernelIdeal Cert.KernelIdeal.Gen
open Cert.Scalar Cert.Spec
open Idealize.ShloMosaic Idealize.ShloMosaic.TcCoe Idealize.ShloMosaic.Tactic
set_option maxRecDepth 16384
section Mats
variable (x : Vec Ideal S1x256x256 .bf16) (r : Vec Ideal S256x256 .bf16) (u : Vec Ideal S256x256 .i8) (a l : Fin 256)
/-- The transform's product for the first group, element by element; likewise the others. -/
theorem m55 : k0_pay55 x r (ix2 a l) = ∑ t : Fin 256, (r (ix2 a t) : EReal) * (x (ix3 (0 : Fin 1) t l) : EReal) := by pointwise [k0_pay55]
theorem m75 : k0_pay75 x r (ix2 a l) = ∑ t : Fin 256, (r (ix2 a t) : EReal) * (x (ix3 (0 : Fin 1) t l) : EReal) := by pointwise [k0_pay75]
theorem m95 : k0_pay95 x r (ix2 a l) = ∑ t : Fin 256, (r (ix2 a t) : EReal) * (x (ix3 (0 : Fin 1) t l) : EReal) := by pointwise [k0_pay95]
theorem m114 : k0_pay114 x r (ix2 a l) = ∑ t : Fin 256, (r (ix2 a t) : EReal) * (x (ix3 (0 : Fin 1) t l) : EReal) := by pointwise [k0_pay114]
theorem m138 : k0_pay138 (k0_pay137 x) r (ix2 a l) = ∑ t : Fin 256, (r (ix2 a t) : EReal) * (x (ix3 (0 : Fin 1) t l) : EReal) := by pointwise [k0_pay138, k0_pay137]
/-- The noise's product, for the first group; likewise the others. -/
theorem m56 : k0_pay56 u r (ix2 a l) = (∑ t : Fin 256, (r (ix2 a t) : EReal) * (FloatOps.uitofp (F := Ideal) .bf16 (u (ix2 l t)) : EReal)) + Ideal.ofBits .f32 1262477311#32 := by pointwise [k0_pay56]
theorem m77 : k0_pay77 (k0_pay76 u r) (ix2 a l) = (∑ t : Fin 256, (r (ix2 a t) : EReal) * (FloatOps.uitofp (F := Ideal) .bf16 (u (ix2 l t)) : EReal)) + Ideal.ofBits .f32 1262477311#32 := by pointwise [k0_pay77, k0_pay76]
theorem m97 : k0_pay97 (k0_pay96 u) r (ix2 a l) = (∑ t : Fin 256, (r (ix2 a t) : EReal) * (FloatOps.uitofp (F := Ideal) .bf16 (u (ix2 l t)) : EReal)) + Ideal.ofBits .f32 1262477311#32 := by pointwise [k0_pay97, k0_pay96]
theorem m115 : k0_pay115 u r (ix2 a l) = (∑ t : Fin 256, (r (ix2 a t) : EReal) * (FloatOps.uitofp (F := Ideal) .bf16 (u (ix2 l t)) : EReal)) + Ideal.ofBits .f32 1262477311#32 := by pointwise [k0_pay115]
theorem m139 : k0_pay139 u r (ix2 a l) = (∑ t : Fin 256, (r (ix2 a t) : EReal) * (FloatOps.uitofp (F := Ideal) .bf16 (u (ix2 l t)) : EReal)) + Ideal.ofBits .f32 1262477311#32 := by pointwise [k0_pay139]
/-- The reciprocal of a row, for the first group; -/
theorem m57 (ts : Vec Ideal S1x1 .f32) (am : Vec Ideal S1x80x256 .f32) (b : Fin 16) : k0_pay57 ts am (ix2 b l) = k0_pay54 ts am (ix2 (⟨b.val, by omega⟩ : Fin 80) l) := by pointwise [k0_pay57]
/-- and for all blocks. -/
theorem m54 (ts : Vec Ideal S1x1 .f32) (am : Vec Ideal S1x80x256 .f32) (b : Fin 80) : k0_pay54 ts am (ix2 b l)
    = if 0 < (k0_pay53 (F := Ideal) ts am (ix2 b l) * ts (ix2 (0 : Fin 1) (0 : Fin 1)) : EReal) then Ideal.div (Ideal.ofBits .f32 889192448#32) (if 0 < (k0_pay53 (F := Ideal) ts am (ix2 b l) * ts (ix2 (0 : Fin 1) (0 : Fin 1)) : EReal) then (k0_pay53 (F := Ideal) ts am (ix2 b l) * ts (ix2 (0 : Fin 1) (0 : Fin 1)) : EReal) else 1) else 0 := by
  pointwise [k0_pay54, k0_pay53]
end Mats
/-- A noise byte as a number. -/
theorem uu (b : BitVec 8) : (FloatOps.uitofp (F := Ideal) .bf16 b : EReal) = ((b.toNat : ℝ) : EReal) := rfl
end Cert.KernelIdeal.Hand
end
-- ==== Proof.Values.Nibble.lean ====
/-
  Hand-written, untrusted. The scalar arithmetic of the quantiser over the extended reals: the code of one element, computed by the
  kernel from integer words and by the reference from steps and fractions, is the same four bits.
-/
module

public import proofs.«01_k».proof.Proof.Values.Level

@[expose] public section

noncomputable section

namespace Cert.Scalar

open Idealize.ShloMosaic

/-! ## The kernel's nibble -/

/-- The magnitude shifted into the words' range. -/
def gOf (y : EReal) : EReal :=
  min (FloatOps.absf (F := Ideal) (φ := .f32) y) (Ideal.ofBits .f32 910163968#32)
    + max (min (FloatOps.absf (F := Ideal) (φ := .f32) y) (Ideal.ofBits .f32 910163968#32)) (Ideal.ofBits .f32 889192448#32)
/-- The kernel's byte for one element, from the scaled element and its noise. -/
def nibS (y n : EReal) : BitVec 8 :=
  BitVec.setWidth 8
    (IntOp.ori
      (IntOp.shrui ArithUnit.vector
        (IntOp.addi
          (IntOp.addi
            (FloatOps.fptosi (F := Ideal) (φ := .f32) 32
              (Ideal.liftRound Int.ceil
                (gOf y * if Ideal.ofBits .f32 914358272#32 ≤ gOf y then Ideal.ofBits .f32 1409286144#32
                  else if Ideal.ofBits .f32 905969664#32 ≤ gOf y then Ideal.ofBits .f32 1417674752#32
                  else if Ideal.ofBits .f32 897581056#32 ≤ gOf y then Ideal.ofBits .f32 1426063360#32 else Ideal.ofBits .f32 1434451968#32)))
            (if Ideal.ofBits .f32 914358272#32 ≤ gOf y then 905969664#32
              else if Ideal.ofBits .f32 905969664#32 ≤ gOf y then 897581056#32
              else if Ideal.ofBits .f32 897581056#32 ≤ gOf y then 889192448#32 else 880803840#32))
          (IntOp.addi (FloatOps.fptosi (F := Ideal) (φ := .f32) 32 n) 1249902592#32))
        22#32)
      (if y < 0 then 8#32 else 0#32))

/-- The doubled magnitude by cases. -/
theorem gOf_eq (y : EReal) (a : ℝ) (e : min (max y (-y)) ((6 * (2 : ℝ) ^ (-21 : ℤ) : ℝ) : EReal) = (((2 : ℝ) ^ (-21 : ℤ) * a : ℝ) : EReal)) :
    gOf y = (((2 : ℝ) ^ (-21 : ℤ) * (a + max a 1) : ℝ) : EReal) := by
  unfold gOf
  rw [show FloatOps.absf (F := Ideal) (φ := .f32) y = max y (-y) from rfl, c_6G, c_G, e, coe_max, ← EReal.coe_add]
  congr 1
  rcases le_total a 1 with h | h
  · rw [max_eq_right h, max_eq_right (by norm_num; linarith)]; ring
  · rw [max_eq_left h, max_eq_left (by norm_num; linarith)]; ring

theorem toNat_add_of_lt (x y : BitVec 32) (h : x.toNat + y.toNat < 2 ^ 32) : (x + y).toNat = x.toNat + y.toNat := by
  rw [BitVec.toNat_add]; exact Nat.mod_eq_of_lt h
theorem toNat_ofNat_of_lt (n : ℕ) (h : n < 2 ^ 32) : (BitVec.ofNat 32 n).toNat = n := (BitVec.toNat_ofNat n 32).trans (Nat.mod_eq_of_lt h)
theorem shift_word' (x y z v : BitVec 32) (k : ℕ) (hk : 512 + k < 2 ^ 32) (h : (x.toNat + y.toNat + (z.toNat + v.toNat)) / 2 ^ 22 = 512 + k) (hb : x.toNat + y.toNat + (z.toNat + v.toNat) < 2 ^ 32) :
    IntOp.shrui ArithUnit.vector (IntOp.addi (IntOp.addi x y) (IntOp.addi z v)) 22#32 = BitVec.ofNat 32 (512 + k) := by
  unfold IntOp.shrui IntOp.addi
  have e : (22#32).toNat < 32 := by decide
  rw [if_pos e]
  apply BitVec.eq_of_toNat_eq
  have e6 : (x + y).toNat = x.toNat + y.toNat := toNat_add_of_lt _ _ (by omega)
  have e7 : (z + v).toNat = z.toNat + v.toNat := toNat_add_of_lt _ _ (by omega)
  have e8 : (x + y + (z + v)).toNat = (x + y).toNat + (z + v).toNat := toNat_add_of_lt _ _ (by rw [e6, e7]; exact hb)
  rw [BitVec.ushiftRight_eq', BitVec.toNat_ushiftRight, Nat.shiftRight_eq_div_pow, toNat_ofNat_of_lt _ hk, e8, e6, e7]
  exact h
theorem w_toNat : (1249902592#32).toNat = 1249902592 := by decide
/-- The shifted sum of the two words is the code's magnitude. -/
theorem shift_word (n q k : ℕ) (w : BitVec 32) (hk : k ≤ 7) (h : (n + w.toNat + (q + 1249902592)) / 4194304 = 512 + k) (hb : n + w.toNat + (q + 1249902592) < 4294967296) :
    IntOp.shrui ArithUnit.vector (IntOp.addi (IntOp.addi (BitVec.ofNat 32 n) w) (IntOp.addi (BitVec.ofNat 32 q) 1249902592#32)) 22#32 = BitVec.ofNat 32 (512 + k) := by
  have p32 : (2 : ℕ) ^ 32 = 4294967296 := by norm_num
  have p22 : (2 : ℕ) ^ 22 = 4194304 := by norm_num
  have e1 := toNat_ofNat_of_lt n (by rw [p32]; omega)
  have e2 := toNat_ofNat_of_lt q (by rw [p32]; omega)
  refine shift_word' _ _ _ _ k (by rw [p32]; omega) ?_ ?_
  · rw [e1, e2, w_toNat, p22]; exact h
  · rw [e1, e2, w_toNat, p32]; exact hb
/-- The low byte of a shifted sum is the code with its sign. -/
theorem low_byte : ∀ k : Fin 8, ∀ s : Bool, BitVec.setWidth 8 (IntOp.ori (BitVec.ofNat 32 (512 + k.val)) (if s = true then 8#32 else 0#32))
    = BitVec.ofNat 8 k.val ||| (if s = true then 8#8 else 0#8) := by decide

/-- The kernel's byte is the code, with the sign above it. -/
theorem nibS_eq (y : EReal) (a : ℝ) (r : ℕ) (h0 : 0 ≤ a) (h : a ≤ 6) (hr : r < 256)
    (e : min (max y (-y)) ((6 * (2 : ℝ) ^ (-21 : ℤ) : ℝ) : EReal) = (((2 : ℝ) ^ (-21 : ℤ) * a : ℝ) : EReal)) :
    nibS y ((12574719 - 16384 * (r : ℝ) : ℝ) : EReal) = BitVec.ofNat 8 (idx a r) ||| (if y < 0 then 8#8 else 0#8) := by
  have hm : ∀ (n : ℕ) (w : BitVec 32) (q : ℕ), n + w.toNat = 889192448 + ⌈(2 : ℝ) ^ 22 * lev a⌉₊ → n ≤ 2147483647 →
      BitVec.setWidth 8 (IntOp.ori (IntOp.shrui ArithUnit.vector (IntOp.addi (IntOp.addi (Ideal.fptosi 32 (((n : ℝ)) : EReal)) w)
        (IntOp.addi (Ideal.fptosi 32 ((12574719 - 16384 * (r : ℝ) : ℝ) : EReal)) 1249902592#32)) 22#32) (if y < 0 then 8#32 else 0#32))
      = BitVec.ofNat 8 (idx a r) ||| (if y < 0 then 8#8 else 0#8) := by
    intro n w q hn hn2
    have hw : w.toNat < 2 ^ 32 := w.isLt
    have hq := idx_le a r h0 h
    have core := word_core a r h0 h hr
    have cl : ⌈(2 : ℝ) ^ 22 * lev a⌉₊ ≤ 2 ^ 22 * 7 := by
      apply Nat.ceil_le.2; push_cast; have := lev_le a h; linarith
    rw [fptosi_nat n hn2, show (12574719 - 16384 * (r : ℝ) : ℝ) = (((12574719 - 16384 * r : ℕ)) : ℝ) by
      rw [Nat.cast_sub (by omega)]; push_cast; ring, fptosi_nat _ (by omega)]
    rw [shift_word n _ (idx a r) w hq (by rw [← core]; exact congrArg (· / 4194304) (by omega)) (by omega)]
    by_cases hy : y < 0
    · rw [if_pos hy, if_pos hy]; exact low_byte ⟨idx a r, by omega⟩ true
    · rw [if_neg hy, if_neg hy]; exact low_byte ⟨idx a r, by omega⟩ false
  have hg := gOf_eq y a e
  have hG : (0 : ℝ) < (2 : ℝ) ^ (-21 : ℤ) := by positivity
  have key : ∀ k : ℝ, ((k * (2 : ℝ) ^ (-21 : ℤ) : ℝ) : EReal) ≤ gOf y ↔ k ≤ a + max a 1 := by
    intro k
    rw [hg, EReal.coe_le_coe_iff, mul_comm k]
    exact mul_le_mul_iff_right₀ hG
  unfold nibS
  simp only [show ∀ z, FloatOps.fptosi (F := Ideal) (φ := .f32) 32 z = Ideal.fptosi 32 z from fun _ => rfl, c_8G, c_4G, c_2G, c_p41, c_p42, c_p43, c_p44, key]
  have hceil : ∀ (x : ℝ) (n : ℕ), 0 ≤ x → ⌈x⌉₊ = n → Ideal.liftRound Int.ceil ((x : ℝ) : EReal) = ((n : ℝ) : EReal) := by
    intro x n hx hn
    rw [Ideal.liftRound_coe, ← hn]
    congr 1
    have := Int.natCast_ceil_eq_ceil hx
    rw [← this]; push_cast; rfl
  have cl : ⌈(2 : ℝ) ^ 22 * lev a⌉₊ ≤ 2 ^ 22 * 7 := by
    apply Nat.ceil_le.2; push_cast; have := lev_le a h; linarith
  rcases lt_or_ge a 1 with c1 | c1
  · have hx : a + max a 1 = a + 1 := by rw [max_eq_right c1.le]
    rw [hx, if_neg (by linarith), if_neg (by linarith), if_neg (by linarith), if_neg (by linarith), if_neg (by linarith), if_neg (by linarith), hg, hx, ← EReal.coe_mul]
    have el : lev a = 2 * a := by unfold lev; rw [if_pos (by linarith)]
    rw [hceil _ (⌈(2 : ℝ) ^ 22 * lev a⌉₊ + 8388608) (by positivity) (by
      rw [el, ← Nat.ceil_add_natCast (by positivity)]; congr 1; norm_num; ring)]
    exact hm _ _ 0 (by simp; omega) (by omega)
  rcases lt_or_ge a 2 with c2 | c2
  · have hx : a + max a 1 = 2 * a := by rw [max_eq_left c1]; ring
    rw [hx, if_neg (by linarith), if_neg (by linarith), if_pos (by linarith), if_neg (by linarith), if_neg (by linarith), if_pos (by linarith), hg, hx, ← EReal.coe_mul]
    have el : lev a = 2 * a := by unfold lev; rw [if_pos (by linarith)]
    rw [hceil _ (⌈(2 : ℝ) ^ 22 * lev a⌉₊) (by positivity) (by
      rw [el]; congr 1; norm_num; ring)]
    exact hm _ _ 0 (by simp; omega) (by omega)
  rcases lt_or_ge a 4 with c3 | c3
  · have hx : a + max a 1 = 2 * a := by rw [max_eq_left c1]; ring
    rw [hx, if_neg (by linarith), if_pos (by linarith), if_neg (by linarith), if_pos (by linarith), hg, hx, ← EReal.coe_mul]
    have el : lev a = a + 2 := by unfold lev; rw [if_neg (by linarith), if_pos c3]
    have e2 : ⌈(2 : ℝ) ^ 22 * lev a⌉₊ = ⌈(2 : ℝ) ^ 22 * a⌉₊ + 8388608 := by
      rw [el, ← Nat.ceil_add_natCast (by positivity)]; congr 1; norm_num; ring
    rw [hceil _ (⌈(2 : ℝ) ^ 22 * a⌉₊) (by positivity) (by congr 1; norm_num; ring)]
    exact hm _ _ 0 (by rw [e2]; simp; omega) (by omega)
  · have hx : a + max a 1 = 2 * a := by rw [max_eq_left c1]; ring
    rw [hx, if_pos (by linarith), if_pos (by linarith), hg, hx, ← EReal.coe_mul]
    have el : lev a = a / 2 + 4 := by unfold lev; rw [if_neg (by linarith), if_neg (by linarith)]
    have e2 : ⌈(2 : ℝ) ^ 22 * lev a⌉₊ = ⌈(2 : ℝ) ^ 21 * a⌉₊ + 16777216 := by
      rw [el, ← Nat.ceil_add_natCast (by positivity)]; congr 1; norm_num; ring
    rw [hceil _ (⌈(2 : ℝ) ^ 21 * a⌉₊) (by positivity) (by congr 1; norm_num; ring)]
    exact hm _ _ 0 (by rw [e2]; simp; omega) (by omega)

end Cert.Scalar

end
-- ==== Proof.Values.Codes.lean ====
/-
  Hand-written, untrusted. One tile of the codes: from the transformed values, the reciprocals and the noise it holds, to the codes it stores.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.Mats
public import proofs.«01_k».proof.Proof.Values.Nibble
@[expose] public section
noncomputable section
namespace Cert.KernelIdeal.Hand
open Cert.KernelIdeal Cert.KernelIdeal.Gen
open Cert.Scalar Cert.Spec
open Idealize.ShloMosaic Idealize.ShloMosaic.TcCoe Idealize.ShloMosaic.Tactic
set_option maxRecDepth 16384
variable (m : (ℓ : Loc nD τ sig) → Buf (Elt Ideal) ℓ) (c : Dev nD) (k : Fin 56)
theorem ix2e {a b : ℕ} (f : (⟨2, ![a, b]⟩ : Shape).Idx) : f = ix2 (n0 := a) (n1 := b) (f 0) (f 1) := (ix2_eta f).symm
theorem lt0 (y : S640x512.Idx) : (y (0 : Fin 2)).val < 640 := (y (0 : Fin 2)).isLt
theorem lt1 (y : S640x512.Idx) : (y (1 : Fin 2)).val < 512 := (y (1 : Fin 2)).isLt
/-- A noise byte of chunk `k`: column `L` of the chunk, token `t`. -/
def nz (L : Fin 256) (t : Fin 1280) : BitVec 8 := iblk m c 1 (pt1 k) (ix2 L t)
/-- The reciprocal of a block's divisor, times the place unit of the rounding. -/
def inv (d : EReal) : EReal := if 0 < d then Ideal.div (Ideal.ofBits .f32 889192448#32) (if 0 < d then d else 1) else 0
/-- The kernel's scaled value is the reference's, scaled. -/
theorem yK_eq (w d : EReal) : yK w d = w * inv d := rfl
/-- The noise as the rounding adds it. -/
def nzf (L : Fin 256) (t : Fin 1280) : EReal := ((12574719 - 16384 * ((nz m c k L t).toNat : ℝ) : ℝ) : EReal)
/-- A place's nibble, in a byte of its own. -/
def nv (n : Fin 80) (i : Fin 16) (L : Fin 256) : BitVec 8 := nibS (yK (wK m c n i (cl k L)) (dv (wK m c) n (cl k L))) (nzf m c k L (row n i))
/-- The nibble buffer. -/
def nbuf (y : S640x512.Idx) : BitVec 8 :=
  nv m c k (⟨(y (0 : Fin 2)).val / 8, by have := lt0 y; omega⟩ : Fin 80) (⟨(y (0 : Fin 2)).val % 8 * 2 + (y (1 : Fin 2)).val / 128 % 2, by omega⟩ : Fin 16)
    (⟨(y (1 : Fin 2)).val % 128 + 128 * ((y (1 : Fin 2)).val / 256), by have := lt1 y; omega⟩ : Fin 256)
/-- What a nibble's byte is: a table index and a sign. -/
theorem nv_eq (n i L) : ∃ j : Fin 8, ∃ s : Bool, nv m c k n i L = BitVec.ofNat 8 j.val ||| (if s then 8#8 else 0#8)
    ∧ code (wK m c) (nz m c k L (row n i)).toNat n i (cl k L) = BitVec.ofNat 32 (j.val + if s ∧ 0 < j.val then 8 else 0) := by
  obtain ⟨a, h0, h6, e1, e2, e3⟩ := yK_yR (wK m c n i (cl k L)) (dv (wK m c) n (cl k L))
  have hb : (nz m c k L (row n i)).toNat < 256 := (nz m c k L (row n i)).isLt
  refine ⟨⟨idx a (nz m c k L (row n i)).toNat, Nat.lt_succ_of_le (idx_le _ _ h0 h6)⟩, decide (yR (wK m c n i (cl k L)) (dv (wK m c) n (cl k L)) < 0), ?_, ?_⟩
  · refine (nibS_eq _ a _ h0 h6 hb e2).trans ?_
    simp only [e3, decide_eq_true_eq]
  · unfold code
    refine (codeS_eq _ a _ h0 h6 e1).trans ?_
    simp only [decide_eq_true_eq]

/-! ## The three factors -/
/-- The rows of the second sweep's product; -/
theorem w_row (g : Fin 5) (x) (hx : Holds m c g k x) (W : FVec Ideal S256x256 .f32) (hW : ∀ a l, W (ix2 a l) = ∑ t : Fin 256, (L14 m c (ix2 a t) : EReal) * (x (ix3 (0 : Fin 1) t l) : EReal)) (a l : Fin 256) :
    W (ix2 a l) = wK m c (nb g ⟨(tokP a).val / 16, by omega⟩) (lo (tokP a)) (cl k l) := by
  rw [hW, ← sum_row m c g k x hx (tokP a) l]
  refine Finset.sum_congr rfl fun t _ => ?_
  rw [L14_at]
/-- the noise's; -/
theorem n_row (g : Fin 5) (u : Vec Ideal S256x256 .i8) (hu : ∀ l t, u (ix2 l t) = nz m c k l ⟨256 * g.val + t.val, by omega⟩) (N : FVec Ideal S256x256 .f32)
    (hN : ∀ a l, N (ix2 a l) = (∑ t : Fin 256, (L15 m c (ix2 a t) : EReal) * (FloatOps.uitofp (F := Ideal) .bf16 (u (ix2 l t)) : EReal)) + Ideal.ofBits .f32 1262477311#32) (a l : Fin 256) :
    N (ix2 a l) = nzf m c k l ⟨256 * g.val + (tokP a).val, by omega⟩ := by
  rw [hN]
  have e : ∀ t : Fin 256, (L15 m c (ix2 a t) : EReal) * (FloatOps.uitofp (F := Ideal) .bf16 (u (ix2 l t)) : EReal) = if tokP a = t then Ideal.ofBits .f32 3330277376#32 * (FloatOps.uitofp (F := Ideal) .bf16 (u (ix2 l t)) : EReal) else 0 := by
    intro t
    rw [L15_at]
    by_cases h : tokP a = t
    · rw [if_pos h, if_pos h]
    · rw [if_neg h, if_neg h, zero_mul]
  rw [Finset.sum_congr rfl fun t _ => e t, Finset.sum_ite_eq, if_pos (Finset.mem_univ _), hu, uu, c_m14, c_base]
  unfold nzf
  rw [← EReal.coe_mul, ← EReal.coe_add]
  congr 1
  ring
/-- the divisors'. -/
theorem i_row (b : Fin 80) (l : Fin 256) : k0_pay54 (F := Ideal) (L12 m c) (LA m c k) (ix2 b l) = inv (dv (wK m c) b (cl k l)) := by
  rw [m54, p53_at, L12_at]; rfl

/-! ## A piece of the nibble buffer -/
theorem tile (g : Fin 5) (h cc : ℕ) (hh : h < 2) (hc : cc < 2) (ra la : Fin 128 → Fin 256) (hra : ∀ p, (ra p).val = 128 * h + p.val) (hla : ∀ p, (la p).val = 128 * cc + p.val)
    (x) (hx : Holds m c g k x) (W : FVec Ideal S256x256 .f32) (hW : ∀ a l, W (ix2 a l) = ∑ t : Fin 256, (L14 m c (ix2 a t) : EReal) * (x (ix3 (0 : Fin 1) t l) : EReal))
    (u : Vec Ideal S256x256 .i8) (hu : ∀ l t, u (ix2 l t) = nz m c k l ⟨256 * g.val + t.val, by omega⟩) (N : FVec Ideal S256x256 .f32)
    (hN : ∀ a l, N (ix2 a l) = (∑ t : Fin 256, (L15 m c (ix2 a t) : EReal) * (FloatOps.uitofp (F := Ideal) .bf16 (u (ix2 l t)) : EReal)) + Ideal.ofBits .f32 1262477311#32)
    (I : Fin 128 → Fin 256 → EReal) (hI : ∀ p l, I p l = inv (dv (wK m c) (nb g ⟨p.val / 8, by omega⟩) (cl k l)))
    (w : S128x128.Idx → BitVec 8) (hw : ∀ p l, w (ix2 p l) = nibS ((W (ix2 (ra p) (la l)) : EReal) * I p (la l)) (N (ix2 (ra p) (la l)))) (y : S640x512.Idx) (off : Fin 2 → ℕ)
    (e0 : off 0 = 128 * g.val) (e1 : off 1 = 128 * h + 256 * cc) :
    View.TileAt (Val := Elt Ideal) (S := S640x512) (e := .i8) y off S128x128.size w (nbuf m c k y) := by
  intro z hz
  obtain ⟨p, l, rfl⟩ : ∃ p l : Fin 128, z = ix2 p l := ⟨z 0, z 1, ix2e z⟩
  have y0 : (y (0 : Fin 2)).val = 128 * g.val + p.val := (hz 0).trans (congrArg (· + p.val) e0)
  have y1 : (y (1 : Fin 2)).val = 128 * h + 256 * cc + l.val := (hz 1).trans (congrArg (· + l.val) e1)
  rw [hw, hI, w_row m c k g x hx W hW, n_row m c k g u hu N hN]
  have ht : (tokP (ra p)).val = 2 * p.val + h := by
    show (ra p).val % 128 * 2 + (ra p).val / 128 = _
    rw [hra]; omega
  have a1 : (⟨(tokP (ra p)).val / 16, by omega⟩ : Fin 16) = ⟨p.val / 8, by omega⟩ := Fin.ext (by show (tokP (ra p)).val / 16 = _; rw [ht]; show _ = p.val / 8; omega)
  have a2 : nb g ⟨p.val / 8, by omega⟩ = (⟨(y (0 : Fin 2)).val / 8, by have := g.isLt; omega⟩ : Fin 80) := Fin.ext (by show 16 * g.val + p.val / 8 = (y (0 : Fin 2)).val / 8; omega)
  have a3 : lo (tokP (ra p)) = (⟨(y (0 : Fin 2)).val % 8 * 2 + (y (1 : Fin 2)).val / 128 % 2, by omega⟩ : Fin 16) := Fin.ext (by show (tokP (ra p)).val % 16 = (y (0 : Fin 2)).val % 8 * 2 + (y (1 : Fin 2)).val / 128 % 2; rw [ht, y0, y1]; omega)
  have a4 : la l = (⟨(y (1 : Fin 2)).val % 128 + 128 * ((y (1 : Fin 2)).val / 256), by omega⟩ : Fin 256) := Fin.ext (by show (la l).val = (y (1 : Fin 2)).val % 128 + 128 * ((y (1 : Fin 2)).val / 256); rw [hla, y1]; omega)
  have a5 : (⟨256 * g.val + (tokP (ra p)).val, by omega⟩ : Fin 1280) = row (nb g ⟨p.val / 8, by omega⟩) (lo (tokP (ra p))) := Fin.ext (by
    show 256 * g.val + (tokP (ra p)).val = (16 * g.val + p.val / 8) * 16 + (tokP (ra p)).val % 16; rw [ht]; omega)
  rw [a1, a5, a2, a3, a4]
  rfl
end Cert.KernelIdeal.Hand
end
-- ==== Proof.Values.Nib.lean ====
/-
  Hand-written, untrusted. The stored code words of the twenty tiles as one function of a transformed value, a reciprocal and a noise word.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.Nibble
@[expose] public section
noncomputable section
namespace Cert.KernelIdeal.Hand
open Cert.KernelIdeal Cert.KernelIdeal.Gen
open Cert.Scalar
open Idealize.ShloMosaic Idealize.ShloMosaic.TcCoe Idealize.ShloMosaic.Tactic
set_option maxRecDepth 16384
/-- The tile of the first group, first half of its pairs, second half of the columns, as a function of its transformed values, reciprocals and noise; likewise the other nineteen (group, half of the pairs, half of the columns). -/
theorem nib001 (W N : FVec Ideal S256x256 .f32) (I : FVec Ideal S16x256 .f32) (p l : Fin 128) : (k0_pay64 (k0_pay59 W I) (k0_pay60 W N I) k0_pay61) (ix2 p l)
    = nibS (W (ix2 (⟨p.val, by omega⟩ : Fin 256) (⟨128 + l.val, by omega⟩ : Fin 256)) * I (ix2 (⟨p.val / 8, by omega⟩ : Fin 16) (⟨128 + l.val, by omega⟩ : Fin 256))) (N (ix2 (⟨p.val, by omega⟩ : Fin 256) (⟨128 + l.val, by omega⟩ : Fin 256))) := by
  unfold nibS gOf
  pointwise [k0_pay58, k0_pay59, k0_pay60, k0_pay61, k0_pay62, k0_pay64]

theorem nib000 (W N : FVec Ideal S256x256 .f32) (I : FVec Ideal S16x256 .f32) (p l : Fin 128) : (k0_pay63 (k0_pay59 W I) (k0_pay60 W N I) k0_pay61) (ix2 p l)
    = nibS (W (ix2 (⟨p.val, by omega⟩ : Fin 256) (⟨l.val, by omega⟩ : Fin 256)) * I (ix2 (⟨p.val / 8, by omega⟩ : Fin 16) (⟨l.val, by omega⟩ : Fin 256))) (N (ix2 (⟨p.val, by omega⟩ : Fin 256) (⟨l.val, by omega⟩ : Fin 256))) := by
  unfold nibS gOf
  pointwise [k0_pay58, k0_pay59, k0_pay60, k0_pay61, k0_pay62, k0_pay63]

theorem nib011 (W N : FVec Ideal S256x256 .f32) (I : FVec Ideal S16x256 .f32) (p l : Fin 128) : (k0_pay74 N (k0_pay65 W (k0_pay58 I)) (k0_pay66 W (k0_pay58 I)) (k0_pay69 W (k0_pay58 I)) (k0_pay70 W (k0_pay58 I)) (k0_pay71 W (k0_pay58 I))) (ix2 p l)
    = nibS (W (ix2 (⟨128 + p.val, by omega⟩ : Fin 256) (⟨128 + l.val, by omega⟩ : Fin 256)) * I (ix2 (⟨p.val / 8, by omega⟩ : Fin 16) (⟨128 + l.val, by omega⟩ : Fin 256))) (N (ix2 (⟨128 + p.val, by omega⟩ : Fin 256) (⟨128 + l.val, by omega⟩ : Fin 256))) := by
  unfold nibS gOf
  pointwise [k0_pay58, k0_pay65, k0_pay66, k0_pay67, k0_pay68, k0_pay69, k0_pay70, k0_pay71, k0_pay72, k0_pay74]

theorem nib010 (W N : FVec Ideal S256x256 .f32) (I : FVec Ideal S16x256 .f32) (p l : Fin 128) : (k0_pay73 N (k0_pay65 W (k0_pay58 I)) (k0_pay66 W (k0_pay58 I)) (k0_pay69 W (k0_pay58 I)) (k0_pay70 W (k0_pay58 I)) (k0_pay71 W (k0_pay58 I))) (ix2 p l)
    = nibS (W (ix2 (⟨128 + p.val, by omega⟩ : Fin 256) (⟨l.val, by omega⟩ : Fin 256)) * I (ix2 (⟨p.val / 8, by omega⟩ : Fin 16) (⟨l.val, by omega⟩ : Fin 256))) (N (ix2 (⟨128 + p.val, by omega⟩ : Fin 256) (⟨l.val, by omega⟩ : Fin 256))) := by
  unfold nibS gOf
  pointwise [k0_pay58, k0_pay65, k0_pay66, k0_pay67, k0_pay68, k0_pay69, k0_pay70, k0_pay71, k0_pay72, k0_pay73]

theorem nib101 (W z : FVec Ideal S256x256 .f32) (I : FVec Ideal S80x256 .f32) (p l : Fin 128) : (k0_pay83 (k0_pay79 I W) (k0_pay80 I W z) 22#32) (ix2 p l)
    = nibS (W (ix2 (⟨p.val, by omega⟩ : Fin 256) (⟨128 + l.val, by omega⟩ : Fin 256)) * I (ix2 (⟨16 + p.val / 8, by omega⟩ : Fin 80) (⟨128 + l.val, by omega⟩ : Fin 256))) (k0_pay77 z (ix2 (⟨p.val, by omega⟩ : Fin 256) (⟨128 + l.val, by omega⟩ : Fin 256))) := by
  unfold nibS gOf
  pointwise [k0_pay78, k0_pay79, k0_pay80, k0_pay81, k0_pay83]

theorem nib100 (W z : FVec Ideal S256x256 .f32) (I : FVec Ideal S80x256 .f32) (p l : Fin 128) : (k0_pay82 (k0_pay79 I W) (k0_pay80 I W z) 22#32) (ix2 p l)
    = nibS (W (ix2 (⟨p.val, by omega⟩ : Fin 256) (⟨l.val, by omega⟩ : Fin 256)) * I (ix2 (⟨16 + p.val / 8, by omega⟩ : Fin 80) (⟨l.val, by omega⟩ : Fin 256))) (k0_pay77 z (ix2 (⟨p.val, by omega⟩ : Fin 256) (⟨l.val, by omega⟩ : Fin 256))) := by
  unfold nibS gOf
  pointwise [k0_pay78, k0_pay79, k0_pay80, k0_pay81, k0_pay82]

theorem nib111 (W z : FVec Ideal S256x256 .f32) (I : FVec Ideal S80x256 .f32) (p l : Fin 128) : (k0_pay94 (k0_pay77 z) (k0_pay84 W (k0_pay78 I)) (k0_pay85 W (k0_pay78 I)) (k0_pay86 W (k0_pay78 I)) (k0_pay87 W (k0_pay78 I)) (k0_pay88 W (k0_pay78 I)) (k0_pay89 W (k0_pay78 I)) k0_pay90 k0_pay91) (ix2 p l)
    = nibS (W (ix2 (⟨128 + p.val, by omega⟩ : Fin 256) (⟨128 + l.val, by omega⟩ : Fin 256)) * I (ix2 (⟨16 + p.val / 8, by omega⟩ : Fin 80) (⟨128 + l.val, by omega⟩ : Fin 256))) (k0_pay77 z (ix2 (⟨128 + p.val, by omega⟩ : Fin 256) (⟨128 + l.val, by omega⟩ : Fin 256))) := by
  unfold nibS gOf
  pointwise [k0_pay78, k0_pay84, k0_pay85, k0_pay86, k0_pay87, k0_pay88, k0_pay89, k0_pay90, k0_pay91, k0_pay92, k0_pay94]

theorem nib110 (W z : FVec Ideal S256x256 .f32) (I : FVec Ideal S80x256 .f32) (p l : Fin 128) : (k0_pay93 (k0_pay77 z) (k0_pay84 W (k0_pay78 I)) (k0_pay85 W (k0_pay78 I)) (k0_pay86 W (k0_pay78 I)) (k0_pay87 W (k0_pay78 I)) (k0_pay88 W (k0_pay78 I)) (k0_pay89 W (k0_pay78 I)) k0_pay90 k0_pay91) (ix2 p l)
    = nibS (W (ix2 (⟨128 + p.val, by omega⟩ : Fin 256) (⟨l.val, by omega⟩ : Fin 256)) * I (ix2 (⟨16 + p.val / 8, by omega⟩ : Fin 80) (⟨l.val, by omega⟩ : Fin 256))) (k0_pay77 z (ix2 (⟨128 + p.val, by omega⟩ : Fin 256) (⟨l.val, by omega⟩ : Fin 256))) := by
  unfold nibS gOf
  pointwise [k0_pay78, k0_pay84, k0_pay85, k0_pay86, k0_pay87, k0_pay88, k0_pay89, k0_pay90, k0_pay91, k0_pay92, k0_pay93]

theorem nib201 (W : FVec Ideal S256x256 .f32) (y0 : FVec Ideal S256x256 .bf16) (z0 : Vec Ideal S256x256 .bf16) (I : FVec Ideal S80x256 .f32) (p l : Fin 128) : (k0_pay104 (k0_pay99 I W) (k0_pay100 I W) (k0_pay101 y0 z0) 1249902592#32) (ix2 p l)
    = nibS (W (ix2 (⟨p.val, by omega⟩ : Fin 256) (⟨128 + l.val, by omega⟩ : Fin 256)) * I (ix2 (⟨32 + p.val / 8, by omega⟩ : Fin 80) (⟨128 + l.val, by omega⟩ : Fin 256))) (k0_pay97 y0 z0 (ix2 (⟨p.val, by omega⟩ : Fin 256) (⟨128 + l.val, by omega⟩ : Fin 256))) := by
  unfold nibS gOf
  pointwise [k0_pay98, k0_pay99, k0_pay100, k0_pay101, k0_pay102, k0_pay104]

theorem nib200 (W : FVec Ideal S256x256 .f32) (y0 : FVec Ideal S256x256 .bf16) (z0 : Vec Ideal S256x256 .bf16) (I : FVec Ideal S80x256 .f32) (p l : Fin 128) : (k0_pay103 (k0_pay99 I W) (k0_pay100 I W) (k0_pay101 y0 z0) 1249902592#32) (ix2 p l)
    = nibS (W (ix2 (⟨p.val, by omega⟩ : Fin 256) (⟨l.val, by omega⟩ : Fin 256)) * I (ix2 (⟨32 + p.val / 8, by omega⟩ : Fin 80) (⟨l.val, by omega⟩ : Fin 256))) (k0_pay97 y0 z0 (ix2 (⟨p.val, by omega⟩ : Fin 256) (⟨l.val, by omega⟩ : Fin 256))) := by
  unfold nibS gOf
  pointwise [k0_pay98, k0_pay99, k0_pay100, k0_pay101, k0_pay102, k0_pay103]

theorem nib211 (W : FVec Ideal S256x256 .f32) (y0 : FVec Ideal S256x256 .bf16) (z0 : Vec Ideal S256x256 .bf16) (I : FVec Ideal S80x256 .f32) (p l : Fin 128) : (k0_pay113 (k0_pay97 y0 z0) (k0_pay105 W (k0_pay98 I)) (k0_pay106 W (k0_pay98 I)) (k0_pay107 W (k0_pay98 I)) (k0_pay108 W (k0_pay98 I)) (k0_pay109 W (k0_pay98 I)) (k0_pay110 W (k0_pay98 I))) (ix2 p l)
    = nibS (W (ix2 (⟨128 + p.val, by omega⟩ : Fin 256) (⟨128 + l.val, by omega⟩ : Fin 256)) * I (ix2 (⟨32 + p.val / 8, by omega⟩ : Fin 80) (⟨128 + l.val, by omega⟩ : Fin 256))) (k0_pay97 y0 z0 (ix2 (⟨128 + p.val, by omega⟩ : Fin 256) (⟨128 + l.val, by omega⟩ : Fin 256))) := by
  unfold nibS gOf
  pointwise [k0_pay98, k0_pay105, k0_pay106, k0_pay107, k0_pay108, k0_pay109, k0_pay110, k0_pay111, k0_pay113]

theorem nib210 (W : FVec Ideal S256x256 .f32) (y0 : FVec Ideal S256x256 .bf16) (z0 : Vec Ideal S256x256 .bf16) (I : FVec Ideal S80x256 .f32) (p l : Fin 128) : (k0_pay112 (k0_pay97 y0 z0) (k0_pay105 W (k0_pay98 I)) (k0_pay106 W (k0_pay98 I)) (k0_pay107 W (k0_pay98 I)) (k0_pay108 W (k0_pay98 I)) (k0_pay109 W (k0_pay98 I)) (k0_pay110 W (k0_pay98 I))) (ix2 p l)
    = nibS (W (ix2 (⟨128 + p.val, by omega⟩ : Fin 256) (⟨l.val, by omega⟩ : Fin 256)) * I (ix2 (⟨32 + p.val / 8, by omega⟩ : Fin 80) (⟨l.val, by omega⟩ : Fin 256))) (k0_pay97 y0 z0 (ix2 (⟨128 + p.val, by omega⟩ : Fin 256) (⟨l.val, by omega⟩ : Fin 256))) := by
  unfold nibS gOf
  pointwise [k0_pay98, k0_pay105, k0_pay106, k0_pay107, k0_pay108, k0_pay109, k0_pay110, k0_pay111, k0_pay112]

theorem nib301 (W N : FVec Ideal S256x256 .f32) (I : FVec Ideal S80x256 .f32) (p l : Fin 128) : (k0_pay126 N (k0_pay117 I W) (k0_pay122 I W) (k0_pay123 I W)) (ix2 p l)
    = nibS (W (ix2 (⟨p.val, by omega⟩ : Fin 256) (⟨128 + l.val, by omega⟩ : Fin 256)) * I (ix2 (⟨48 + p.val / 8, by omega⟩ : Fin 80) (⟨128 + l.val, by omega⟩ : Fin 256))) (N (ix2 (⟨p.val, by omega⟩ : Fin 256) (⟨128 + l.val, by omega⟩ : Fin 256))) := by
  unfold nibS gOf
  pointwise [k0_pay116, k0_pay117, k0_pay118, k0_pay119, k0_pay120, k0_pay121, k0_pay122, k0_pay123, k0_pay124, k0_pay126]

theorem nib300 (W N : FVec Ideal S256x256 .f32) (I : FVec Ideal S80x256 .f32) (p l : Fin 128) : (k0_pay125 N (k0_pay117 I W) (k0_pay122 I W) (k0_pay123 I W)) (ix2 p l)
    = nibS (W (ix2 (⟨p.val, by omega⟩ : Fin 256) (⟨l.val, by omega⟩ : Fin 256)) * I (ix2 (⟨48 + p.val / 8, by omega⟩ : Fin 80) (⟨l.val, by omega⟩ : Fin 256))) (N (ix2 (⟨p.val, by omega⟩ : Fin 256) (⟨l.val, by omega⟩ : Fin 256))) := by
  unfold nibS gOf
  pointwise [k0_pay116, k0_pay117, k0_pay118, k0_pay119, k0_pay120, k0_pay121, k0_pay122, k0_pay123, k0_pay124, k0_pay125]

theorem nib311 (W N : FVec Ideal S256x256 .f32) (I : FVec Ideal S80x256 .f32) (p l : Fin 128) : (k0_pay136 N (k0_pay127 W (k0_pay116 I)) (k0_pay128 W (k0_pay116 I)) (k0_pay129 W (k0_pay116 I)) (k0_pay130 W (k0_pay116 I)) (k0_pay131 W (k0_pay116 I)) (k0_pay132 W (k0_pay116 I)) k0_pay133) (ix2 p l)
    = nibS (W (ix2 (⟨128 + p.val, by omega⟩ : Fin 256) (⟨128 + l.val, by omega⟩ : Fin 256)) * I (ix2 (⟨48 + p.val / 8, by omega⟩ : Fin 80) (⟨128 + l.val, by omega⟩ : Fin 256))) (N (ix2 (⟨128 + p.val, by omega⟩ : Fin 256) (⟨128 + l.val, by omega⟩ : Fin 256))) := by
  unfold nibS gOf
  pointwise [k0_pay116, k0_pay127, k0_pay128, k0_pay129, k0_pay130, k0_pay131, k0_pay132, k0_pay133, k0_pay134, k0_pay136]

theorem nib310 (W N : FVec Ideal S256x256 .f32) (I : FVec Ideal S80x256 .f32) (p l : Fin 128) : (k0_pay135 N (k0_pay127 W (k0_pay116 I)) (k0_pay128 W (k0_pay116 I)) (k0_pay129 W (k0_pay116 I)) (k0_pay130 W (k0_pay116 I)) (k0_pay131 W (k0_pay116 I)) (k0_pay132 W (k0_pay116 I)) k0_pay133) (ix2 p l)
    = nibS (W (ix2 (⟨128 + p.val, by omega⟩ : Fin 256) (⟨l.val, by omega⟩ : Fin 256)) * I (ix2 (⟨48 + p.val / 8, by omega⟩ : Fin 80) (⟨l.val, by omega⟩ : Fin 256))) (N (ix2 (⟨128 + p.val, by omega⟩ : Fin 256) (⟨l.val, by omega⟩ : Fin 256))) := by
  unfold nibS gOf
  pointwise [k0_pay116, k0_pay127, k0_pay128, k0_pay129, k0_pay130, k0_pay131, k0_pay132, k0_pay133, k0_pay134, k0_pay135]

theorem nib401 (a0 : FVec Ideal S256x256 .bf16) (b0 : Vec Ideal S256x256 .bf16) (N : FVec Ideal S256x256 .f32) (I : FVec Ideal S80x256 .f32) (p l : Fin 128) : (k0_pay151 N (k0_pay141 I a0 b0) (k0_pay142 I a0 b0) (k0_pay145 I a0 b0) (k0_pay146 I a0 b0) (k0_pay147 I a0 b0) k0_pay148) (ix2 p l)
    = nibS (k0_pay138 a0 b0 (ix2 (⟨p.val, by omega⟩ : Fin 256) (⟨128 + l.val, by omega⟩ : Fin 256)) * I (ix2 (⟨64 + p.val / 8, by omega⟩ : Fin 80) (⟨128 + l.val, by omega⟩ : Fin 256))) (N (ix2 (⟨p.val, by omega⟩ : Fin 256) (⟨128 + l.val, by omega⟩ : Fin 256))) := by
  unfold nibS gOf
  pointwise [k0_pay140, k0_pay141, k0_pay142, k0_pay143, k0_pay144, k0_pay145, k0_pay146, k0_pay147, k0_pay148, k0_pay149, k0_pay151]

theorem nib400 (a0 : FVec Ideal S256x256 .bf16) (b0 : Vec Ideal S256x256 .bf16) (N : FVec Ideal S256x256 .f32) (I : FVec Ideal S80x256 .f32) (p l : Fin 128) : (k0_pay150 N (k0_pay141 I a0 b0) (k0_pay142 I a0 b0) (k0_pay145 I a0 b0) (k0_pay146 I a0 b0) (k0_pay147 I a0 b0) k0_pay148) (ix2 p l)
    = nibS (k0_pay138 a0 b0 (ix2 (⟨p.val, by omega⟩ : Fin 256) (⟨l.val, by omega⟩ : Fin 256)) * I (ix2 (⟨64 + p.val / 8, by omega⟩ : Fin 80) (⟨l.val, by omega⟩ : Fin 256))) (N (ix2 (⟨p.val, by omega⟩ : Fin 256) (⟨l.val, by omega⟩ : Fin 256))) := by
  unfold nibS gOf
  pointwise [k0_pay140, k0_pay141, k0_pay142, k0_pay143, k0_pay144, k0_pay145, k0_pay146, k0_pay147, k0_pay148, k0_pay149, k0_pay150]

theorem nib411 (a0 : FVec Ideal S256x256 .bf16) (b0 : Vec Ideal S256x256 .bf16) (N : FVec Ideal S256x256 .f32) (I : FVec Ideal S80x256 .f32) (p l : Fin 128) : (k0_pay160 N (k0_pay152 (k0_pay138 a0 b0) (k0_pay140 I)) (k0_pay153 (k0_pay138 a0 b0) (k0_pay140 I)) (k0_pay154 (k0_pay138 a0 b0) (k0_pay140 I)) (k0_pay155 (k0_pay138 a0 b0) (k0_pay140 I)) (k0_pay156 (k0_pay138 a0 b0) (k0_pay140 I)) (FloatOps.ofBits FTy.f32 1434451968#32) k0_pay157) (ix2 p l)
    = nibS (k0_pay138 a0 b0 (ix2 (⟨128 + p.val, by omega⟩ : Fin 256) (⟨128 + l.val, by omega⟩ : Fin 256)) * I (ix2 (⟨64 + p.val / 8, by omega⟩ : Fin 80) (⟨128 + l.val, by omega⟩ : Fin 256))) (N (ix2 (⟨128 + p.val, by omega⟩ : Fin 256) (⟨128 + l.val, by omega⟩ : Fin 256))) := by
  unfold nibS gOf
  pointwise [k0_pay140, k0_pay152, k0_pay153, k0_pay154, k0_pay155, k0_pay156, k0_pay157, k0_pay158, k0_pay160]

theorem nib410 (a0 : FVec Ideal S256x256 .bf16) (b0 : Vec Ideal S256x256 .bf16) (N : FVec Ideal S256x256 .f32) (I : FVec Ideal S80x256 .f32) (p l : Fin 128) : (k0_pay159 N (k0_pay152 (k0_pay138 a0 b0) (k0_pay140 I)) (k0_pay153 (k0_pay138 a0 b0) (k0_pay140 I)) (k0_pay154 (k0_pay138 a0 b0) (k0_pay140 I)) (k0_pay155 (k0_pay138 a0 b0) (k0_pay140 I)) (k0_pay156 (k0_pay138 a0 b0) (k0_pay140 I)) (FloatOps.ofBits FTy.f32 1434451968#32) k0_pay157) (ix2 p l)
    = nibS (k0_pay138 a0 b0 (ix2 (⟨128 + p.val, by omega⟩ : Fin 256) (⟨l.val, by omega⟩ : Fin 256)) * I (ix2 (⟨64 + p.val / 8, by omega⟩ : Fin 80) (⟨l.val, by omega⟩ : Fin 256))) (N (ix2 (⟨128 + p.val, by omega⟩ : Fin 256) (⟨l.val, by omega⟩ : Fin 256))) := by
  unfold nibS gOf
  pointwise [k0_pay140, k0_pay152, k0_pay153, k0_pay154, k0_pay155, k0_pay156, k0_pay157, k0_pay158, k0_pay159]
end Cert.KernelIdeal.Hand
end
-- ==== Proof.Values.Pack.lean ====
/-
  Hand-written, untrusted. Packing: the product with the matrix of 16 and 256, its word, and the clearing of negative zeros.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.Nibble
public import Idealize.ShloMosaic.Lib.BitcastFour
@[expose] public section
noncomputable section
namespace Cert.KernelIdeal.Hand
open Cert.KernelIdeal Cert.KernelIdeal.Gen
open Cert.Scalar
open Idealize.ShloMosaic Idealize.ShloMosaic.TcCoe Idealize.ShloMosaic.Tactic
set_option maxRecDepth 16384
/-- The packed bytes before the fix-up. -/
def rawB (v : Vec Ideal S640x256 .i8) (L : FVec Ideal S128x256 .fp8e4m3) : IVec S128x640 8 :=
  trunci 8 (addi (fptosi 32 (mulf (subf (addf (matmul (φ₁ := .fp8e4m3) (φ₂ := .fp8e4m3) dot_S128x256_S640x256_S128x640_1_1_0_0_n_n none L (k0_pay161 (F := Ideal) v) (constant S128x640 .f32 0x00000000#32)) (broadcast S128x640 (Scalar.ofBits .f32 0x48C00000#32))) (broadcast S128x640 (Scalar.ofBits .f32 0x48C00000#32))) (broadcast S128x640 (Scalar.ofBits .f32 0x42000000#32)))) (broadcast S128x640 1220542464#32)) natLt_8_32
/-- The fix-up, on words of four bytes. -/
def fixB (x : IVec S128x640 8) : IVec S128x640 8 :=
  bitcast S128x640 8 (andi (bitcast S32x640 32 x bitcasts_S128x640_w8_S32x640_w32) (ori (addi (andi (bitcast S32x640 32 x bitcasts_S128x640_w8_S32x640_w32) (broadcast S32x640 2004318071#32)) (broadcast S32x640 2004318071#32)) (broadcast S32x640 2004318071#32))) bitcasts_S32x640_w32_S128x640_w8
theorem p162 (v : Vec Ideal S640x256 .i8) (L) : k0_pay162 (F := Ideal) (k0_pay161 v) L = fixB (rawB v L) := by
  unfold k0_pay162 fixB rawB; dsimp only
theorem p6 (v : Vec Ideal S640x256 .i8) (L) : k0_pay6 (k0_pay163 (F := Ideal) v L) 2004318071#32 = fixB (rawB v L) := by
  unfold k0_pay6 k0_pay163 fixB rawB k0_pay161; dsimp only
/-- The raw byte of a pair of codes. -/
theorem rawB_eq (v : Vec Ideal S640x256 .i8) (L : FVec Ideal S128x256 .fp8e4m3) (r : Fin 128) (T : Fin 640) : rawB v L (ix2 r T)
    = BitVec.setWidth 8 (IntOp.addi (FloatOps.fptosi (F := Ideal) (φ := .f32) 32
      ((∑ x : Fin 256, (L (ix2 r x) : EReal) * (Ideal.ofBits FTy.fp8e4m3 (v (ix2 T x)) : EReal) + Ideal.ofBits FTy.f32 1220542464#32 - Ideal.ofBits FTy.f32 1220542464#32) * Ideal.ofBits FTy.f32 1107296256#32)) 1220542464#32) := by
  pointwise [rawB, k0_pay161]
/-- The float of a nibble's byte. -/
theorem nib_float : ∀ k : Fin 16, (Ideal.ofBits FTy.fp8e4m3 (BitVec.ofNat 8 k.val) : EReal) = (((k.val : ℝ) * (2 : ℝ) ^ (-9 : ℤ) : ℝ) : EReal) := by
  intro k
  fin_cases k <;> simp [Ideal.ofBits, Ideal.e4m3fn, -EReal.coe_mul] <;> norm_num
/-- A product with a row of two entries is two terms. -/
theorem sum_two (L : Fin 256 → EReal) (f : Fin 256 → EReal) (r : Fin 128) (A B : EReal) (hL : ∀ t : Fin 256, L t = if r.val = t.val then A else if r.val + 128 = t.val then B else 0) :
    ∑ t, L t * f t = A * f ⟨r.val, by omega⟩ + B * f ⟨128 + r.val, by omega⟩ := by
  have e : ∀ t : Fin 256, L t * f t = (if t = (⟨r.val, by omega⟩ : Fin 256) then A * f t else 0) + (if t = (⟨128 + r.val, by omega⟩ : Fin 256) then B * f t else 0) := by
    intro t
    rw [hL]
    by_cases h1 : r.val = t.val
    · rw [if_pos h1, if_pos (Fin.ext h1.symm), if_neg (fun h => by have := congrArg Fin.val h; simp only at this; omega), add_zero]
    · rw [if_neg h1, if_neg (fun h => h1 (congrArg Fin.val h).symm), zero_add]
      by_cases h2 : r.val + 128 = t.val
      · rw [if_pos h2, if_pos (Fin.ext (by show t.val = 128 + r.val; omega))]
      · rw [if_neg h2, if_neg (fun h => h2 (by have := congrArg Fin.val h; simp only at this; omega)), zero_mul]
  rw [Finset.sum_congr rfl fun t _ => e t, Finset.sum_add_distrib, Finset.sum_ite_eq' , Finset.sum_ite_eq']
  simp only [Finset.mem_univ, if_true]
theorem c_16 : Ideal.ofBits .f32 1098907648#32 = ((16 : ℝ) : EReal) := by
  simp [Ideal.ofBits, Ideal.ieee, -EReal.coe_mul]; try norm_num
theorem c_32 : Ideal.ofBits .f32 1107296256#32 = ((32 : ℝ) : EReal) := by
  simp [Ideal.ofBits, Ideal.ieee, -EReal.coe_mul]; try norm_num
/-- Two nibbles packed. -/
theorem rawB_at (v : Vec Ideal S640x256 .i8) (L : FVec Ideal S128x256 .fp8e4m3) (r : Fin 128) (T : Fin 640) (k0 k1 : BitVec 8) (h0 : k0.toNat < 16) (h1 : k1.toNat < 16)
    (hL : ∀ t : Fin 256, (L (ix2 r t) : EReal) = if r.val = t.val then Ideal.ofBits FTy.f32 1098907648#32 else if r.val + 128 = t.val then Ideal.ofBits FTy.f32 1132462080#32 else 0)
    (e0 : v (ix2 T (⟨r.val, by omega⟩ : Fin 256)) = k0) (e1 : v (ix2 T (⟨128 + r.val, by omega⟩ : Fin 256)) = k1) :
    rawB v L (ix2 r T) = BitVec.ofNat 8 (k0.toNat + 16 * k1.toNat) := by
  rw [rawB_eq, sum_two (fun t => L (ix2 r t)) (fun t => Ideal.ofBits FTy.fp8e4m3 (v (ix2 T t))) r _ _ hL]
  simp only [e0, e1]
  have f0 : (Ideal.ofBits FTy.fp8e4m3 k0 : EReal) = (((k0.toNat : ℝ) * (2 : ℝ) ^ (-9 : ℤ) : ℝ) : EReal) := by
    refine Eq.trans ?_ (nib_float ⟨k0.toNat, h0⟩); congr 1; exact BitVec.eq_of_toNat_eq (by rw [BitVec.toNat_ofNat]; exact (Nat.mod_eq_of_lt k0.isLt).symm)
  have f1 : (Ideal.ofBits FTy.fp8e4m3 k1 : EReal) = (((k1.toNat : ℝ) * (2 : ℝ) ^ (-9 : ℤ) : ℝ) : EReal) := by
    refine Eq.trans ?_ (nib_float ⟨k1.toNat, h1⟩); congr 1; exact BitVec.eq_of_toNat_eq (by rw [BitVec.toNat_ofNat]; exact (Nat.mod_eq_of_lt k1.isLt).symm)
  rw [f0, f1, c_sum, c_16, c_256, c_32, ← EReal.coe_mul, ← EReal.coe_mul, ← EReal.coe_add, ← EReal.coe_add, ← EReal.coe_sub, ← EReal.coe_mul]
  have e : ((16 * ((k0.toNat : ℝ) * (2 : ℝ) ^ (-9 : ℤ)) + 256 * ((k1.toNat : ℝ) * (2 : ℝ) ^ (-9 : ℤ)) + 393216 - 393216) * 32 : ℝ) = ((k0.toNat + 16 * k1.toNat : ℕ) : ℝ) := by
    push_cast; norm_num; ring
  rw [e]
  show BitVec.setWidth 8 (IntOp.addi (Ideal.fptosi 32 (((k0.toNat + 16 * k1.toNat : ℕ) : ℝ) : EReal)) 1220542464#32) = _
  rw [fptosi_nat _ (by omega)]
  generalize k0.toNat + 16 * k1.toNat = n
  apply BitVec.eq_of_toNat_eq
  show (BitVec.setWidth 8 (BitVec.ofNat 32 n + 1220542464#32)).toNat = _
  rw [BitVec.toNat_setWidth, BitVec.toNat_add, BitVec.toNat_ofNat, BitVec.toNat_ofNat, BitVec.toNat_ofNat]
  omega

/-- One byte's fix-up: a nibble whose low three bits vanish is cleared. -/
def fix8 (b : BitVec 8) : BitVec 8 := b &&& (((b &&& 0x77#8) + 0x77#8) ||| 0x77#8)
/-- The cleared byte of two codes. -/
theorem fix8_pair : ∀ i0 i1 : Fin 8, ∀ s0 s1 : Bool,
    fix8 (BitVec.ofNat 8 ((BitVec.ofNat 8 i0.val ||| (if s0 then 8#8 else 0#8)).toNat + 16 * (BitVec.ofNat 8 i1.val ||| (if s1 then 8#8 else 0#8)).toNat))
      = (BitVec.ofNat 32 (i0.val + if s0 ∧ 0 < i0.val then 8 else 0) ||| BitVec.ofNat 32 (i1.val + if s1 ∧ 0 < i1.val then 8 else 0) <<< 4).setWidth 8 := by
  decide +kernel

theorem add_append {a b : ℕ} (x x' : BitVec a) (y y' : BitVec b) (h : y.toNat + y'.toNat < 2 ^ b) : (x ++ y) + (x' ++ y') = (x + x') ++ (y + y') := by
  apply BitVec.eq_of_toNat_eq
  have e : ∀ (x : BitVec a) (y : BitVec b), (x ++ y).toNat = x.toNat * 2 ^ b + y.toNat := by
    intro x y
    rw [BitVec.toNat_append, ← Nat.shiftLeft_add_eq_or_of_lt y.isLt, Nat.shiftLeft_eq]
  rw [BitVec.toNat_add, e, e, e, BitVec.toNat_add, BitVec.toNat_add, Nat.mod_eq_of_lt h, Nat.pow_add]
  have h2 : x.toNat * 2 ^ b + y.toNat + (x'.toNat * 2 ^ b + y'.toNat) = (x.toNat + x'.toNat) * 2 ^ b + (y.toNat + y'.toNat) := by ring
  rw [h2, Nat.mul_comm (2 ^ a) (2 ^ b), Nat.mod_mul, Nat.add_mod, Nat.mul_mod_left, Nat.zero_add, Nat.mod_mod, Nat.mod_eq_of_lt h]
  have h3 : ((x.toNat + x'.toNat) * 2 ^ b + (y.toNat + y'.toNat)) / 2 ^ b = x.toNat + x'.toNat := by
    rw [Nat.add_comm, Nat.add_mul_div_right _ _ (Nat.two_pow_pos b), Nat.div_eq_of_lt h, Nat.zero_add]
  rw [h3]; ring
/-- Clearing negative zeros, byte by byte. -/
theorem and77 : ∀ b : BitVec 8, (b &&& 0x77#8).toNat + (0x77#8 : BitVec 8).toNat < 2 ^ 8 := by decide +kernel
/-- The word's fix-up is its bytes'. -/
theorem fix_word (b0 b1 b2 b3 : BitVec 8) :
    IntOp.andi (((b3 ++ b2) ++ b1) ++ b0 : BitVec 32) (IntOp.ori (IntOp.addi (IntOp.andi (((b3 ++ b2) ++ b1) ++ b0 : BitVec 32) 2004318071#32) 2004318071#32) 2004318071#32)
      = (((fix8 b3 ++ fix8 b2) ++ fix8 b1) ++ fix8 b0 : BitVec 32) := by
  have k : (2004318071#32 : BitVec 32) = ((((0x77#8 : BitVec 8) ++ (0x77#8 : BitVec 8)) ++ (0x77#8 : BitVec 8)) ++ (0x77#8 : BitVec 8) : BitVec 32) := by decide
  show (((b3 ++ b2) ++ b1) ++ b0 : BitVec 32) &&& (((((b3 ++ b2) ++ b1) ++ b0 : BitVec 32) &&& 2004318071#32) + 2004318071#32 ||| 2004318071#32) = _
  rw [k, BitVec.and_append, BitVec.and_append, BitVec.and_append, add_append _ _ _ _ (and77 b0), add_append _ _ _ _ (and77 b1), add_append _ _ _ _ (and77 b2)]
  rw [BitVec.or_append, BitVec.or_append, BitVec.or_append, BitVec.and_append, BitVec.and_append, BitVec.and_append]
  rfl
/-- A word's bytes, read back. -/
theorem bitcast_32_8 {R r n : ℕ} (x : (⟨2, ![r, n]⟩ : Shape).Idx → BitVec 32) (h : (⟨2, ![r, n]⟩ : Shape).Bitcasts 32 ⟨2, ![R, n]⟩ 8) (a : Fin R) (l : Fin n) (q : ℕ) (hq : q < 8) (p : Fin r)
    (hp : p.val = a.val / 4) : (bitcast ⟨2, ![R, n]⟩ 8 x h (ix2 a l)).getLsbD q = (x (ix2 p l)).getLsbD (8 * (a.val % 4) + q) := by
  rw [bitcast_getLsbD x h _ q hq (by decide)]
  have er : (⟨2, ![R, n]⟩ : Shape).row (ix2 a l) = a.val := rfl
  have e1 : ((⟨2, ![R, n]⟩ : Shape).row (ix2 a l) * 8 + q) / 32 = a.val / 4 := by rw [er]; omega
  have e2 : ((⟨2, ![R, n]⟩ : Shape).row (ix2 a l) * 8 + q) % 32 = 8 * (a.val % 4) + q := by rw [er]; omega
  rw [e2]
  congr 2
  funext c
  match c with
  | ⟨0, _⟩ => exact Fin.ext ((h.srcIdx_row _ _ _ ⟨0, Nat.zero_lt_two⟩ rfl).trans (e1.trans hp.symm))
  | ⟨1, _⟩ => exact Fin.ext (h.srcIdx_other _ _ _ ⟨1, Nat.one_lt_two⟩ (by show ¬ 1 + 2 = 2; omega))
/-- The cleared byte, place by place. -/
theorem fixB_at (x : IVec S128x640 8) (r : Fin 128) (T : Fin 640) : fixB x (ix2 r T) = fix8 (x (ix2 r T)) := by
  have hv : bitcast S32x640 32 x bitcasts_S128x640_w8_S32x640_w32 (ix2 (⟨r.val / 4, by omega⟩ : Fin 32) T)
      = (((x (ix2 (⟨4 * (r.val / 4) + 3, by omega⟩ : Fin 128) T) ++ x (ix2 (⟨4 * (r.val / 4) + 2, by omega⟩ : Fin 128) T)) ++ x (ix2 (⟨4 * (r.val / 4) + 1, by omega⟩ : Fin 128) T)) ++ x (ix2 (⟨4 * (r.val / 4) + 0, by omega⟩ : Fin 128) T) : BitVec 32) := by
    apply BitVec.eq_of_getLsbD_eq
    intro q hq
    refine (bitcast_8_32_getLsbD_ix2 x _ (⟨r.val / 4, by omega⟩ : Fin 32) T q hq (⟨4 * (r.val / 4) + q / 8, by omega⟩ : Fin 128) rfl).trans ?_
    rw [BitVec.getLsbD_append, BitVec.getLsbD_append, BitVec.getLsbD_append]
    have hc : q / 8 = 0 ∨ q / 8 = 1 ∨ q / 8 = 2 ∨ q / 8 = 3 := by omega
    rcases hc with h | h | h | h
    · rw [if_pos (by omega : q < 8)]; simp only [h]; congr 1; omega
    · rw [if_neg (by omega : ¬ q < 8), if_pos (by omega : q - 8 < 8)]; simp only [h]; congr 1; omega
    · rw [if_neg (by omega : ¬ q < 8), if_neg (by omega : ¬ q - 8 < 8), if_pos (by omega : q - 8 - 8 < 8)]; simp only [h]; congr 1; omega
    · rw [if_neg (by omega : ¬ q < 8), if_neg (by omega : ¬ q - 8 < 8), if_neg (by omega : ¬ q - 8 - 8 < 8)]; simp only [h]; congr 1; omega
  apply BitVec.eq_of_getLsbD_eq
  intro q hq
  unfold fixB
  refine (bitcast_32_8 _ _ r T q hq (⟨r.val / 4, by omega⟩ : Fin 32) rfl).trans ?_
  show (IntOp.andi (bitcast S32x640 32 x bitcasts_S128x640_w8_S32x640_w32 (ix2 (⟨r.val / 4, by omega⟩ : Fin 32) T)) (IntOp.ori (IntOp.addi (IntOp.andi (bitcast S32x640 32 x bitcasts_S128x640_w8_S32x640_w32 (ix2 (⟨r.val / 4, by omega⟩ : Fin 32) T)) 2004318071#32) 2004318071#32) 2004318071#32)).getLsbD _ = _
  rw [hv, fix_word, BitVec.getLsbD_append, BitVec.getLsbD_append, BitVec.getLsbD_append]
  have hx : ∀ (k : Fin 128), k = r → ∀ i, i = q → (fix8 (x (ix2 k T))).getLsbD i = (fix8 (x (ix2 r T))).getLsbD q := by
    rintro k rfl i rfl; rfl
  have hc : r.val % 4 = 0 ∨ r.val % 4 = 1 ∨ r.val % 4 = 2 ∨ r.val % 4 = 3 := by omega
  rcases hc with h | h | h | h
  · rw [if_pos (by omega)]; exact hx _ (Fin.ext (by show 4 * (r.val / 4) + 0 = r.val; omega)) _ (by omega)
  · rw [if_neg (by omega), if_pos (by omega)]; exact hx _ (Fin.ext (by show 4 * (r.val / 4) + 1 = r.val; omega)) _ (by omega)
  · rw [if_neg (by omega), if_neg (by omega), if_pos (by omega)]; exact hx _ (Fin.ext (by show 4 * (r.val / 4) + 2 = r.val; omega)) _ (by omega)
  · rw [if_neg (by omega), if_neg (by omega), if_neg (by omega)]; exact hx _ (Fin.ext (by show 4 * (r.val / 4) + 3 = r.val; omega)) _ (by omega)
end Cert.KernelIdeal.Hand
end
-- ==== Proof.Values.Buffer.lean ====
/-
  Hand-written, untrusted. The buffer of the codes after the second sweep's step: each of its twenty stored tiles holds the reference's codes.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.Codes
public import proofs.«01_k».proof.Proof.Values.Nib
public import proofs.«01_k».proof.Proof.Values.Pack
@[expose] public section
noncomputable section
namespace Cert.KernelIdeal.Hand
open Cert.KernelIdeal Cert.KernelIdeal.Gen
open Cert.Scalar Cert.Spec
open Idealize.ShloMosaic Idealize.ShloMosaic.TcCoe Idealize.ShloMosaic.Tactic
set_option maxRecDepth 16384
variable (m : (ℓ : Loc nD τ sig) → Buf (Elt Ideal) ℓ) (c : Dev nD) (k : Fin 56)
/-- The noise window's buffer. -/
abbrev NZ := (hs1 (pt1 k)).unread (iblk m c 1 (pt1 k))
/-- A load of it. -/
theorem rd_nz (g : Fin 5) (off : Fin 2 → ℕ) (e : off = ![0, 256 * g.val]) (hh) (l t : Fin 256) :
    View.readAt (Elt Ideal) (ms1 (pt1 k)).view (Rect.unit (s := S256x1280) off S256x256.size hh).toLoadRect (NZ m c k) (ix2 l t) = nz m c k l ⟨256 * g.val + t.val, by omega⟩ := by
  subst e
  refine ((hs1 (pt1 k)).readAt_unread _ _ _).trans ?_
  unfold nz
  refine congrArg (iblk m c 1 (pt1 k)) ?_
  funext a; apply Fin.ext
  fin_cases a
  · show 0 + 1 * l.val = l.val; omega
  · show 256 * g.val + 1 * t.val = 256 * g.val + t.val; omega
/-- The slab read for the first group holds the group's rows of the chunk; likewise the other four. -/
theorem hv40 : Holds m c 0 k (blk4Run.sl.v40 c (XA m c) (co (pt1 k)) (h4_k k)) := holds_of m c k _ (ij1 k) 0 _ (k0_off18_eq _) _
theorem hv165 : Holds m c 1 k (blk4Run.sl.v165 c (XA m c) (co (pt1 k)) (h4_k k)) := holds_of m c k _ (ij1 k) 1 _ (k0_off19_eq _) _
theorem hv290 : Holds m c 2 k (blk4Run.sl.v290 c (XA m c) (co (pt1 k)) (h4_k k)) := holds_of m c k _ (ij1 k) 2 _ (k0_off20_eq _) _
theorem hv415 : Holds m c 3 k (blk4Run.sl.v415 c (XA m c) (co (pt1 k)) (h4_k k)) := holds_of m c k _ (ij1 k) 3 _ (k0_off21_eq _) _
theorem hv540 : Holds m c 4 k (blk4Run.sl.v540 c (XA m c) (co (pt1 k)) (h4_k k)) := holds_of m c k _ (ij1 k) 4 _ (k0_off22_eq _) _
/-- After 2 stores every place written holds the reference's code. -/
theorem h17_2 (y : S640x512.Idx) : View.AllAt (Val := Elt Ideal) (blk4Run.sl.H17_2 c (XA m c) (co (pt1 k)) (ms1 (pt1 k)) (h4_k k) (NZ m c k) (amBuf m c) (M12 m c) (M14 m c) (M15 m c)) y (nbuf m c k y) :=
  View.allAt_cons_unit _ _ _ _ _ (tile m c k 0 0 1 (by omega) (by omega) (fun p => ⟨p.val, by omega⟩) (fun p => ⟨128 + p.val, by omega⟩) (fun p => (Nat.zero_add _).symm) (fun p => rfl) _ (hv40 m c k) (blk4Run.sl.r_1 c (XA m c) (co (pt1 k)) (h4_k k) (M14 m c)) (fun a l => m55 _ _ a l) _ (rd_nz m c k 0 _ rfl _) (blk4Run.sl.r_2 c (ms1 (pt1 k)) (NZ m c k) (M15 m c)) (fun a l => m56 _ _ a l)
      (fun p l => k0_pay57 (F := Ideal) (L12 m c) (LA m c k) (ix2 (⟨p.val / 8, by omega⟩ : Fin 16) l)) (fun p l => (m57 l _ _ _).trans ((i_row m c k _ l).trans (congrArg (fun n => inv (dv (wK m c) n (cl k l))) (Fin.ext (Nat.zero_add _).symm)))) _ (fun p l => nib001 _ _ _ p l) y _ rfl rfl)
    (View.allAt_cons_unit _ _ _ _ _ (tile m c k 0 0 0 (by omega) (by omega) (fun p => ⟨p.val, by omega⟩) (fun p => ⟨p.val, by omega⟩) (fun p => (Nat.zero_add _).symm) (fun p => (Nat.zero_add _).symm) _ (hv40 m c k) (blk4Run.sl.r_1 c (XA m c) (co (pt1 k)) (h4_k k) (M14 m c)) (fun a l => m55 _ _ a l) _ (rd_nz m c k 0 _ rfl _) (blk4Run.sl.r_2 c (ms1 (pt1 k)) (NZ m c k) (M15 m c)) (fun a l => m56 _ _ a l)
      (fun p l => k0_pay57 (F := Ideal) (L12 m c) (LA m c k) (ix2 (⟨p.val / 8, by omega⟩ : Fin 16) l)) (fun p l => (m57 l _ _ _).trans ((i_row m c k _ l).trans (congrArg (fun n => inv (dv (wK m c) n (cl k l))) (Fin.ext (Nat.zero_add _).symm)))) _ (fun p l => nib000 _ _ _ p l) y _ rfl rfl) (View.allAt_nil _ _))
/-- After 4 stores every place written holds the reference's code. -/
theorem h17_4 (y : S640x512.Idx) : View.AllAt (Val := Elt Ideal) (blk4Run.sl.H17_4 c (XA m c) (co (pt1 k)) (ms1 (pt1 k)) (h4_k k) (NZ m c k) (amBuf m c) (M12 m c) (M14 m c) (M15 m c)) y (nbuf m c k y) :=
  View.allAt_cons_unit _ _ _ _ _ (tile m c k 0 1 1 (by omega) (by omega) (fun p => ⟨128 + p.val, by omega⟩) (fun p => ⟨128 + p.val, by omega⟩) (fun p => rfl) (fun p => rfl) _ (hv40 m c k) (blk4Run.sl.r_1 c (XA m c) (co (pt1 k)) (h4_k k) (M14 m c)) (fun a l => m55 _ _ a l) _ (rd_nz m c k 0 _ rfl _) (blk4Run.sl.r_2 c (ms1 (pt1 k)) (NZ m c k) (M15 m c)) (fun a l => m56 _ _ a l)
      (fun p l => k0_pay57 (F := Ideal) (L12 m c) (LA m c k) (ix2 (⟨p.val / 8, by omega⟩ : Fin 16) l)) (fun p l => (m57 l _ _ _).trans ((i_row m c k _ l).trans (congrArg (fun n => inv (dv (wK m c) n (cl k l))) (Fin.ext (Nat.zero_add _).symm)))) _ (fun p l => nib011 _ _ _ p l) y _ rfl rfl)
    (View.allAt_cons_unit _ _ _ _ _ (tile m c k 0 1 0 (by omega) (by omega) (fun p => ⟨128 + p.val, by omega⟩) (fun p => ⟨p.val, by omega⟩) (fun p => rfl) (fun p => (Nat.zero_add _).symm) _ (hv40 m c k) (blk4Run.sl.r_1 c (XA m c) (co (pt1 k)) (h4_k k) (M14 m c)) (fun a l => m55 _ _ a l) _ (rd_nz m c k 0 _ rfl _) (blk4Run.sl.r_2 c (ms1 (pt1 k)) (NZ m c k) (M15 m c)) (fun a l => m56 _ _ a l)
      (fun p l => k0_pay57 (F := Ideal) (L12 m c) (LA m c k) (ix2 (⟨p.val / 8, by omega⟩ : Fin 16) l)) (fun p l => (m57 l _ _ _).trans ((i_row m c k _ l).trans (congrArg (fun n => inv (dv (wK m c) n (cl k l))) (Fin.ext (Nat.zero_add _).symm)))) _ (fun p l => nib010 _ _ _ p l) y _ rfl rfl) (h17_2 m c k y))
/-- After 6 stores every place written holds the reference's code. -/
theorem h17_6 (y : S640x512.Idx) : View.AllAt (Val := Elt Ideal) (blk4Run.sl.H17_6 c (XA m c) (co (pt1 k)) (ms1 (pt1 k)) (h4_k k) (NZ m c k) (amBuf m c) (M12 m c) (M14 m c) (M15 m c)) y (nbuf m c k y) :=
  View.allAt_cons_unit _ _ _ _ _ (tile m c k 1 0 1 (by omega) (by omega) (fun p => ⟨p.val, by omega⟩) (fun p => ⟨128 + p.val, by omega⟩) (fun p => (Nat.zero_add _).symm) (fun p => rfl) _ (hv165 m c k) (blk4Run.sl.r_12 c (XA m c) (co (pt1 k)) (h4_k k) (M14 m c)) (fun a l => m75 _ _ a l) _ (rd_nz m c k 1 _ rfl _) (blk4Run.sl.r_14 c (ms1 (pt1 k)) (NZ m c k) (M15 m c)) (fun a l => m77 _ _ a l)
      (fun p l => k0_pay54 (F := Ideal) (L12 m c) (LA m c k) (ix2 (⟨16 + p.val / 8, by omega⟩ : Fin 80) l)) (fun p l => i_row m c k _ l) _ (fun p l => nib101 _ _ _ p l) y _ rfl rfl)
    (View.allAt_cons_unit _ _ _ _ _ (tile m c k 1 0 0 (by omega) (by omega) (fun p => ⟨p.val, by omega⟩) (fun p => ⟨p.val, by omega⟩) (fun p => (Nat.zero_add _).symm) (fun p => (Nat.zero_add _).symm) _ (hv165 m c k) (blk4Run.sl.r_12 c (XA m c) (co (pt1 k)) (h4_k k) (M14 m c)) (fun a l => m75 _ _ a l) _ (rd_nz m c k 1 _ rfl _) (blk4Run.sl.r_14 c (ms1 (pt1 k)) (NZ m c k) (M15 m c)) (fun a l => m77 _ _ a l)
      (fun p l => k0_pay54 (F := Ideal) (L12 m c) (LA m c k) (ix2 (⟨16 + p.val / 8, by omega⟩ : Fin 80) l)) (fun p l => i_row m c k _ l) _ (fun p l => nib100 _ _ _ p l) y _ rfl rfl) (h17_4 m c k y))
/-- After 8 stores every place written holds the reference's code. -/
theorem h17_8 (y : S640x512.Idx) : View.AllAt (Val := Elt Ideal) (blk4Run.sl.H17_8 c (XA m c) (co (pt1 k)) (ms1 (pt1 k)) (h4_k k) (NZ m c k) (amBuf m c) (M12 m c) (M14 m c) (M15 m c)) y (nbuf m c k y) :=
  View.allAt_cons_unit _ _ _ _ _ (tile m c k 1 1 1 (by omega) (by omega) (fun p => ⟨128 + p.val, by omega⟩) (fun p => ⟨128 + p.val, by omega⟩) (fun p => rfl) (fun p => rfl) _ (hv165 m c k) (blk4Run.sl.r_12 c (XA m c) (co (pt1 k)) (h4_k k) (M14 m c)) (fun a l => m75 _ _ a l) _ (rd_nz m c k 1 _ rfl _) (blk4Run.sl.r_14 c (ms1 (pt1 k)) (NZ m c k) (M15 m c)) (fun a l => m77 _ _ a l)
      (fun p l => k0_pay54 (F := Ideal) (L12 m c) (LA m c k) (ix2 (⟨16 + p.val / 8, by omega⟩ : Fin 80) l)) (fun p l => i_row m c k _ l) _ (fun p l => nib111 _ _ _ p l) y _ rfl rfl)
    (View.allAt_cons_unit _ _ _ _ _ (tile m c k 1 1 0 (by omega) (by omega) (fun p => ⟨128 + p.val, by omega⟩) (fun p => ⟨p.val, by omega⟩) (fun p => rfl) (fun p => (Nat.zero_add _).symm) _ (hv165 m c k) (blk4Run.sl.r_12 c (XA m c) (co (pt1 k)) (h4_k k) (M14 m c)) (fun a l => m75 _ _ a l) _ (rd_nz m c k 1 _ rfl _) (blk4Run.sl.r_14 c (ms1 (pt1 k)) (NZ m c k) (M15 m c)) (fun a l => m77 _ _ a l)
      (fun p l => k0_pay54 (F := Ideal) (L12 m c) (LA m c k) (ix2 (⟨16 + p.val / 8, by omega⟩ : Fin 80) l)) (fun p l => i_row m c k _ l) _ (fun p l => nib110 _ _ _ p l) y _ rfl rfl) (h17_6 m c k y))
/-- After 10 stores every place written holds the reference's code. -/
theorem h17_10 (y : S640x512.Idx) : View.AllAt (Val := Elt Ideal) (blk4Run.sl.H17_10 c (XA m c) (co (pt1 k)) (ms1 (pt1 k)) (h4_k k) (NZ m c k) (amBuf m c) (M12 m c) (M14 m c) (M15 m c)) y (nbuf m c k y) :=
  View.allAt_cons_unit _ _ _ _ _ (tile m c k 2 0 1 (by omega) (by omega) (fun p => ⟨p.val, by omega⟩) (fun p => ⟨128 + p.val, by omega⟩) (fun p => (Nat.zero_add _).symm) (fun p => rfl) _ (hv290 m c k) (blk4Run.sl.r_24 c (XA m c) (co (pt1 k)) (h4_k k) (M14 m c)) (fun a l => m95 _ _ a l) _ (rd_nz m c k 2 _ rfl _) (blk4Run.sl.r_26 c (ms1 (pt1 k)) (NZ m c k) (M15 m c)) (fun a l => m97 _ _ a l)
      (fun p l => k0_pay54 (F := Ideal) (L12 m c) (LA m c k) (ix2 (⟨32 + p.val / 8, by omega⟩ : Fin 80) l)) (fun p l => i_row m c k _ l) _ (fun p l => nib201 _ _ _ _ p l) y _ rfl rfl)
    (View.allAt_cons_unit _ _ _ _ _ (tile m c k 2 0 0 (by omega) (by omega) (fun p => ⟨p.val, by omega⟩) (fun p => ⟨p.val, by omega⟩) (fun p => (Nat.zero_add _).symm) (fun p => (Nat.zero_add _).symm) _ (hv290 m c k) (blk4Run.sl.r_24 c (XA m c) (co (pt1 k)) (h4_k k) (M14 m c)) (fun a l => m95 _ _ a l) _ (rd_nz m c k 2 _ rfl _) (blk4Run.sl.r_26 c (ms1 (pt1 k)) (NZ m c k) (M15 m c)) (fun a l => m97 _ _ a l)
      (fun p l => k0_pay54 (F := Ideal) (L12 m c) (LA m c k) (ix2 (⟨32 + p.val / 8, by omega⟩ : Fin 80) l)) (fun p l => i_row m c k _ l) _ (fun p l => nib200 _ _ _ _ p l) y _ rfl rfl) (h17_8 m c k y))
/-- After 12 stores every place written holds the reference's code. -/
theorem h17_12 (y : S640x512.Idx) : View.AllAt (Val := Elt Ideal) (blk4Run.sl.H17_12 c (XA m c) (co (pt1 k)) (ms1 (pt1 k)) (h4_k k) (NZ m c k) (amBuf m c) (M12 m c) (M14 m c) (M15 m c)) y (nbuf m c k y) :=
  View.allAt_cons_unit _ _ _ _ _ (tile m c k 2 1 1 (by omega) (by omega) (fun p => ⟨128 + p.val, by omega⟩) (fun p => ⟨128 + p.val, by omega⟩) (fun p => rfl) (fun p => rfl) _ (hv290 m c k) (blk4Run.sl.r_24 c (XA m c) (co (pt1 k)) (h4_k k) (M14 m c)) (fun a l => m95 _ _ a l) _ (rd_nz m c k 2 _ rfl _) (blk4Run.sl.r_26 c (ms1 (pt1 k)) (NZ m c k) (M15 m c)) (fun a l => m97 _ _ a l)
      (fun p l => k0_pay54 (F := Ideal) (L12 m c) (LA m c k) (ix2 (⟨32 + p.val / 8, by omega⟩ : Fin 80) l)) (fun p l => i_row m c k _ l) _ (fun p l => nib211 _ _ _ _ p l) y _ rfl rfl)
    (View.allAt_cons_unit _ _ _ _ _ (tile m c k 2 1 0 (by omega) (by omega) (fun p => ⟨128 + p.val, by omega⟩) (fun p => ⟨p.val, by omega⟩) (fun p => rfl) (fun p => (Nat.zero_add _).symm) _ (hv290 m c k) (blk4Run.sl.r_24 c (XA m c) (co (pt1 k)) (h4_k k) (M14 m c)) (fun a l => m95 _ _ a l) _ (rd_nz m c k 2 _ rfl _) (blk4Run.sl.r_26 c (ms1 (pt1 k)) (NZ m c k) (M15 m c)) (fun a l => m97 _ _ a l)
      (fun p l => k0_pay54 (F := Ideal) (L12 m c) (LA m c k) (ix2 (⟨32 + p.val / 8, by omega⟩ : Fin 80) l)) (fun p l => i_row m c k _ l) _ (fun p l => nib210 _ _ _ _ p l) y _ rfl rfl) (h17_10 m c k y))
/-- After 14 stores every place written holds the reference's code. -/
theorem h17_14 (y : S640x512.Idx) : View.AllAt (Val := Elt Ideal) (blk4Run.sl.H17_14 c (XA m c) (co (pt1 k)) (ms1 (pt1 k)) (h4_k k) (NZ m c k) (amBuf m c) (M12 m c) (M14 m c) (M15 m c)) y (nbuf m c k y) :=
  View.allAt_cons_unit _ _ _ _ _ (tile m c k 3 0 1 (by omega) (by omega) (fun p => ⟨p.val, by omega⟩) (fun p => ⟨128 + p.val, by omega⟩) (fun p => (Nat.zero_add _).symm) (fun p => rfl) _ (hv415 m c k) (blk4Run.sl.r_37 c (XA m c) (co (pt1 k)) (h4_k k) (M14 m c)) (fun a l => m114 _ _ a l) _ (rd_nz m c k 3 _ rfl _) (blk4Run.sl.r_38 c (ms1 (pt1 k)) (NZ m c k) (M15 m c)) (fun a l => m115 _ _ a l)
      (fun p l => k0_pay54 (F := Ideal) (L12 m c) (LA m c k) (ix2 (⟨48 + p.val / 8, by omega⟩ : Fin 80) l)) (fun p l => i_row m c k _ l) _ (fun p l => nib301 _ _ _ p l) y _ rfl rfl)
    (View.allAt_cons_unit _ _ _ _ _ (tile m c k 3 0 0 (by omega) (by omega) (fun p => ⟨p.val, by omega⟩) (fun p => ⟨p.val, by omega⟩) (fun p => (Nat.zero_add _).symm) (fun p => (Nat.zero_add _).symm) _ (hv415 m c k) (blk4Run.sl.r_37 c (XA m c) (co (pt1 k)) (h4_k k) (M14 m c)) (fun a l => m114 _ _ a l) _ (rd_nz m c k 3 _ rfl _) (blk4Run.sl.r_38 c (ms1 (pt1 k)) (NZ m c k) (M15 m c)) (fun a l => m115 _ _ a l)
      (fun p l => k0_pay54 (F := Ideal) (L12 m c) (LA m c k) (ix2 (⟨48 + p.val / 8, by omega⟩ : Fin 80) l)) (fun p l => i_row m c k _ l) _ (fun p l => nib300 _ _ _ p l) y _ rfl rfl) (h17_12 m c k y))
/-- After 16 stores every place written holds the reference's code. -/
theorem h17_16 (y : S640x512.Idx) : View.AllAt (Val := Elt Ideal) (blk4Run.sl.H17_16 c (XA m c) (co (pt1 k)) (ms1 (pt1 k)) (h4_k k) (NZ m c k) (amBuf m c) (M12 m c) (M14 m c) (M15 m c)) y (nbuf m c k y) :=
  View.allAt_cons_unit _ _ _ _ _ (tile m c k 3 1 1 (by omega) (by omega) (fun p => ⟨128 + p.val, by omega⟩) (fun p => ⟨128 + p.val, by omega⟩) (fun p => rfl) (fun p => rfl) _ (hv415 m c k) (blk4Run.sl.r_37 c (XA m c) (co (pt1 k)) (h4_k k) (M14 m c)) (fun a l => m114 _ _ a l) _ (rd_nz m c k 3 _ rfl _) (blk4Run.sl.r_38 c (ms1 (pt1 k)) (NZ m c k) (M15 m c)) (fun a l => m115 _ _ a l)
      (fun p l => k0_pay54 (F := Ideal) (L12 m c) (LA m c k) (ix2 (⟨48 + p.val / 8, by omega⟩ : Fin 80) l)) (fun p l => i_row m c k _ l) _ (fun p l => nib311 _ _ _ p l) y _ rfl rfl)
    (View.allAt_cons_unit _ _ _ _ _ (tile m c k 3 1 0 (by omega) (by omega) (fun p => ⟨128 + p.val, by omega⟩) (fun p => ⟨p.val, by omega⟩) (fun p => rfl) (fun p => (Nat.zero_add _).symm) _ (hv415 m c k) (blk4Run.sl.r_37 c (XA m c) (co (pt1 k)) (h4_k k) (M14 m c)) (fun a l => m114 _ _ a l) _ (rd_nz m c k 3 _ rfl _) (blk4Run.sl.r_38 c (ms1 (pt1 k)) (NZ m c k) (M15 m c)) (fun a l => m115 _ _ a l)
      (fun p l => k0_pay54 (F := Ideal) (L12 m c) (LA m c k) (ix2 (⟨48 + p.val / 8, by omega⟩ : Fin 80) l)) (fun p l => i_row m c k _ l) _ (fun p l => nib310 _ _ _ p l) y _ rfl rfl) (h17_14 m c k y))
/-- After 18 stores every place written holds the reference's code. -/
theorem h17_18 (y : S640x512.Idx) : View.AllAt (Val := Elt Ideal) (blk4Run.sl.H17_18 c (XA m c) (co (pt1 k)) (ms1 (pt1 k)) (h4_k k) (NZ m c k) (amBuf m c) (M12 m c) (M14 m c) (M15 m c)) y (nbuf m c k y) :=
  View.allAt_cons_unit _ _ _ _ _ (tile m c k 4 0 1 (by omega) (by omega) (fun p => ⟨p.val, by omega⟩) (fun p => ⟨128 + p.val, by omega⟩) (fun p => (Nat.zero_add _).symm) (fun p => rfl) _ (hv540 m c k) (blk4Run.sl.r_51 c (XA m c) (co (pt1 k)) (h4_k k) (M14 m c)) (fun a l => m138 _ _ a l) _ (rd_nz m c k 4 _ rfl _) (blk4Run.sl.r_52 c (ms1 (pt1 k)) (NZ m c k) (M15 m c)) (fun a l => m139 _ _ a l)
      (fun p l => k0_pay54 (F := Ideal) (L12 m c) (LA m c k) (ix2 (⟨64 + p.val / 8, by omega⟩ : Fin 80) l)) (fun p l => i_row m c k _ l) _ (fun p l => nib401 _ _ _ _ p l) y _ rfl rfl)
    (View.allAt_cons_unit _ _ _ _ _ (tile m c k 4 0 0 (by omega) (by omega) (fun p => ⟨p.val, by omega⟩) (fun p => ⟨p.val, by omega⟩) (fun p => (Nat.zero_add _).symm) (fun p => (Nat.zero_add _).symm) _ (hv540 m c k) (blk4Run.sl.r_51 c (XA m c) (co (pt1 k)) (h4_k k) (M14 m c)) (fun a l => m138 _ _ a l) _ (rd_nz m c k 4 _ rfl _) (blk4Run.sl.r_52 c (ms1 (pt1 k)) (NZ m c k) (M15 m c)) (fun a l => m139 _ _ a l)
      (fun p l => k0_pay54 (F := Ideal) (L12 m c) (LA m c k) (ix2 (⟨64 + p.val / 8, by omega⟩ : Fin 80) l)) (fun p l => i_row m c k _ l) _ (fun p l => nib400 _ _ _ _ p l) y _ rfl rfl) (h17_16 m c k y))
/-- After 20 stores every place written holds the reference's code. -/
theorem h17_20 (y : S640x512.Idx) : View.AllAt (Val := Elt Ideal) (blk4Run.sl.H17_20 c (XA m c) (co (pt1 k)) (ms1 (pt1 k)) (h4_k k) (NZ m c k) (amBuf m c) (M12 m c) (M14 m c) (M15 m c)) y (nbuf m c k y) :=
  View.allAt_cons_unit _ _ _ _ _ (tile m c k 4 1 1 (by omega) (by omega) (fun p => ⟨128 + p.val, by omega⟩) (fun p => ⟨128 + p.val, by omega⟩) (fun p => rfl) (fun p => rfl) _ (hv540 m c k) (blk4Run.sl.r_51 c (XA m c) (co (pt1 k)) (h4_k k) (M14 m c)) (fun a l => m138 _ _ a l) _ (rd_nz m c k 4 _ rfl _) (blk4Run.sl.r_52 c (ms1 (pt1 k)) (NZ m c k) (M15 m c)) (fun a l => m139 _ _ a l)
      (fun p l => k0_pay54 (F := Ideal) (L12 m c) (LA m c k) (ix2 (⟨64 + p.val / 8, by omega⟩ : Fin 80) l)) (fun p l => i_row m c k _ l) _ (fun p l => nib411 _ _ _ _ p l) y _ rfl rfl)
    (View.allAt_cons_unit _ _ _ _ _ (tile m c k 4 1 0 (by omega) (by omega) (fun p => ⟨128 + p.val, by omega⟩) (fun p => ⟨p.val, by omega⟩) (fun p => rfl) (fun p => (Nat.zero_add _).symm) _ (hv540 m c k) (blk4Run.sl.r_51 c (XA m c) (co (pt1 k)) (h4_k k) (M14 m c)) (fun a l => m138 _ _ a l) _ (rd_nz m c k 4 _ rfl _) (blk4Run.sl.r_52 c (ms1 (pt1 k)) (NZ m c k) (M15 m c)) (fun a l => m139 _ _ a l)
      (fun p l => k0_pay54 (F := Ideal) (L12 m c) (LA m c k) (ix2 (⟨64 + p.val / 8, by omega⟩ : Fin 80) l)) (fun p l => i_row m c k _ l) _ (fun p l => nib410 _ _ _ _ p l) y _ rfl rfl) (h17_18 m c k y))
end Cert.KernelIdeal.Hand
end
-- ==== Proof.Values.Bytes.lean ====
/-
  Hand-written, untrusted. What a step of the second sweep stores in the packed codes: the two halves of the buffer, multiplied into bytes and cleared of negative zeros, are the packed codes.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.Buffer
public import Idealize.ShloMosaic.Lib.WritesUnit
@[expose] public section
noncomputable section
namespace Cert.KernelIdeal.Hand
open Cert.KernelIdeal Cert.KernelIdeal.Gen
open Cert.Scalar Cert.Spec
open Idealize.ShloMosaic Idealize.ShloMosaic.TcCoe Idealize.ShloMosaic.Tactic
set_option maxRecDepth 16384
variable (m : (ℓ : Loc nD τ sig) → Buf (Elt Ideal) ℓ) (c : Dev nD) (k : Fin 56)
/-- The twenty pieces fill the nibble buffer. -/
theorem nib_cover (y : S640x512.Idx) : ∃ p ∈ blk4Run.sl.H17_20 c (XA m c) (co (pt1 k)) (ms1 (pt1 k)) (h4_k k) (NZ m c k) (amBuf m c) (M12 m c) (M14 m c) (M15 m c), y ∈ p.1.set :=
  View.cover_of_tiled (Val := Elt Ideal) (s := S640x512) (e := .i8) (blk4Run.sl.H17_20 c (XA m c) (co (pt1 k)) (ms1 (pt1 k)) (h4_k k) (NZ m c k) (amBuf m c) (M12 m c) (M14 m c) (M15 m c)) ![128, 128] (by rfl) y
/-- The full buffer holds the reference's codes, -/
theorem nib_canon (y : S640x512.Idx) : View.canon (Val := Elt Ideal) (blk4Run.sl.H17_20 c (XA m c) (co (pt1 k)) (ms1 (pt1 k)) (h4_k k) (NZ m c k) (amBuf m c) (M12 m c) (M14 m c) (M15 m c)) y = nbuf m c k y :=
  View.canon_eq_of_allAt _ _ _ (nib_cover m c k y) (h17_20 m c k y)
/-- and so does a load from it. -/
theorem nib_read {κ : Kind} {sp : Space} (v : View sig κ sp S640x512 .i8) (L : List (View.Piece (Elt Ideal) S640x512 .i8)) (W : S640x512.Idx → BitVec 8) (hL : ∀ y, View.canon (Val := Elt Ideal) L y = W y) (o : ℕ) (ho : o + 256 ≤ 512) (inb)
    (T : Fin 640) (x : Fin 256) : v.readCov L (Rect.unit (s := S640x512) ![0, o] S640x256.size inb).toLoadRect (ix2 T x) = W (ix2 T (⟨o + x.val, by omega⟩ : Fin 512)) := by
  rw [View.readCov_eq_canon', ← hL]
  refine congrArg (View.canon (Val := Elt Ideal) L) ?_
  funext a; apply Fin.ext
  fin_cases a
  · show 0 + 1 * T.val = T.val; omega
  · show o + 1 * x.val = o + x.val; omega
/-- The first half of the buffer, as it is loaded; -/
theorem v664_at (T : Fin 640) (x : Fin 256) : blk4Run.sl.v664 c (XA m c) (co (pt1 k)) (ms1 (pt1 k)) (h4_k k) (NZ m c k) (amBuf m c) (M12 m c) (M14 m c) (M15 m c) (ix2 T x) = nbuf m c k (ix2 T (⟨0 + x.val, by omega⟩ : Fin 512)) :=
  nib_read _ _ _ (nib_canon m c k) 0 (by omega) _ T x
/-- the second half. -/
theorem v688_at (T : Fin 640) (x : Fin 256) : blk4Run.sl.v688 c (XA m c) (co (pt1 k)) (ms1 (pt1 k)) (h4_k k) (NZ m c k) (amBuf m c) (M12 m c) (M14 m c) (M15 m c) (ix2 T x) = nbuf m c k (ix2 T (⟨256 + x.val, by omega⟩ : Fin 512)) :=
  nib_read _ _ _ (nib_canon m c k) 256 (by omega) _ T x
/-- Two nibbles of the buffer, packed and fixed up: the byte. -/
theorem fix_nv (n : Fin 80) (q : Fin 8) (L : Fin 256) (u : Fin 14336 → Fin 1280 → BitVec 8) (hu : ∀ t, u (cl k L) t = nz m c k L t) :
    fix8 (BitVec.ofNat 8 ((nv m c k n ⟨2 * q.val, by omega⟩ L).toNat + 16 * (nv m c k n ⟨2 * q.val + 1, by omega⟩ L).toNat)) = byte (wK m c) u (cl k L) n q := by
  obtain ⟨j0, s0, e0, f0⟩ := nv_eq m c k n ⟨2 * q.val, by omega⟩ L
  obtain ⟨j1, s1, e1, f1⟩ := nv_eq m c k n ⟨2 * q.val + 1, by omega⟩ L
  rw [e0, e1, fix8_pair]
  unfold byte
  dsimp only
  rw [hu, hu, f0, f1]
/-- A code is below 16. -/
theorem nv_lt (n i L) : (nv m c k n i L).toNat < 16 := by
  obtain ⟨j, s, e, -⟩ := nv_eq m c k n i L
  rw [e]
  clear e
  revert j s
  decide
/-- From one half of the buffer to the packed codes of 128 columns. -/
theorem strip (v : Vec Ideal S640x256 .i8) (cc : ℕ) (hc : cc < 2) (hv : ∀ (T : Fin 640) (x : Fin 256), v (ix2 T x) = nbuf m c k (ix2 T (⟨256 * cc + x.val, by omega⟩ : Fin 512)))
    (u : Fin 14336 → Fin 1280 → BitVec 8) (L : Fin 256) (hu : ∀ t, u (cl k L) t = nz m c k L t) (r : Fin 128) (hL : L.val = 128 * cc + r.val) (n : Fin 80) (q : Fin 8) (T : Fin 640) (hT : T.val = n.val * 8 + q.val) :
    fixB (rawB v (L16 m c)) (ix2 r T) = byte (wK m c) u (cl k L) n q := by
  have key : ∀ (h : ℕ) (hh : h < 2) (x : Fin 256), x.val = 128 * h + r.val → v (ix2 T x) = nv m c k n ⟨2 * q.val + h, by omega⟩ L := by
    intro h hh x hx
    rw [hv]
    have e : ∀ (n n' : Fin 80) (i i' : Fin 16) (l l' : Fin 256), n.val = n'.val → i.val = i'.val → l.val = l'.val → nv m c k n i l = nv m c k n' i' l' := by
      intro n n' i i' l l' h1 h2 h3
      rw [Fin.ext h1, Fin.ext h2, Fin.ext h3]
    refine e _ _ _ _ _ _ ?_ ?_ ?_
    · show T.val / 8 = n.val; omega
    · show T.val % 8 * 2 + (256 * cc + x.val) / 128 % 2 = 2 * q.val + h; omega
    · show (256 * cc + x.val) % 128 + 128 * ((256 * cc + x.val) / 256) = L.val; omega
  rw [fixB_at, rawB_at v (L16 m c) r T _ _ (nv_lt m c k n ⟨2 * q.val, by omega⟩ L) (nv_lt m c k n ⟨2 * q.val + 1, by omega⟩ L) (L16_at m c r) (key 0 (by omega) _ (by show r.val = 128 * 0 + r.val; omega)) (key 1 (by omega) _ rfl)]
  exact fix_nv m c k n q L u hu
/-- A step of the second sweep leaves the packed codes of its columns. -/
theorem run4_codes : (run4 m c k).1.1 = (ms3 (pt1 k)).view.writes (Elt Ideal) (ms3 (pt1 k)).view.junk
    [⟨Rect.unit (s := S256x640) ![128, 0] S128x640.size inb_S256x640_S128x640_128_0, k0_pay6 (k0_pay163 (F := Ideal) (blk4Run.sl.v688 c (XA m c) (co (pt1 k)) (ms1 (pt1 k)) (h4_k k) (NZ m c k) (amBuf m c) (M12 m c) (M14 m c) (M15 m c)) (L16 m c)) 2004318071#32⟩,
     ⟨Rect.unit (s := S256x640) ![0, 0] S128x640.size inb_S256x640_S128x640_0_0, k0_pay162 (F := Ideal) (k0_pay161 (blk4Run.sl.v664 c (XA m c) (co (pt1 k)) (ms1 (pt1 k)) (h4_k k) (NZ m c k) (amBuf m c) (M12 m c) (M14 m c) (M15 m c))) (L16 m c)⟩] := by
  unfold run4 L16
  generalize amBuf m c = f10
  generalize M12 m c = f12
  generalize M14 m c = f14
  generalize M15 m c = f15
  generalize M16 m c = f16
  unfold blk4Run
  dsimp only
  rfl
/-- The codes as written out. -/
theorem outC_at (u : Fin 14336 → Fin 1280 → BitVec 8) (L : Fin 256) (hu : ∀ t, u (cl k L) t = nz m c k L t) (n : Fin 80) (q : Fin 8) :
    outC m c k (ix2 L (⟨n.val * 8 + q.val, by omega⟩ : Fin 640)) = byte (wK m c) u (cl k L) n q := by
  unfold outC
  rw [run4_codes, p6, p162]
  have s0 := fun r h => strip m c k _ 0 (by omega) (fun T x => (v664_at m c k T x).trans (congrArg (fun z => nbuf m c k (ix2 T z)) (Fin.ext (by show 0 + x.val = 256 * 0 + x.val; omega)))) u L hu r h n q (⟨n.val * 8 + q.val, by omega⟩ : Fin 640) rfl
  have s1 := fun r h => strip m c k _ 1 (by omega) (fun T x => v688_at m c k T x) u L hu r h n q (⟨n.val * 8 + q.val, by omega⟩ : Fin 640) rfl
  generalize fixB (rawB (blk4Run.sl.v664 c (XA m c) (co (pt1 k)) (ms1 (pt1 k)) (h4_k k) (NZ m c k) (amBuf m c) (M12 m c) (M14 m c) (M15 m c)) (L16 m c)) = w0 at *
  generalize fixB (rawB (blk4Run.sl.v688 c (XA m c) (co (pt1 k)) (ms1 (pt1 k)) (h4_k k) (NZ m c k) (amBuf m c) (M12 m c) (M14 m c) (M15 m c)) (L16 m c)) = w1 at *
  by_cases h : L.val < 128
  · refine Eq.trans ?_ (s0 ⟨L.val, h⟩ (by show L.val = 128 * 0 + L.val; omega))
    refine (View.read_writes_cons_rows_of_not_mem (Val := Elt Ideal) (ms3 (pt1 k)).view _ inb_S256x640_S128x640_128_0 w1 _ (ix2 L (⟨n.val * 8 + q.val, by omega⟩ : Fin 640)) (o := 128) (W := 128) rfl rfl (Or.inl h)).trans ?_
    exact View.read_writes_cons_rows_of_mem (Val := Elt Ideal) (ms3 (pt1 k)).view _ inb_S256x640_S128x640_0_0 w0 _ (ix2 L (⟨n.val * 8 + q.val, by omega⟩ : Fin 640)) (ix2 (⟨L.val, h⟩ : Fin 128) (⟨n.val * 8 + q.val, by omega⟩ : Fin 640)) (o := 0) rfl (Nat.zero_add _).symm rfl
  · refine Eq.trans ?_ (s1 ⟨L.val - 128, by omega⟩ (by show L.val = 128 * 1 + (L.val - 128); omega))
    exact View.read_writes_cons_rows_of_mem (Val := Elt Ideal) (ms3 (pt1 k)).view _ inb_S256x640_S128x640_128_0 w1 _ (ix2 L (⟨n.val * 8 + q.val, by omega⟩ : Fin 640)) (ix2 (⟨L.val - 128, by omega⟩ : Fin 128) (⟨n.val * 8 + q.val, by omega⟩ : Fin 640)) (o := 128) rfl (by show L.val = 128 + (L.val - 128); omega) rfl
end Cert.KernelIdeal.Hand
end
-- ==== Proof.Values.Host.lean ====
/-
  Hand-written, untrusted. The kernel's four results as the caller sees them: the transposes and reshapes round the launch, and the blocks that the two sweeps leave.
-/
module
public import proofs.«01_k».proof.Proof.KernelIdeal.State
public import Idealize.ShloMosaic.Lib.Pointwise
public import Idealize.ShloMosaic.Lib.IdealHost
public import Idealize.ShloMosaic.Lib.VecWindow
public import Idealize.ShloMosaic.Lib.WholeRead
public import Idealize.ShloMosaic.Lib.Pipeline.ValueKit
public import proofs.«01_k».proof.Proof.Values.Bytes
public import proofs.«01_k».proof.Proof.KernelIdeal.Run
public import Idealize.ShloMosaic.Lib.ValueLayout
public import Idealize.ShloMosaic.Lib.StableHlo.ReadAt
@[expose] public section
noncomputable section
namespace Cert.KernelIdeal.Hand
open Cert.KernelIdeal Cert.KernelIdeal.Gen
open Cert.Scalar Cert.Spec
open Idealize.ShloMosaic Idealize.ShloMosaic.TcCoe Idealize.ShloMosaic.Tactic
set_option maxRecDepth 16384
variable (m : (ℓ : Loc nD τ sig) → Buf (Elt Ideal) ℓ) (c : Dev nD)
/-- The arguments, by their indices: tokens, signs, noise bytes. -/
def aX : Fin 1280 → Fin 14336 → EReal := fun r d => m (c, Proc.tc.devRef main_arg0) (ix3 (0 : Fin 1) r d)
/-- The kernel's signs, -/
def aS : Fin 16 → EReal := fun j => m (c, Proc.tc.devRef main_arg1) (ix1 j)
/-- and its noise bytes. -/
def aU : Fin 14336 → Fin 1280 → BitVec 8 := fun d k => m (c, Proc.tc.devRef main_arg2) (ix3 (0 : Fin 1) d k)
/-- The array as the launch takes it; -/
theorem v0_at (r : Fin 1280) (d : Fin 14336) : V m c main_v0 (ix2 r d) = aX m c r d := by
  unfold V
  after_reads_at
  rfl
/-- the noise bytes likewise. -/
theorem v1_at (d : Fin 14336) (k : Fin 1280) : V m c main_v1 (ix2 d k) = aU m c d k := by
  unfold V
  after_reads_at
  rfl
theorem ix0_0 : ∀ t : Fin grid0.N, ∀ a, win0_0.index t a = 0 := by decide +kernel
theorem ix1_0 : ∀ t : Fin grid0.N, 56 ≤ t.val → win0_1.index t 0 = t.val - 56 := by decide +kernel
theorem ix1_1 : ∀ t : Fin grid0.N, win0_1.index t 1 = 0 := by decide +kernel
theorem ix2_0 : ∀ t : Fin grid0.N, win0_2.index t 0 = 0 := by decide +kernel
theorem ix2_1 : ∀ t : Fin grid0.N, win0_2.index t 1 = min t.val 55 := by decide +kernel
theorem ix3_0 : ∀ t : Fin grid0.N, 56 ≤ t.val → win0_3.index t 0 = t.val - 56 := by decide +kernel
theorem ix3_1 : ∀ t : Fin grid0.N, win0_3.index t 1 = 0 := by decide +kernel
theorem ix4_0 : ∀ t : Fin grid0.N, win0_4.index t 0 = 0 := by decide +kernel
theorem ix4_1 : ∀ t : Fin grid0.N, 56 ≤ t.val → win0_4.index t 1 = t.val - 56 := by decide +kernel
theorem emb0 (t : Fin cfg0.N) (y : S16.Idx) : (win0_0.blk t).view.emb y = y := by
  have h := ix0_0 t
  funext a; apply Fin.ext
  fin_cases a <;> blk_simp [Pipeline.Window.cell_apply] <;> rw [h] <;> simp
theorem emb1 (k : Fin 56) (L : Fin 256) (t : Fin 1280) : (win0_1.blk (pt1 k)).view.emb (ix2 L t) = (ix2 (cl k L) t : S14336x1280.Idx) := by
  have h0 := ix1_0 (pt1 k) (Nat.le_add_right _ _)
  have h1 := ix1_1 (pt1 k)
  funext a; apply Fin.ext
  fin_cases a
  · blk_simp [Pipeline.Window.cell_apply]; rw [h0]; show (56 + k.val - 56) * 256 + L.val = 256 * k.val + L.val; omega
  · blk_simp [Pipeline.Window.cell_apply]; rw [h1]; show 0 * 1280 + t.val = t.val; omega
theorem emb2 (t : Fin cfg0.N) (n : Fin 80) (l : Fin 256) : (win0_2.blk t).view.emb (ix2 n l) = (ix2 n (cl (ka t.val) l) : S80x14336.Idx) := by
  have h0 := ix2_0 t
  have h1 := ix2_1 t
  funext a; apply Fin.ext
  fin_cases a
  · blk_simp [Pipeline.Window.cell_apply]; rw [h0]; show 0 * 80 + n.val = n.val; omega
  · blk_simp [Pipeline.Window.cell_apply]; rw [h1]; show min t.val 55 * 256 + l.val = 256 * min t.val 55 + l.val; omega
theorem emb3 (t : Fin cfg0.N) (ht : 56 ≤ t.val) (L : Fin 256) (y : Fin 640) : (win0_3.blk t).view.emb (ix2 L y) = (ix2 (cl (kc t.val) L) y : S14336x640.Idx) := by
  have h0 := ix3_0 t ht
  have h1 := ix3_1 t
  have hN : t.val < 112 := t.isLt
  funext a; apply Fin.ext
  fin_cases a
  · blk_simp [Pipeline.Window.cell_apply]; rw [h0]; show (t.val - 56) * 256 + L.val = 256 * ((t.val - 56) % 56) + L.val; omega
  · blk_simp [Pipeline.Window.cell_apply]; rw [h1]; show 0 * 640 + y.val = y.val; omega
theorem emb4 (t : Fin cfg0.N) (ht : 56 ≤ t.val) (n : Fin 80) (l : Fin 256) : (win0_4.blk t).view.emb (ix2 n l) = (ix2 n (cl (kc t.val) l) : S80x14336.Idx) := by
  have h0 := ix4_0 t
  have h1 := ix4_1 t ht
  have hN : t.val < 112 := t.isLt
  funext a; apply Fin.ext
  fin_cases a
  · blk_simp [Pipeline.Window.cell_apply]; rw [h0]; show 0 * 80 + n.val = n.val; omega
  · blk_simp [Pipeline.Window.cell_apply]; rw [h1]; show (t.val - 56) * 256 + l.val = 256 * ((t.val - 56) % 56) + l.val; omega
/-- The kernel's transformed blocks are those of its arguments. -/
theorem wK_eq : wK m c = trn (aX m c) (aS m c) := by
  have e0 : xK m c = aX m c := by
    funext r d; exact v0_at m c r d
  have e1 : sg m c = aS m c := by
    funext j
    show iblk m c 0 (pt0 0) (ix1 j) = _
    unfold iblk
    blk_simp
    rw [emb0]
    exact congrFun (V_main_arg1 m c) (ix1 j)
  unfold wK
  rw [e0, e1]
theorem nz_eq (k : Fin 56) (L : Fin 256) (t : Fin 1280) : aU m c (cl k L) t = nz m c k L t := by
  unfold nz iblk
  blk_simp
  rw [emb1]
  exact (v1_at m c (cl k L) t).symm
theorem ij2 {a b : ℕ} (y : (⟨2, ![a, b]⟩ : Shape).Idx) : ∃ (n : Fin a) (l : Fin b), y = ix2 n l := ⟨y 0, y 1, ix2e y⟩
theorem fl3 (t : Fin cfg0.N) (hf : (cfg0.win 3).flush t = true) : 56 ≤ t.val := by
  by_contra h; rw [flush3' t (by omega)] at hf; exact Bool.false_ne_true hf
theorem fl4 (t : Fin cfg0.N) (hf : (cfg0.win 4).flush t = true) : 56 ≤ t.val := by
  by_contra h; rw [flush4' t (by omega)] at hf; exact Bool.false_ne_true hf
/-- The transformed blocks of the kernel's arguments. -/
abbrev wA : Blocks := trn (aX m c) (aS m c)
/-- The four results' arrays, by index. -/
def gA (j : S80x14336.Idx) : EReal := bmax (wA m c) (j (0 : Fin 2)) (j (1 : Fin 2))
/-- The packed codes that the launch leaves; -/
def gC (j : S14336x640.Idx) : BitVec 8 := byte (wA m c) (aU m c) (j (0 : Fin 2)) (⟨(j (1 : Fin 2)).val / 8, by have : (j (1 : Fin 2)).val < 640 := (j (1 : Fin 2)).isLt; omega⟩ : Fin 80) (⟨(j (1 : Fin 2)).val % 8, by omega⟩ : Fin 8)
/-- the scales. -/
def gSc (j : S80x14336.Idx) : EReal := sb (wA m c) (j (0 : Fin 2)) (j (1 : Fin 2))
theorem gA_at (k : Fin 56) (n : Fin 80) (l : Fin 256) : outA m c k (ix2 n l) = gA m c (ix2 n (cl k l)) := by
  rw [outA_at, wK_eq]; rfl
theorem gS_at (k : Fin 56) (n : Fin 80) (l : Fin 256) : outS m c k (ix2 n l) = gSc m c (ix2 n (cl k l)) := by
  rw [outS_at, wK_eq]; rfl
theorem gT_at (a b : Fin 1) : outT m c (ix2 a b) = ts (wA m c) := by
  rw [Subsingleton.elim a (0 : Fin 1), Subsingleton.elim b (0 : Fin 1), outT_at, wK_eq]
theorem gC_at (k : Fin 56) (L : Fin 256) (T : Fin 640) : outC m c k (ix2 L T) = gC m c (ix2 (cl k L) T) := by
  have e : T = (⟨(⟨T.val / 8, by omega⟩ : Fin 80).val * 8 + (⟨T.val % 8, by omega⟩ : Fin 8).val, by show T.val / 8 * 8 + T.val % 8 < 640; omega⟩ : Fin 640) := Fin.ext (by show T.val = T.val / 8 * 8 + T.val % 8; omega)
  refine (congrArg (fun z => outC m c k (ix2 L z)) e).trans ?_
  rw [outC_at m c k (aU m c) L (nz_eq m c _ L), wK_eq]
  rfl
/-- The launch's block maxima; -/
theorem arr2 (n : Fin 80) (d : Fin 14336) : (dats m 0 c).arrAt 2 cfg0.N (ix2 n d) = (bmax (wA m c) n d : EReal) := by
  have h := (dats m 0 c).arrAt_eq_of_covers 2 (gA m c) (by decide +kernel) fun t hf y => ?_
  · rw [h]; rfl
  blk_simp
  obtain ⟨n, l, rfl⟩ := ij2 y
  rw [after2, emb2]
  exact gA_at m c _ n l
/-- its packed codes; -/
theorem arr3 (d : Fin 14336) (n : Fin 80) (q : Fin 8) : (dats m 0 c).arrAt 3 cfg0.N (ix2 d (⟨n.val * 8 + q.val, by omega⟩ : Fin 640)) = byte (wA m c) (aU m c) d n q := by
  have h := (dats m 0 c).arrAt_eq_of_covers 3 (gC m c) (by decide +kernel) fun t hf y => ?_
  · rw [h]
    exact congrArg₂ (byte (wA m c) (aU m c) d) (Fin.ext (by show (n.val * 8 + q.val) / 8 = n.val; omega)) (Fin.ext (by show (n.val * 8 + q.val) % 8 = q.val; omega))
  blk_simp
  obtain ⟨L, T, rfl⟩ := ij2 y
  rw [after3, emb3 t (fl3 t hf)]
  exact gC_at m c _ L T
/-- its block scales; -/
theorem arr4 (n : Fin 80) (d : Fin 14336) : (dats m 0 c).arrAt 4 cfg0.N (ix2 n d) = (sb (wA m c) n d : EReal) := by
  have h := (dats m 0 c).arrAt_eq_of_covers 4 (gSc m c) (by decide +kernel) fun t hf y => ?_
  · rw [h]; rfl
  blk_simp
  obtain ⟨n, l, rfl⟩ := ij2 y
  rw [after4, emb4 t (fl4 t hf)]
  exact gS_at m c _ n l
/-- its tensor scale. -/
theorem arr5 : (dats m 0 c).arrAt 5 cfg0.N (ix2 (0 : Fin 1) (0 : Fin 1)) = (ts (wA m c) : EReal) := by
  have h := (dats m 0 c).arrAt_eq_of_covers 5 (fun _ => (ts (wA m c) : EReal)) (by decide +kernel) fun t hf y => ?_
  · rw [h]
  blk_simp
  obtain ⟨n, l, rfl⟩ := ij2 y
  rw [after5]
  exact gT_at m c n l

/-- The host lines after the kernel, at an index. -/
abbrev aft (b : Ref sig .tc) := StableHlo.after [hostOps1].flatten (Pipeline.withArrays spec0 c (V0 m c) fun w => (dats m 0 c).arrAt w cfg0.N) (Proc.devRef .tc b)
/-- The kernel's block maxima are the blocks' largest magnitudes. -/
theorem v4_at (d : Fin 14336) (n : Fin 80) : aft m c main_v4 (ix3 (0 : Fin 1) d n) = (bmax (wA m c) n d : EReal) := by
  rw [← arr2]
  unfold aft
  simp only [List.flatten_cons, List.flatten_nil, List.append_nil]
  after_reads_at
  exact congrFun (Pipeline.withArrays_arr spec0 launch0.win.arr_inj c _ _ 2) _
/-- The kernel's bytes are the packed codes. -/
theorem v5_at (d : Fin 14336) (n : Fin 80) (q : Fin 8) : aft m c main_v5 (ix3 (0 : Fin 1) d (⟨n.val * 8 + q.val, by omega⟩ : Fin 640)) = byte (wA m c) (aU m c) d n q := by
  rw [← arr3]
  unfold aft
  simp only [List.flatten_cons, List.flatten_nil, List.append_nil]
  after_reads_at
  exact congrFun (Pipeline.withArrays_arr spec0 launch0.win.arr_inj c _ _ 3) _
/-- The kernel's scales are the block scales. -/
theorem v7_at (d : Fin 14336) (n : Fin 80) : aft m c main_v7 (ix3 (0 : Fin 1) d n) = (sb (wA m c) n d : EReal) := by
  rw [← arr4]
  unfold aft
  simp only [List.flatten_cons, List.flatten_nil, List.append_nil]
  after_reads_at
  exact congrFun (Pipeline.withArrays_arr spec0 launch0.win.arr_inj c _ _ 4) _
/-- The kernel's tensor scale is the tensor's. -/
theorem v8_at : aft m c main_v8 = (fun _ => (ts (wA m c) : EReal)) := by
  rw [← arr5]
  funext j
  unfold aft
  simp only [List.flatten_cons, List.flatten_nil, List.append_nil]
  after_reads_at
  exact congrFun (Pipeline.withArrays_arr spec0 launch0.win.arr_inj c _ _ 5) _
/-- The kernel's run: its four results in closed form, its arguments unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v4) = aft m c main_v4 ∧ r.2.mem ((c.tc : Thread nD τ).loc main_v5) = aft m c main_v5
      ∧ r.2.mem ((c.tc : Thread nD τ).loc main_v7) = aft m c main_v7 ∧ r.2.mem ((c.tc : Thread nD τ).loc main_v8) = aft m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  have hv := (h.1 c).2
  rw [withR_none] at hv
  exact ⟨hv main_v4 (by decide), hv main_v5 (by decide), hv main_v7 (by decide), hv main_v8 (by decide), args_kept m r h c⟩
end Cert.KernelIdeal.Hand
end
-- ==== Proof.Values.RefValue.lean ====
/-
  Hand-written, untrusted. What the reference computes from the transformed blocks, element by element.
-/
module
public import proofs.«01_k».proof.Proof.Gen.ReferenceIdeal.Frame
public import proofs.«01_k».proof.Proof.Values.Spec
public import Idealize.ShloMosaic.Lib.Pointwise
public import Idealize.ShloMosaic.Lib.IdealHost
@[expose] public section
noncomputable section
namespace Cert.ReferenceIdeal.Hand
open Cert.ReferenceIdeal Cert.ReferenceIdeal.Gen
open Cert.Scalar Cert.Spec
open Idealize.ShloMosaic Idealize.ShloMosaic.TcCoe Idealize.ShloMosaic.Tactic
set_option maxRecDepth 16384
/-- The tensor scale; -/
theorem scale_at (n : Fin 80) (d : Fin 14336) (y  : FVec Ideal S80x1x14336 .f32) (z : FVec Ideal S1x1x1 .f32) :
    truncf .fp8e4m3 (divf y (broadcastTo S80x1x14336 (mulf (broadcast S1x1x1 (Scalar.ofBits .f32 0x40C00000#32)) z) broadcasts_S1x1x1_S80x1x14336)) bitsLt_fp8e4m3_f32 (ix3 n (0 : Fin 1) d)
      = Ideal.div (y (ix3 n (0 : Fin 1) d)) (Ideal.ofBits .f32 1086324736#32 * z (ix3 0 0 0)) := by
  pointwise []
theorem pay5_at (n : Fin 80) (d : Fin 14336) (v0  : Vec Ideal S80x16x14336 .f32) : k0_pay5 v0 (ix3 n (0 : Fin 1) d) = Ideal.div (k0_pay4 v0 (ix3 n (0 : Fin 1) d)) (Ideal.ofBits .f32 1086324736#32 * k0_pay3 v0 (ix3 0 0 0)) :=
  scale_at n d (k0_pay4 v0) (k0_pay3 v0)
/-- the divisor; -/
theorem d_at (n : Fin 80) (d : Fin 14336) (y  : FVec Ideal S80x1x14336 .fp8e4m3) (z : FVec Ideal S1x1x1 .f32) :
    mulf (extf .f32 y bitsLt_fp8e4m3_f32) (broadcastTo S80x1x14336 z broadcasts_S1x1x1_S80x1x14336) (ix3 n (0 : Fin 1) d) = y (ix3 n (0 : Fin 1) d) * z (ix3 0 0 0) := by
  pointwise []
theorem pay6_at (n : Fin 80) (d : Fin 14336) (v0  : Vec Ideal S80x16x14336 .f32) : k0_pay6 v0 (ix3 n (0 : Fin 1) d) = k0_pay5 v0 (ix3 n (0 : Fin 1) d) * k0_pay3 v0 (ix3 0 0 0) :=
  d_at n d (k0_pay5 v0) (k0_pay3 v0)
/-- the clipped quotient; -/
theorem y_at (n : Fin 80) (i : Fin 16) (d : Fin 14336) (y  : FVec Ideal S80x1x14336 .f32) (z : FVec Ideal S80x16x14336 .f32) :
    divf z (broadcastTo S80x16x14336 (select (cmpf .ogt y (broadcast S80x1x14336 (Scalar.ofBits .f32 0x00000000#32))) y (broadcast S80x1x14336 (Scalar.ofBits .f32 0x3F800000#32))) broadcasts_S80x1x14336_S80x16x14336) (ix3 n i d)
      = Ideal.div (z (ix3 n i d)) (if 0 < y (ix3 n (0 : Fin 1) d) then y (ix3 n (0 : Fin 1) d) else 1) := by
  pointwise []
theorem pay8_at (n : Fin 80) (i : Fin 16) (d : Fin 14336) (v0  : Vec Ideal S80x16x14336 .f32) : k0_pay8 v0 (ix3 n i d) = Ideal.div (k0_pay2 v0 (ix3 n i d)) (if 0 < k0_pay6 v0 (ix3 n (0 : Fin 1) d) then k0_pay6 v0 (ix3 n (0 : Fin 1) d) else 1) :=
  y_at n i d (k0_pay6 v0) (k0_pay2 v0)
/-- where the divisor is positive; -/
theorem pos_at (n : Fin 80) (d : Fin 14336) (y  : FVec Ideal S80x1x14336 .f32) : cmpf .ogt y (broadcast S80x1x14336 (Scalar.ofBits .f32 0x00000000#32)) (ix3 n (0 : Fin 1) d) = BitVec.ofBool (decide (0 < y (ix3 n (0 : Fin 1) d))) := by
  pointwise []
theorem pay7_at (n : Fin 80) (d : Fin 14336) (v0  : Vec Ideal S80x16x14336 .f32) : k0_pay7 v0 (ix3 n (0 : Fin 1) d) = BitVec.ofBool (decide (0 < k0_pay6 v0 (ix3 n (0 : Fin 1) d))) :=
  pos_at n d (k0_pay6 v0)
theorem pay2_eq (v0  : Vec Ideal S80x16x14336 .f32) : k0_pay2 v0 = v0 := shapeCast_self _ _

variable (x0 x1 : Vec Ideal S80x16x14336 .f32)
/-- The array as blocks. -/
def blk : Blocks := fun n i d => x0 (ix3 n i d)

theorem pay4_at (n : Fin 80) (d : Fin 14336) : k0_pay4 x0 (ix3 n (0 : Fin 1) d) = bmax (blk x0) n d := by
  have : k0_pay4 x0 (ix3 n (0 : Fin 1) d) = Finset.fold max (Ideal.ofBits FTy.f32 4286578688#32) (fun x => FloatOps.absf (F := Ideal) (φ := .f32) (k0_pay2 x0 (ix3 n x d))) Finset.univ := by
    pointwise [k0_pay4]
  rw [this, pay2_eq]; rfl

theorem tens_at (y : FVec Ideal S80x16x14336 .f32) :
    (multiReduction (F := Ideal) .maximumf [1, 2, 3] S1 (shapeCast S1x80x16x14336 y shapeCasts_S80x16x14336_S1x80x16x14336) 0xFF800000#32 reduces_S1x80x16x14336_S1 (.inl rfl) rfl) (ix1 (0 : Fin 1))
      = Finset.fold max (Ideal.ofBits FTy.f32 4286578688#32) (fun x => y (ix3 (x 1) (x 2) (x 3))) (Finset.univ.filter fun i => reduces_S1x80x16x14336_S1.drop i = ix1 (0 : Fin 1)) := by
  pointwise []

theorem pay3_at' : k0_pay3 x0 (ix3 0 0 0) = tsOf (Finset.fold max (Ideal.ofBits FTy.f32 4286578688#32) (fun x => FloatOps.absf (F := Ideal) (φ := .f32) (k0_pay2 x0 (ix3 (x 1) (x 2) (x 3)))) (Finset.univ.filter fun i => reduces_S1x80x16x14336_S1.drop i = ix1 (0 : Fin 1))) := by
  unfold k0_pay3 tsOf
  generalize k0_pay2 x0 = y
  pointwise []

theorem drop_all (i : S1x80x16x14336.Idx) : reduces_S1x80x16x14336_S1.drop i = ix1 (0 : Fin 1) := by
  funext a; fin_cases a; exact Subsingleton.elim (α := Fin 1) _ _

theorem pay3_at : k0_pay3 x0 (ix3 0 0 0) = ts (blk x0) := by
  rw [pay3_at', pay2_eq]
  unfold ts
  refine congrArg tsOf (eq_of_forall_ge_iff fun z => ?_)
  rw [tmax_le, Finset.fold_max_le, c_bot]
  constructor
  · rintro ⟨-, h⟩ n i d
    exact h (ix4 (0 : Fin 1) n i d) (Finset.mem_filter.2 ⟨Finset.mem_univ _, drop_all _⟩)
  · intro h
    exact ⟨bot_le, fun x _ => h (x 1) (x 2) (x 3)⟩

/-- The four results of the reference's quantiser, element by element: the block maxima, -/
theorem out2_at (n : Fin 80) (d : Fin 14336) : out0_2 x0 x1 (ix3 n (0 : Fin 1) d) = bmax (blk x0) n d := by
  unfold out0_2
  rw [View.canon_unit_zero (by funext a; fin_cases a <;> rfl), View.ld_unit_zero (by funext a; fin_cases a <;> rfl)]
  exact pay4_at x0 n d
/-- the scales, -/
theorem out4_at (n : Fin 80) (d : Fin 14336) : out0_4 x0 x1 (ix3 n (0 : Fin 1) d) = sb (blk x0) n d := by
  unfold out0_4
  rw [View.canon_unit_zero (by funext a; fin_cases a <;> rfl), View.ld_unit_zero (by funext a; fin_cases a <;> rfl), pay5_at, pay4_at, pay3_at]
  rfl
/-- the tensor scale, -/
theorem out5_at : out0_5 x0 x1 (ix3 (0 : Fin 1) (0 : Fin 1) (0 : Fin 1)) = ts (blk x0) := by
  unfold out0_5
  rw [View.canon_unit_zero (by funext a; fin_cases a <;> rfl), View.ld_unit_zero (by funext a; fin_cases a <;> rfl)]
  exact pay3_at x0

theorem pay9_at (v29 : IVec S80x1x14336 1) (v35 : FVec Ideal S80x16x14336 .f32) (n : Fin 80) (i : Fin 16) (d : Fin 14336) : k0_pay9 v29 v35 (ix3 n i d)
    = min (Ideal.ofBits .f32 1086324736#32) (max (Ideal.ofBits .f32 3233808384#32) (Scalar.select (v29 (ix3 n 0 d)) (v35 (ix3 n i d)) 0)) := by
  pointwise [k0_pay9]
theorem pay10_at (v29 : IVec S80x1x14336 1) (v35 v59 : FVec Ideal S80x16x14336 .f32) (n : Fin 80) (i : Fin 16) (d : Fin 14336) : k0_pay10 v29 v35 v59 (ix3 n i d)
    = qS (k0_pay9 v29 v35 (ix3 n i d)) (v59 (ix3 n i d)) := by
  unfold k0_pay10 qS stepS
  generalize k0_pay9 v29 v35 = y
  pointwise []
/-- the code. -/
theorem pay1_at (v29 : IVec S80x1x14336 1) (v35 v59 : FVec Ideal S80x16x14336 .f32) (n : Fin 80) (i : Fin 16) (d : Fin 14336) :
    k0_pay1 (k0_pay9 v29 v35) (k0_pay10 v29 v35 v59) (k0_pay11 v29 v35 v59) (k0_pay12 v29 v35 v59) (k0_pay13 v29 v35 v59) (k0_pay14 v29 v35 v59) (Scalar.ofBits .f32 0x3F000000#32) (ix3 n i d)
    = codeS (k0_pay9 v29 v35 (ix3 n i d)) (k0_pay10 v29 v35 v59 (ix3 n i d)) := by
  unfold k0_pay11 k0_pay12 k0_pay13 k0_pay14 codeS iS
  generalize k0_pay9 v29 v35 = y
  generalize k0_pay10 v29 v35 v59 = q
  pointwise [k0_pay1]

/-- and the codes, the noise a byte. -/
theorem out3_at (n : Fin 80) (i : Fin 16) (d : Fin 14336) (r : ℕ) (hr : x1 (ix3 n i d) = ((r : ℝ) : EReal)) : out0_3 x0 x1 (ix3 n i d) = code (blk x0) r n i d := by
  unfold out0_3 k0_pay15 k0_pay16
  rw [View.canon_unit_zero (by funext a; fin_cases a <;> rfl), View.ld_unit_zero (by funext a; fin_cases a <;> rfl), View.ld_unit_zero (by funext a; fin_cases a <;> rfl)]
  rw [pay1_at, pay10_at, pay9_at, hr, pay7_at, pay8_at, pay6_at, pay5_at, pay4_at, pay3_at, pay2_eq]
  have e : ∀ (p : Prop) [Decidable p] (u v : EReal), Scalar.select (BitVec.ofBool (decide p)) u v = if p then u else v := by
    intro p _ u v; by_cases h : p <;> simp [h, Scalar.select]
  rw [e]
  rfl

end Cert.ReferenceIdeal.Hand

end
-- ==== Proof.Values.RefRun.lean ====
/-
  Hand-written, untrusted. The reference's run: its four results in closed form.
-/
module
public import proofs.«01_k».proof.Proof.Values.RefValue
public import Idealize.ShloMosaic.Lib.StableHlo.ReadAt
public import Idealize.ShloMosaic.Lib.Pipeline.ValueKit
public import Idealize.ShloMosaic.Lib.Pointwise
public import Idealize.ShloMosaic.Lib.IdealHost
@[expose] public section
noncomputable section
namespace Cert.ReferenceIdeal.Hand
open Cert.ReferenceIdeal Cert.ReferenceIdeal.Gen
open Cert.Scalar Cert.Spec
open Idealize.ShloMosaic Idealize.ShloMosaic.TcCoe Idealize.ShloMosaic.Tactic
set_option maxRecDepth 16384
variable (m : (ℓ : Loc nD τ sig) → Buf (Elt Ideal) ℓ) (c : Dev nD)
/-- The arguments by row and column. -/
def aX : Fin 1280 → Fin 14336 → EReal := fun k d => m (c, Proc.tc.devRef main_arg0) (ix3 (0 : Fin 1) k d)
/-- The reference's signs, -/
def aS : Fin 16 → EReal := fun j => m (c, Proc.tc.devRef main_arg1) (ix1 j)
/-- and its noise bytes. -/
def aU : Fin 14336 → Fin 1280 → BitVec 8 := fun d k => m (c, Proc.tc.devRef main_arg2) (ix3 (0 : Fin 1) d k)

/-- The transformed array. -/
theorem v39_at (n : Fin 80) (i : Fin 16) (d : Fin 14336) : V m c main_v39 (ix3 n i d) = (trn (aX m c) (aS m c) n i d : EReal) := by
  unfold V
  after_reads_at
  rfl
/-- The noise. -/
theorem v43_at (n : Fin 80) (i : Fin 16) (d : Fin 14336) : V m c main_v43 (ix3 n i d) = ((((aU m c d (row n i)).toNat : ℕ) : ℝ) : EReal) := by
  unfold V
  after_reads_at
  show (((BitVec.setWidth 32 (aU m c d (row n i))).toInt : ℝ) : EReal) = _
  generalize aU m c d (row n i) = u
  have : (BitVec.setWidth 32 u).toInt = (u.toNat : ℤ) := by
    rw [BitVec.toInt_eq_toNat_of_lt] <;> simp <;> omega
  rw [this]; simp

theorem emb0 (t : Fin cfg0.N) (y : S80x16x14336.Idx) : (win0_0.blk t).view.emb y = y := by
  have h := (by decide +kernel : ∀ t : Fin grid0.N, ∀ a, win0_0.index t a = 0) t
  funext a; apply Fin.ext
  fin_cases a <;> blk_simp [Pipeline.Window.cell_apply] <;> rw [h] <;> simp
theorem emb1 (t : Fin cfg0.N) (y : S80x16x14336.Idx) : (win0_1.blk t).view.emb y = y := by
  have h := (by decide +kernel : ∀ t : Fin grid0.N, ∀ a, win0_1.index t a = 0) t
  funext a; apply Fin.ext
  fin_cases a <;> blk_simp [Pipeline.Window.cell_apply] <;> rw [h] <;> simp
theorem emb2 (t : Fin cfg0.N) (y : S80x1x14336.Idx) : (win0_2.blk t).view.emb y = y := by
  have h := (by decide +kernel : ∀ t : Fin grid0.N, ∀ a, win0_2.index t a = 0) t
  funext a; apply Fin.ext
  fin_cases a <;> blk_simp [Pipeline.Window.cell_apply] <;> rw [h] <;> simp
theorem emb3 (t : Fin cfg0.N) (y : S80x16x14336.Idx) : (win0_3.blk t).view.emb y = y := by
  have h := (by decide +kernel : ∀ t : Fin grid0.N, ∀ a, win0_3.index t a = 0) t
  funext a; apply Fin.ext
  fin_cases a <;> blk_simp [Pipeline.Window.cell_apply] <;> rw [h] <;> simp
theorem emb4 (t : Fin cfg0.N) (y : S80x1x14336.Idx) : (win0_4.blk t).view.emb y = y := by
  have h := (by decide +kernel : ∀ t : Fin grid0.N, ∀ a, win0_4.index t a = 0) t
  funext a; apply Fin.ext
  fin_cases a <;> blk_simp [Pipeline.Window.cell_apply] <;> rw [h] <;> simp
theorem emb5 (t : Fin cfg0.N) (y : S1x1x1.Idx) : (win0_5.blk t).view.emb y = y := by
  have h := (by decide +kernel : ∀ t : Fin grid0.N, ∀ a, win0_5.index t a = 0) t
  funext a; apply Fin.ext
  fin_cases a <;> blk_simp [Pipeline.Window.cell_apply] <;> rw [h] <;> simp

/-- The transformed blocks of the reference's arguments. -/
abbrev wR : Blocks := trn (aX m c) (aS m c)
/-- The product on the host is the transformed blocks; -/
theorem blk_eq (t : Fin cfg0.N) : blk (iblk m c 0 t) = wR m c := by
  funext n i d
  unfold blk iblk
  blk_simp
  rw [emb0]
  exact v39_at m c n i d
/-- the noise is transposed. -/
theorem noise_eq (t : Fin cfg0.N) (n : Fin 80) (i : Fin 16) (d : Fin 14336) : iblk m c 1 t (ix3 n i d) = ((((aU m c d (row n i)).toNat : ℕ) : ℝ) : EReal) := by
  unfold iblk
  blk_simp
  rw [emb1]
  exact v43_at m c n i d

theorem arr2 (n : Fin 80) (d : Fin 14336) : (dats m 0 c).arrAt 2 cfg0.N (ix3 n (0 : Fin 1) d) = (bmax (wR m c) n d : EReal) := by
  have h := (dats m 0 c).arrAt_eq_of_covers 2 (fun j => (bmax (wR m c) (j 0) (j 2) : EReal)) (by decide +kernel) fun t hf y => ?_
  · rw [h]; rfl
  blk_simp
  rw [after0_2, emb2, ← blk_eq m c t]
  obtain ⟨n, i, d, rfl⟩ : ∃ n i d, y = ix3 n i d := ⟨y 0, y 1, y 2, by funext a; fin_cases a <;> rfl⟩
  obtain rfl : i = (0 : Fin 1) := Subsingleton.elim (α := Fin 1) _ _
  exact out2_at _ _ n d
theorem arr3 (n : Fin 80) (i : Fin 16) (d : Fin 14336) : (dats m 0 c).arrAt 3 cfg0.N (ix3 n i d) = code (wR m c) (aU m c d (row n i)).toNat n i d := by
  have h := (dats m 0 c).arrAt_eq_of_covers 3 (fun j => code (wR m c) (aU m c (j 2) (row (j 0) (j 1))).toNat (j 0) (j 1) (j 2)) (by decide +kernel) fun t hf y => ?_
  · rw [h]; rfl
  blk_simp
  rw [after0_3, emb3, ← blk_eq m c t]
  obtain ⟨n, i, d, rfl⟩ : ∃ n i d, y = ix3 n i d := ⟨y 0, y 1, y 2, by funext a; fin_cases a <;> rfl⟩
  exact out3_at _ _ n i d _ (noise_eq m c t n i d)
theorem arr4 (n : Fin 80) (d : Fin 14336) : (dats m 0 c).arrAt 4 cfg0.N (ix3 n (0 : Fin 1) d) = (sb (wR m c) n d : EReal) := by
  have h := (dats m 0 c).arrAt_eq_of_covers 4 (fun j => (sb (wR m c) (j 0) (j 2) : EReal)) (by decide +kernel) fun t hf y => ?_
  · rw [h]; rfl
  blk_simp
  rw [after0_4, emb4, ← blk_eq m c t]
  obtain ⟨n, i, d, rfl⟩ : ∃ n i d, y = ix3 n i d := ⟨y 0, y 1, y 2, by funext a; fin_cases a <;> rfl⟩
  obtain rfl : i = (0 : Fin 1) := Subsingleton.elim (α := Fin 1) _ _
  exact out4_at _ _ n d
theorem arr5 : (dats m 0 c).arrAt 5 cfg0.N (ix3 (0 : Fin 1) (0 : Fin 1) (0 : Fin 1)) = (ts (wR m c) : EReal) := by
  have h := (dats m 0 c).arrAt_eq_of_covers 5 (fun _ => (ts (wR m c) : EReal)) (by decide +kernel) fun t hf y => ?_
  · rw [h]
  blk_simp
  rw [after0_5, ← blk_eq m c t]
  obtain ⟨n, i, d, rfl⟩ : ∃ n i d, y = ix3 n i d := ⟨y 0, y 1, y 2, by funext a; fin_cases a <;> rfl⟩
  obtain rfl : i = (0 : Fin 1) := Subsingleton.elim (α := Fin 1) _ _
  obtain rfl : n = (0 : Fin 1) := Subsingleton.elim (α := Fin 1) _ _
  obtain rfl : d = (0 : Fin 1) := Subsingleton.elim (α := Fin 1) _ _
  exact out5_at _ _

/-- The reference's host lines after its call, at an index. -/
abbrev aft (b : Ref sig .tc) := Pipeline.afterTail₀ cfgs (dats m) 0 (V0 m) [hostOps1] c b
/-- The reference's block maxima; -/
theorem v59_at (d : Fin 14336) (n : Fin 80) : aft m c main_v59 (ix3 (0 : Fin 1) d n) = (bmax (wR m c) n d : EReal) := by
  rw [← arr2]
  unfold aft Pipeline.afterTail₀
  simp only [List.flatten_cons, List.flatten_nil, List.append_nil]
  after_reads_at
  exact congrFun (Pipeline.withArrays_arr spec0 launch0.win.arr_inj c _ _ 2) _
/-- its block scales; -/
theorem v57_at (d : Fin 14336) (n : Fin 80) : aft m c main_v57 (ix3 (0 : Fin 1) d n) = (sb (wR m c) n d : EReal) := by
  rw [← arr4]
  unfold aft Pipeline.afterTail₀
  simp only [List.flatten_cons, List.flatten_nil, List.append_nil]
  after_reads_at
  exact congrFun (Pipeline.withArrays_arr spec0 launch0.win.arr_inj c _ _ 4) _
/-- its tensor scale; -/
theorem v60_at : aft m c main_v60 = (fun _ => (ts (wR m c) : EReal)) := by
  rw [← arr5]
  funext j
  unfold aft Pipeline.afterTail₀
  simp only [List.flatten_cons, List.flatten_nil, List.append_nil]
  after_reads_at
  exact congrFun (Pipeline.withArrays_arr spec0 launch0.win.arr_inj c _ _ 5) _
theorem byte_of {a b a' b' : BitVec 32} (h : a = a') (h' : b = b') : BitVec.setWidth 8 (IntOp.ori a (IntOp.shli ArithUnit.host b 4#32)) = BitVec.setWidth 8 (a' ||| b' <<< 4) := by
  subst h h'; rfl
/-- its packed codes. -/
theorem v55_at (d : Fin 14336) (n : Fin 80) (q : Fin 8) : aft m c main_v55 (ix3 (0 : Fin 1) d (⟨n.val * 8 + q.val, by omega⟩ : Fin 640)) = byte (wR m c) (aU m c) d n q := by
  unfold byte
  simp only [← arr3]
  unfold aft Pipeline.afterTail₀
  simp only [List.flatten_cons, List.flatten_nil, List.append_nil]
  after_reads_at
  have e0 : (⟨(n.val * 8 + q.val) / 8, by omega⟩ : Fin 80) = n := Fin.ext (by show (n.val * 8 + q.val) / 8 = n.val; omega)
  have e1 : (⟨(n.val * 8 + q.val) % 8 * 2, by omega⟩ : Fin 16) = ⟨2 * q.val, by omega⟩ := Fin.ext (by show (n.val * 8 + q.val) % 8 * 2 = 2 * q.val; omega)
  have e2 : (⟨(n.val * 8 + q.val) % 8 * 2 + 1, by omega⟩ : Fin 16) = ⟨2 * q.val + 1, by omega⟩ := Fin.ext (by show (n.val * 8 + q.val) % 8 * 2 + 1 = 2 * q.val + 1; omega)
  exact byte_of ((congrFun (Pipeline.withArrays_arr spec0 launch0.win.arr_inj c _ _ 3) _).trans (congrArg ((dats m 0 c).arrAt 3 cfg0.N) (congrArg₂ (fun (a : Fin 80) (b : Fin 16) => ix3 a b d) e0 e1)))
    ((congrFun (Pipeline.withArrays_arr spec0 launch0.win.arr_inj c _ _ 3) _).trans (congrArg ((dats m 0 c).arrAt 3 cfg0.N) (congrArg₂ (fun (a : Fin 80) (b : Fin 16) => ix3 a b d) e0 e2)))

/-- The reference's run: its four results in closed form, its arguments unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v59) = aft m c main_v59 ∧ r.2.mem ((c.tc : Thread nD τ).loc main_v55) = aft m c main_v55
      ∧ r.2.mem ((c.tc : Thread nD τ).loc main_v57) = aft m c main_v57 ∧ r.2.mem ((c.tc : Thread nD τ).loc main_v60) = aft m c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (unchanged m ρ))
  exact ⟨(h.1 c).2 _ (by decide), (h.1 c).2 _ (by decide), (h.1 c).2 _ (by decide), (h.1 c).2 _ (by decide), h.2 c⟩

end Cert.ReferenceIdeal.Hand

end
-- ==== Proof.Values.Agree.lean ====
/-
  Hand-written, untrusted. The kernel and the reference side by side: from equal arguments, equal results.
-/
module

public import proofs.«01_k».proof.Proof.Values.Host
public import proofs.«01_k».proof.Proof.Values.RefRun

@[expose] public section

noncomputable section

namespace Cert.Agree

open Idealize.ShloMosaic Idealize.ShloMosaic.TcCoe Cert.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev 1)

/-- An index of three axes by its places. -/
theorem ix3e {a b d : ℕ} (y : (⟨3, ![a, b, d]⟩ : Shape).Idx) : ∃ (i : Fin a) (j : Fin b) (k : Fin d), y = ix3 i j k :=
  ⟨y 0, y 1, y 2, by funext x; fin_cases x <;> rfl⟩

/-- The two programs' arguments agree. -/
structure Args : Prop where
  x : Cert.ReferenceIdeal.Hand.aX m' c = Cert.KernelIdeal.Hand.aX m c
  s : Cert.ReferenceIdeal.Hand.aS m' c = Cert.KernelIdeal.Hand.aS m c
  u : Cert.ReferenceIdeal.Hand.aU m' c = Cert.KernelIdeal.Hand.aU m c

variable {m m' c} (h : Args m m' c)
include h
/-- From equal arguments, equal transformed blocks. -/
theorem blocks : Cert.ReferenceIdeal.Hand.wR m' c = Cert.KernelIdeal.Hand.wA m c := by
  unfold Cert.ReferenceIdeal.Hand.wR Cert.KernelIdeal.Hand.wA; rw [h.x, h.s]
/-- The block maxima agree; -/
theorem maxima : (Cert.KernelIdeal.Hand.aft m c Cert.KernelIdeal.main_v4 : Cert.KernelIdeal.S1x14336x80.Idx → EReal) = Cert.ReferenceIdeal.Hand.aft m' c Cert.ReferenceIdeal.main_v59 := by
  funext y
  obtain ⟨a, d, n, rfl⟩ := ix3e y
  obtain rfl : a = (0 : Fin 1) := Subsingleton.elim (α := Fin 1) _ _
  refine (Cert.KernelIdeal.Hand.v4_at m c d n).trans ?_
  rw [← blocks h]
  exact (Cert.ReferenceIdeal.Hand.v59_at m' c d n).symm
/-- the codes; -/
theorem codes : (Cert.KernelIdeal.Hand.aft m c Cert.KernelIdeal.main_v5 : Cert.KernelIdeal.S1x14336x640.Idx → BitVec 8) = Cert.ReferenceIdeal.Hand.aft m' c Cert.ReferenceIdeal.main_v55 := by
  funext y
  obtain ⟨a, d, T, rfl⟩ := ix3e y
  obtain rfl : a = (0 : Fin 1) := Subsingleton.elim (α := Fin 1) _ _
  obtain ⟨n, q, e⟩ : ∃ (n : Fin 80) (q : Fin 8), ∃ hh, T = (⟨n.val * 8 + q.val, hh⟩ : Fin 640) :=
    ⟨⟨T.val / 8, by omega⟩, ⟨T.val % 8, by omega⟩, by show T.val / 8 * 8 + T.val % 8 < 640; omega, Fin.ext (by show T.val = T.val / 8 * 8 + T.val % 8; omega)⟩
  obtain ⟨hh, e⟩ := e
  rw [e]
  refine (Cert.KernelIdeal.Hand.v5_at m c d n q).trans ?_
  rw [← blocks h, ← h.u]
  exact (Cert.ReferenceIdeal.Hand.v55_at m' c d n q).symm
/-- the scales; -/
theorem scales : (Cert.KernelIdeal.Hand.aft m c Cert.KernelIdeal.main_v7 : Cert.KernelIdeal.S1x14336x80.Idx → EReal) = Cert.ReferenceIdeal.Hand.aft m' c Cert.ReferenceIdeal.main_v57 := by
  funext y
  obtain ⟨a, d, n, rfl⟩ := ix3e y
  obtain rfl : a = (0 : Fin 1) := Subsingleton.elim (α := Fin 1) _ _
  refine (Cert.KernelIdeal.Hand.v7_at m c d n).trans ?_
  rw [← blocks h]
  exact (Cert.ReferenceIdeal.Hand.v57_at m' c d n).symm
/-- the tensor scale. -/
theorem scale : (Cert.KernelIdeal.Hand.aft m c Cert.KernelIdeal.main_v8 : Cert.KernelIdeal.S_.Idx → EReal) = Cert.ReferenceIdeal.Hand.aft m' c Cert.ReferenceIdeal.main_v60 := by
  refine (Cert.KernelIdeal.Hand.v8_at m c).trans ?_
  rw [← blocks h]
  exact (Cert.ReferenceIdeal.Hand.v60_at m' c).symm

end Cert.Agree

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Run
public import proofs.«01_k».proof.Proof.KernelIdeal.Run
public import proofs.«01_k».proof.Proof.Values.Agree
public import Idealize.ShloMosaic.Adequacy
public import Idealize.ShloMosaic.Init

@[expose] public section

noncomputable section

namespace Cert.Proof

open Idealize.ShloMosaic Idealize.SL.Sem

/-- The kernel runs, its arguments unchanged, its counters at zero, on floats as bits, -/
theorem kernel_frame : Cert.quiescent_Kernel (hKernel := Cert.Kernel.Gen.facts) := fun m g _ => Cert.Kernel.Hand.frame m g
/-- and over the extended reals; -/
theorem kernelIdeal_frame : Cert.quiescent_KernelIdeal (hKernelIdeal := Cert.KernelIdeal.Gen.facts) := fun m g _ => Cert.KernelIdeal.Hand.frame m g
/-- the reference likewise. -/
theorem referenceIdeal_frame : Cert.quiescent_ReferenceIdeal (hReferenceIdeal := Cert.ReferenceIdeal.Gen.facts) := fun m g _ => Cert.ReferenceIdeal.Gen.frame m g

/-- Over the extended reals, from equal arguments the kernel and the reference end with equal block maxima, packed codes, block scales
    and tensor scale. -/
theorem agree : Cert.algebraic_KernelIdeal_ReferenceIdeal (hKernelIdeal := Cert.KernelIdeal.Gen.facts) (hReferenceIdeal := Cert.ReferenceIdeal.Gen.facts) := by
  intro m g m' g' _ ha
  have h : ∀ c, Cert.Agree.Args m m' c := fun c => by
    obtain ⟨h0, h1, h2⟩ := ha c
    refine ⟨?_, ?_, ?_⟩
    · funext r d; exact congrFun h0 (ix3 (0 : Fin 1) r d)
    · funext j; exact congrFun h1 (ix1 j)
    · funext d k; exact congrFun h2 (ix3 (0 : Fin 1) d k)
  refine ⟨fun c => Cert.KernelIdeal.Hand.aft m c Cert.KernelIdeal.main_v4, fun c => Cert.KernelIdeal.Hand.aft m c Cert.KernelIdeal.main_v5,
    fun c => Cert.KernelIdeal.Hand.aft m c Cert.KernelIdeal.main_v7, fun c => Cert.KernelIdeal.Hand.aft m c Cert.KernelIdeal.main_v8, Cert.KernelIdeal.Hand.run m g, ?_⟩
  refine (θ_run _ _ _).mono (fun r hr c => ?_) (Cert.ReferenceIdeal.Hand.run m' g')
  obtain ⟨e0, e1, e2, e3, k⟩ := hr c
  exact ⟨e0.trans (Cert.Agree.maxima (h c)).symm, e1.trans (Cert.Agree.codes (h c)).symm, e2.trans (Cert.Agree.scales (h c)).symm, e3.trans (Cert.Agree.scale (h c)).symm, k⟩

theorem claim : Cert.Claim :=
  ⟨Cert.Kernel.Gen.facts, Cert.KernelIdeal.Gen.facts, Cert.ReferenceIdeal.Gen.facts, kernel_frame, kernelIdeal_frame, referenceIdeal_frame, trivial, agree⟩

end Cert.Proof

end
